-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x4096 : Shape := ⟨2, ![8192, 4096]⟩
abbrev S8192x128 : Shape := ⟨2, ![8192, 128]⟩
abbrev S2x8192x512 : Shape := ⟨3, ![2, 8192, 512]⟩
abbrev S32x256x128 : Shape := ⟨3, ![32, 256, 128]⟩
abbrev S2 : Shape := ⟨1, ![2]⟩
abbrev S32 : Shape := ⟨1, ![32]⟩
abbrev S_ : Shape := ⟨0, ![]⟩
abbrev S1 : Shape := ⟨1, ![1]⟩
abbrev S1x8192x512 : Shape := ⟨3, ![1, 8192, 512]⟩
abbrev S8192x512 : Shape := ⟨2, ![8192, 512]⟩
abbrev S256x512 : Shape := ⟨2, ![256, 512]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S8192x128, .f32⟩
  | .local _ .vmem, ⟨0, _⟩ => ⟨S256x8192, .f32⟩
  | .local _ .vmem, ⟨1, _⟩ => ⟨S8192x128, .f32⟩
  | .local _ .vmem, ⟨2, _⟩ => ⟨S2x8192x512, .f32⟩
  | .local _ .vmem, ⟨3, _⟩ => ⟨S256x8192, .bf16⟩
  | .local _ .vmem, ⟨4, _⟩ => ⟨S32x256x128, .bf16⟩
  | .local _ .vmem, ⟨5, _⟩ => ⟨S32x256x128, .bf16⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_5 : BitVec 32 := 0#32
  let v21 : BitVec 1 := Scalar.cmpi .ne v2 c0_i32_5
  let v22 : BitVec 32 := Scalar.extui v21
  let c0_i32_6 : BitVec 32 := 0#32
  let v23 : BitVec 1 := Scalar.cmpi .ne v22 c0_i32_6
  v23

def k0_dev1 : Nat :=
  let c0_i32_1183 : BitVec 32 := 0#32
  let c0_i32_1181 : BitVec 32 := 0#32
  let c1_i32_1182 : BitVec 32 := 1#32
  let v1515 : BitVec 32 := Scalar.muli c0_i32_1181 c1_i32_1182
  let v1516 : BitVec 32 := Scalar.addi c0_i32_1183 v1515
  v1516.toNat
def k0_cond2 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v24 : BitVec 1 := Scalar.cmpi .ne v2 c1_i32_7
  let v25 : BitVec 32 := Scalar.extui v24
  let c0_i32_8 : BitVec 32 := 0#32
  let v26 : BitVec 1 := Scalar.cmpi .ne v25 c0_i32_8
  v26

def k0_dev2 : Nat :=
  let c0_i32_1183 : BitVec 32 := 0#32
  let c1_i32_1181 : BitVec 32 := 1#32
  let c1_i32_1182 : BitVec 32 := 1#32
  let v1515 : BitVec 32 := Scalar.muli c1_i32_1181 c1_i32_1182
  let v1516 : BitVec 32 := Scalar.addi c0_i32_1183 v1515
  v1516.toNat
def k0_cond3 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v27 : BitVec 1 := Scalar.cmpi .ne v2 c2_i32
  let v28 : BitVec 32 := Scalar.extui v27
  let c0_i32_9 : BitVec 32 := 0#32
  let v29 : BitVec 1 := Scalar.cmpi .ne v28 c0_i32_9
  v29

def k0_dev3 : Nat :=
  let c0_i32_1183 : BitVec 32 := 0#32
  let c2_i32_1181 : BitVec 32 := 2#32
  let c1_i32_1182 : BitVec 32 := 1#32
  let v1515 : BitVec 32 := Scalar.muli c2_i32_1181 c1_i32_1182
  let v1516 : BitVec 32 := Scalar.addi c0_i32_1183 v1515
  v1516.toNat
def k0_cond4 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 1 := Scalar.cmpi .ne v2 c3_i32
  let v31 : BitVec 32 := Scalar.extui v30
  let c0_i32_10 : BitVec 32 := 0#32
  let v32 : BitVec 1 := Scalar.cmpi .ne v31 c0_i32_10
  v32

def k0_dev4 : Nat :=
  let c0_i32_1183 : BitVec 32 := 0#32
  let c3_i32_1181 : BitVec 32 := 3#32
  let c1_i32_1182 : BitVec 32 := 1#32
  let v1515 : BitVec 32 := Scalar.muli c3_i32_1181 c1_i32_1182
  let v1516 : BitVec 32 := Scalar.addi c0_i32_1183 v1515
  v1516.toNat
def k0_cond5 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_11 : BitVec 32 := 4#32
  let v33 : BitVec 1 := Scalar.cmpi .ne v2 c4_i32_11
  let v34 : BitVec 32 := Scalar.extui v33
  let c0_i32_12 : BitVec 32 := 0#32
  let v35 : BitVec 1 := Scalar.cmpi .ne v34 c0_i32_12
  v35

def k0_dev5 : Nat :=
  let c0_i32_1183 : BitVec 32 := 0#32
  let c4_i32_1181 : BitVec 32 := 4#32
  let c1_i32_1182 : BitVec 32 := 1#32
  let v1515 : BitVec 32 := Scalar.muli c4_i32_1181 c1_i32_1182
  let v1516 : BitVec 32 := Scalar.addi c0_i32_1183 v1515
  v1516.toNat
def k0_cond6 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v36 : BitVec 1 := Scalar.cmpi .ne v2 c5_i32
  let v37 : BitVec 32 := Scalar.extui v36
  let c0_i32_13 : BitVec 32 := 0#32
  let v38 : BitVec 1 := Scalar.cmpi .ne v37 c0_i32_13
  v38

def k0_dev6 : Nat :=
  let c0_i32_1183 : BitVec 32 := 0#32
  let c5_i32_1181 : BitVec 32 := 5#32
  let c1_i32_1182 : BitVec 32 := 1#32
  let v1515 : BitVec 32 := Scalar.muli c5_i32_1181 c1_i32_1182
  let v1516 : BitVec 32 := Scalar.addi c0_i32_1183 v1515
  v1516.toNat
def k0_cond7 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v39 : BitVec 1 := Scalar.cmpi .ne v2 c6_i32
  let v40 : BitVec 32 := Scalar.extui v39
  let c0_i32_14 : BitVec 32 := 0#32
  let v41 : BitVec 1 := Scalar.cmpi .ne v40 c0_i32_14
  v41

def k0_dev7 : Nat :=
  let c0_i32_1183 : BitVec 32 := 0#32
  let c6_i32_1181 : BitVec 32 := 6#32
  let c1_i32_1182 : BitVec 32 := 1#32
  let v1515 : BitVec 32 := Scalar.muli c6_i32_1181 c1_i32_1182
  let v1516 : BitVec 32 := Scalar.addi c0_i32_1183 v1515
  v1516.toNat
def k0_cond8 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v42 : BitVec 1 := Scalar.cmpi .ne v2 c7_i32
  let v43 : BitVec 32 := Scalar.extui v42
  let c0_i32_15 : BitVec 32 := 0#32
  let v44 : BitVec 1 := Scalar.cmpi .ne v43 c0_i32_15
  v44

def k0_dev8 : Nat :=
  let c0_i32_1183 : BitVec 32 := 0#32
  let c7_i32_1181 : BitVec 32 := 7#32
  let c1_i32_1182 : BitVec 32 := 1#32
  let v1515 : BitVec 32 := Scalar.muli c7_i32_1181 c1_i32_1182
  let v1516 : BitVec 32 := Scalar.addi c0_i32_1183 v1515
  v1516.toNat
def k0_cond9 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v45 : BitVec 1 := Scalar.cmpi .ne v2 c8_i32
  let v46 : BitVec 32 := Scalar.extui v45
  let c0_i32_16 : BitVec 32 := 0#32
  let v47 : BitVec 1 := Scalar.cmpi .ne v46 c0_i32_16
  v47

def k0_dev9 : Nat :=
  let c0_i32_1183 : BitVec 32 := 0#32
  let c8_i32_1181 : BitVec 32 := 8#32
  let c1_i32_1182 : BitVec 32 := 1#32
  let v1515 : BitVec 32 := Scalar.muli c8_i32_1181 c1_i32_1182
  let v1516 : BitVec 32 := Scalar.addi c0_i32_1183 v1515
  v1516.toNat
def k0_cond10 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v48 : BitVec 1 := Scalar.cmpi .ne v2 c9_i32
  let v49 : BitVec 32 := Scalar.extui v48
  let c0_i32_17 : BitVec 32 := 0#32
  let v50 : BitVec 1 := Scalar.cmpi .ne v49 c0_i32_17
  v50

def k0_dev10 : Nat :=
  let c0_i32_1183 : BitVec 32 := 0#32
  let c9_i32_1181 : BitVec 32 := 9#32
  let c1_i32_1182 : BitVec 32 := 1#32
  let v1515 : BitVec 32 := Scalar.muli c9_i32_1181 c1_i32_1182
  let v1516 : BitVec 32 := Scalar.addi c0_i32_1183 v1515
  v1516.toNat
def k0_cond11 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v51 : BitVec 1 := Scalar.cmpi .ne v2 c10_i32
  let v52 : BitVec 32 := Scalar.extui v51
  let c0_i32_18 : BitVec 32 := 0#32
  let v53 : BitVec 1 := Scalar.cmpi .ne v52 c0_i32_18
  v53

def k0_dev11 : Nat :=
  let c0_i32_1183 : BitVec 32 := 0#32
  let c10_i32_1181 : BitVec 32 := 10#32
  let c1_i32_1182 : BitVec 32 := 1#32
  let v1515 : BitVec 32 := Scalar.muli c10_i32_1181 c1_i32_1182
  let v1516 : BitVec 32 := Scalar.addi c0_i32_1183 v1515
  v1516.toNat
def k0_cond12 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v54 : BitVec 1 := Scalar.cmpi .ne v2 c11_i32
  let v55 : BitVec 32 := Scalar.extui v54
  let c0_i32_19 : BitVec 32 := 0#32
  let v56 : BitVec 1 := Scalar.cmpi .ne v55 c0_i32_19
  v56

def k0_dev12 : Nat :=
  let c0_i32_1183 : BitVec 32 := 0#32
  let c11_i32_1181 : BitVec 32 := 11#32
  let c1_i32_1182 : BitVec 32 := 1#32
  let v1515 : BitVec 32 := Scalar.muli c11_i32_1181 c1_i32_1182
  let v1516 : BitVec 32 := Scalar.addi c0_i32_1183 v1515
  v1516.toNat
def k0_cond13 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v57 : BitVec 1 := Scalar.cmpi .ne v2 c12_i32
  let v58 : BitVec 32 := Scalar.extui v57
  let c0_i32_20 : BitVec 32 := 0#32
  let v59 : BitVec 1 := Scalar.cmpi .ne v58 c0_i32_20
  v59

def k0_dev13 : Nat :=
  let c0_i32_1183 : BitVec 32 := 0#32
  let c12_i32_1181 : BitVec 32 := 12#32
  let c1_i32_1182 : BitVec 32 := 1#32
  let v1515 : BitVec 32 := Scalar.muli c12_i32_1181 c1_i32_1182
  let v1516 : BitVec 32 := Scalar.addi c0_i32_1183 v1515
  v1516.toNat
def k0_cond14 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v60 : BitVec 1 := Scalar.cmpi .ne v2 c13_i32
  let v61 : BitVec 32 := Scalar.extui v60
  let c0_i32_21 : BitVec 32 := 0#32
  let v62 : BitVec 1 := Scalar.cmpi .ne v61 c0_i32_21
  v62

def k0_dev14 : Nat :=
  let c0_i32_1183 : BitVec 32 := 0#32
  let c13_i32_1181 : BitVec 32 := 13#32
  let c1_i32_1182 : BitVec 32 := 1#32
  let v1515 : BitVec 32 := Scalar.muli c13_i32_1181 c1_i32_1182
  let v1516 : BitVec 32 := Scalar.addi c0_i32_1183 v1515
  v1516.toNat
def k0_cond15 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v63 : BitVec 1 := Scalar.cmpi .ne v2 c14_i32
  let v64 : BitVec 32 := Scalar.extui v63
  let c0_i32_22 : BitVec 32 := 0#32
  let v65 : BitVec 1 := Scalar.cmpi .ne v64 c0_i32_22
  v65

def k0_dev15 : Nat :=
  let c0_i32_1183 : BitVec 32 := 0#32
  let c14_i32_1181 : BitVec 32 := 14#32
  let c1_i32_1182 : BitVec 32 := 1#32
  let v1515 : BitVec 32 := Scalar.muli c14_i32_1181 c1_i32_1182
  let v1516 : BitVec 32 := Scalar.addi c0_i32_1183 v1515
  v1516.toNat
def k0_cond16 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v66 : BitVec 1 := Scalar.cmpi .ne v2 c15_i32
  let v67 : BitVec 32 := Scalar.extui v66
  let c0_i32_23 : BitVec 32 := 0#32
  let v68 : BitVec 1 := Scalar.cmpi .ne v67 c0_i32_23
  v68

def k0_dev16 : Nat :=
  let c0_i32_1183 : BitVec 32 := 0#32
  let c15_i32_1181 : BitVec 32 := 15#32
  let c1_i32_1182 : BitVec 32 := 1#32
  let v1515 : BitVec 32 := Scalar.muli c15_i32_1181 c1_i32_1182
  let v1516 : BitVec 32 := Scalar.addi c0_i32_1183 v1515
  v1516.toNat
def k0_cond17 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v69 : BitVec 1 := Scalar.cmpi .ne v2 c16_i32
  let v70 : BitVec 32 := Scalar.extui v69
  let c0_i32_24 : BitVec 32 := 0#32
  let v71 : BitVec 1 := Scalar.cmpi .ne v70 c0_i32_24
  v71

def k0_dev17 : Nat :=
  let c0_i32_1183 : BitVec 32 := 0#32
  let c16_i32_1181 : BitVec 32 := 16#32
  let c1_i32_1182 : BitVec 32 := 1#32
  let v1515 : BitVec 32 := Scalar.muli c16_i32_1181 c1_i32_1182
  let v1516 : BitVec 32 := Scalar.addi c0_i32_1183 v1515
  v1516.toNat
def k0_cond18 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v72 : BitVec 1 := Scalar.cmpi .ne v2 c17_i32
  let v73 : BitVec 32 := Scalar.extui v72
  let c0_i32_25 : BitVec 32 := 0#32
  let v74 : BitVec 1 := Scalar.cmpi .ne v73 c0_i32_25
  v74

def k0_dev18 : Nat :=
  let c0_i32_1183 : BitVec 32 := 0#32
  let c17_i32_1181 : BitVec 32 := 17#32
  let c1_i32_1182 : BitVec 32 := 1#32
  let v1515 : BitVec 32 := Scalar.muli c17_i32_1181 c1_i32_1182
  let v1516 : BitVec 32 := Scalar.addi c0_i32_1183 v1515
  v1516.toNat
def k0_cond19 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v75 : BitVec 1 := Scalar.cmpi .ne v2 c18_i32
  let v76 : BitVec 32 := Scalar.extui v75
  let c0_i32_26 : BitVec 32 := 0#32
  let v77 : BitVec 1 := Scalar.cmpi .ne v76 c0_i32_26
  v77

def k0_dev19 : Nat :=
  let c0_i32_1183 : BitVec 32 := 0#32
  let c18_i32_1181 : BitVec 32 := 18#32
  let c1_i32_1182 : BitVec 32 := 1#32
  let v1515 : BitVec 32 := Scalar.muli c18_i32_1181 c1_i32_1182
  let v1516 : BitVec 32 := Scalar.addi c0_i32_1183 v1515
  v1516.toNat
def k0_cond20 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v78 : BitVec 1 := Scalar.cmpi .ne v2 c19_i32
  let v79 : BitVec 32 := Scalar.extui v78
  let c0_i32_27 : BitVec 32 := 0#32
  let v80 : BitVec 1 := Scalar.cmpi .ne v79 c0_i32_27
  v80

def k0_dev20 : Nat :=
  let c0_i32_1183 : BitVec 32 := 0#32
  let c19_i32_1181 : BitVec 32 := 19#32
  let c1_i32_1182 : BitVec 32 := 1#32
  let v1515 : BitVec 32 := Scalar.muli c19_i32_1181 c1_i32_1182
  let v1516 : BitVec 32 := Scalar.addi c0_i32_1183 v1515
  v1516.toNat
def k0_cond21 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v81 : BitVec 1 := Scalar.cmpi .ne v2 c20_i32
  let v82 : BitVec 32 := Scalar.extui v81
  let c0_i32_28 : BitVec 32 := 0#32
  let v83 : BitVec 1 := Scalar.cmpi .ne v82 c0_i32_28
  v83

def k0_dev21 : Nat :=
  let c0_i32_1183 : BitVec 32 := 0#32
  let c20_i32_1181 : BitVec 32 := 20#32
  let c1_i32_1182 : BitVec 32 := 1#32
  let v1515 : BitVec 32 := Scalar.muli c20_i32_1181 c1_i32_1182
  let v1516 : BitVec 32 := Scalar.addi c0_i32_1183 v1515
  v1516.toNat
def k0_cond22 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 1 := Scalar.cmpi .ne v2 c21_i32
  let v85 : BitVec 32 := Scalar.extui v84
  let c0_i32_29 : BitVec 32 := 0#32
  let v86 : BitVec 1 := Scalar.cmpi .ne v85 c0_i32_29
  v86

def k0_dev22 : Nat :=
  let c0_i32_1183 : BitVec 32 := 0#32
  let c21_i32_1181 : BitVec 32 := 21#32
  let c1_i32_1182 : BitVec 32 := 1#32
  let v1515 : BitVec 32 := Scalar.muli c21_i32_1181 c1_i32_1182
  let v1516 : BitVec 32 := Scalar.addi c0_i32_1183 v1515
  v1516.toNat
def k0_cond23 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v87 : BitVec 1 := Scalar.cmpi .ne v2 c22_i32
  let v88 : BitVec 32 := Scalar.extui v87
  let c0_i32_30 : BitVec 32 := 0#32
  let v89 : BitVec 1 := Scalar.cmpi .ne v88 c0_i32_30
  v89

def k0_dev23 : Nat :=
  let c0_i32_1183 : BitVec 32 := 0#32
  let c22_i32_1181 : BitVec 32 := 22#32
  let c1_i32_1182 : BitVec 32 := 1#32
  let v1515 : BitVec 32 := Scalar.muli c22_i32_1181 c1_i32_1182
  let v1516 : BitVec 32 := Scalar.addi c0_i32_1183 v1515
  v1516.toNat
def k0_cond24 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v90 : BitVec 1 := Scalar.cmpi .ne v2 c23_i32
  let v91 : BitVec 32 := Scalar.extui v90
  let c0_i32_31 : BitVec 32 := 0#32
  let v92 : BitVec 1 := Scalar.cmpi .ne v91 c0_i32_31
  v92

def k0_dev24 : Nat :=
  let c0_i32_1183 : BitVec 32 := 0#32
  let c23_i32_1181 : BitVec 32 := 23#32
  let c1_i32_1182 : BitVec 32 := 1#32
  let v1515 : BitVec 32 := Scalar.muli c23_i32_1181 c1_i32_1182
  let v1516 : BitVec 32 := Scalar.addi c0_i32_1183 v1515
  v1516.toNat
def k0_cond25 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v93 : BitVec 1 := Scalar.cmpi .ne v2 c24_i32
  let v94 : BitVec 32 := Scalar.extui v93
  let c0_i32_32 : BitVec 32 := 0#32
  let v95 : BitVec 1 := Scalar.cmpi .ne v94 c0_i32_32
  v95

def k0_dev25 : Nat :=
  let c0_i32_1183 : BitVec 32 := 0#32
  let c24_i32_1181 : BitVec 32 := 24#32
  let c1_i32_1182 : BitVec 32 := 1#32
  let v1515 : BitVec 32 := Scalar.muli c24_i32_1181 c1_i32_1182
  let v1516 : BitVec 32 := Scalar.addi c0_i32_1183 v1515
  v1516.toNat
def k0_cond26 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v96 : BitVec 1 := Scalar.cmpi .ne v2 c25_i32
  let v97 : BitVec 32 := Scalar.extui v96
  let c0_i32_33 : BitVec 32 := 0#32
  let v98 : BitVec 1 := Scalar.cmpi .ne v97 c0_i32_33
  v98

def k0_dev26 : Nat :=
  let c0_i32_1183 : BitVec 32 := 0#32
  let c25_i32_1181 : BitVec 32 := 25#32
  let c1_i32_1182 : BitVec 32 := 1#32
  let v1515 : BitVec 32 := Scalar.muli c25_i32_1181 c1_i32_1182
  let v1516 : BitVec 32 := Scalar.addi c0_i32_1183 v1515
  v1516.toNat
def k0_cond27 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v99 : BitVec 1 := Scalar.cmpi .ne v2 c26_i32
  let v100 : BitVec 32 := Scalar.extui v99
  let c0_i32_34 : BitVec 32 := 0#32
  let v101 : BitVec 1 := Scalar.cmpi .ne v100 c0_i32_34
  v101

def k0_dev27 : Nat :=
  let c0_i32_1183 : BitVec 32 := 0#32
  let c26_i32_1181 : BitVec 32 := 26#32
  let c1_i32_1182 : BitVec 32 := 1#32
  let v1515 : BitVec 32 := Scalar.muli c26_i32_1181 c1_i32_1182
  let v1516 : BitVec 32 := Scalar.addi c0_i32_1183 v1515
  v1516.toNat
def k0_cond28 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v102 : BitVec 1 := Scalar.cmpi .ne v2 c27_i32
  let v103 : BitVec 32 := Scalar.extui v102
  let c0_i32_35 : BitVec 32 := 0#32
  let v104 : BitVec 1 := Scalar.cmpi .ne v103 c0_i32_35
  v104

def k0_dev28 : Nat :=
  let c0_i32_1183 : BitVec 32 := 0#32
  let c27_i32_1181 : BitVec 32 := 27#32
  let c1_i32_1182 : BitVec 32 := 1#32
  let v1515 : BitVec 32 := Scalar.muli c27_i32_1181 c1_i32_1182
  let v1516 : BitVec 32 := Scalar.addi c0_i32_1183 v1515
  v1516.toNat
def k0_cond29 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v105 : BitVec 1 := Scalar.cmpi .ne v2 c28_i32
  let v106 : BitVec 32 := Scalar.extui v105
  let c0_i32_36 : BitVec 32 := 0#32
  let v107 : BitVec 1 := Scalar.cmpi .ne v106 c0_i32_36
  v107

def k0_dev29 : Nat :=
  let c0_i32_1183 : BitVec 32 := 0#32
  let c28_i32_1181 : BitVec 32 := 28#32
  let c1_i32_1182 : BitVec 32 := 1#32
  let v1515 : BitVec 32 := Scalar.muli c28_i32_1181 c1_i32_1182
  let v1516 : BitVec 32 := Scalar.addi c0_i32_1183 v1515
  v1516.toNat
def k0_cond30 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v108 : BitVec 1 := Scalar.cmpi .ne v2 c29_i32
  let v109 : BitVec 32 := Scalar.extui v108
  let c0_i32_37 : BitVec 32 := 0#32
  let v110 : BitVec 1 := Scalar.cmpi .ne v109 c0_i32_37
  v110

def k0_dev30 : Nat :=
  let c0_i32_1183 : BitVec 32 := 0#32
  let c29_i32_1181 : BitVec 32 := 29#32
  let c1_i32_1182 : BitVec 32 := 1#32
  let v1515 : BitVec 32 := Scalar.muli c29_i32_1181 c1_i32_1182
  let v1516 : BitVec 32 := Scalar.addi c0_i32_1183 v1515
  v1516.toNat
def k0_cond31 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v111 : BitVec 1 := Scalar.cmpi .ne v2 c30_i32
  let v112 : BitVec 32 := Scalar.extui v111
  let c0_i32_38 : BitVec 32 := 0#32
  let v113 : BitVec 1 := Scalar.cmpi .ne v112 c0_i32_38
  v113

def k0_dev31 : Nat :=
  let c0_i32_1183 : BitVec 32 := 0#32
  let c30_i32_1181 : BitVec 32 := 30#32
  let c1_i32_1182 : BitVec 32 := 1#32
  let v1515 : BitVec 32 := Scalar.muli c30_i32_1181 c1_i32_1182
  let v1516 : BitVec 32 := Scalar.addi c0_i32_1183 v1515
  v1516.toNat
def k0_cond32 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v114 : BitVec 1 := Scalar.cmpi .ne v2 c31_i32
  let v115 : BitVec 32 := Scalar.extui v114
  let c0_i32_39 : BitVec 32 := 0#32
  let v116 : BitVec 1 := Scalar.cmpi .ne v115 c0_i32_39
  v116

def k0_dev32 : Nat :=
  let c0_i32_1183 : BitVec 32 := 0#32
  let c31_i32_1181 : BitVec 32 := 31#32
  let c1_i32_1182 : BitVec 32 := 1#32
  let v1515 : BitVec 32 := Scalar.muli c31_i32_1181 c1_i32_1182
  let v1516 : BitVec 32 := Scalar.addi c0_i32_1183 v1515
  v1516.toNat
def k0_off1 (d0 : Dev nD) (c0_i32_41 : BitVec 32) : Fin 2 → Nat :=
  let c0_i32_52 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v117 : BitVec 32 := Scalar.addi v19 c0_i32_41
  let c8_i32_42 : BitVec 32 := 8#32
  let c0_i32_43 : BitVec 32 := 0#32
  let v118 : BitVec 1 := Scalar.cmpi .eq c8_i32_42 c0_i32_43
  let c1_i32_44 : BitVec 32 := 1#32
  let v119 : BitVec 32 := Scalar.select v118 c1_i32_44 c8_i32_42
  let v120 : BitVec 32 := Scalar.remsi v117 v119
  let c0_i32_46 : BitVec 32 := 0#32
  let v122 : BitVec 1 := Scalar.cmpi .slt v120 c0_i32_46
  let c0_i32_47 : BitVec 32 := 0#32
  let v123 : BitVec 1 := Scalar.cmpi .slt v119 c0_i32_47
  let v124 : BitVec 1 := Scalar.xori v122 v123
  let c0_i32_45 : BitVec 32 := 0#32
  let v121 : BitVec 1 := Scalar.cmpi .ne v120 c0_i32_45
  let v125 : BitVec 1 := Scalar.andi v124 v121
  let v126 : BitVec 32 := Scalar.addi v120 v119
  let v127 : BitVec 32 := Scalar.select v125 v126 v120
  let c512_i32 : BitVec 32 := 512#32
  let v128 : BitVec 32 := Scalar.muli v127 c512_i32
  ![0, v128.toNat]
def k0_cond33 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_98 : BitVec 32 := 4#32
  let v203 : BitVec 32 := Scalar.muli v184 c4_i32_98
  let c0_i32_99 : BitVec 32 := 0#32
  let v204 : BitVec 32 := Scalar.addi v203 c0_i32_99
  let v210 : BitVec 1 := Scalar.cmpi .ne v204 v2
  let v211 : BitVec 32 := Scalar.extui v210
  let c0_i32_105 : BitVec 32 := 0#32
  let v212 : BitVec 1 := Scalar.cmpi .ne v211 c0_i32_105
  v212

def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev33 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_98 : BitVec 32 := 4#32
  let v203 : BitVec 32 := Scalar.muli v184 c4_i32_98
  let c0_i32_99 : BitVec 32 := 0#32
  let v204 : BitVec 32 := Scalar.addi v203 c0_i32_99
  let c1_i32_1180 : BitVec 32 := 1#32
  let v1515 : BitVec 32 := Scalar.muli v204 c1_i32_1180
  let v1516 : BitVec 32 := Scalar.addi c0_i32_1181 v1515
  v1516.toNat
def k0_cond34 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_98 : BitVec 32 := 4#32
  let v203 : BitVec 32 := Scalar.muli v184 c4_i32_98
  let c0_i32_99 : BitVec 32 := 0#32
  let v204 : BitVec 32 := Scalar.addi v203 c0_i32_99
  let v213 : BitVec 1 := Scalar.cmpi .eq v204 v2
  let v214 : BitVec 32 := Scalar.extui v213
  let c0_i32_106 : BitVec 32 := 0#32
  let v215 : BitVec 1 := Scalar.cmpi .ne v214 c0_i32_106
  v215

def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond35 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_107 : BitVec 32 := 4#32
  let v216 : BitVec 32 := Scalar.muli v184 c4_i32_107
  let c1_i32_108 : BitVec 32 := 1#32
  let v217 : BitVec 32 := Scalar.addi v216 c1_i32_108
  let v223 : BitVec 1 := Scalar.cmpi .ne v217 v2
  let v224 : BitVec 32 := Scalar.extui v223
  let c0_i32_113 : BitVec 32 := 0#32
  let v225 : BitVec 1 := Scalar.cmpi .ne v224 c0_i32_113
  v225

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev34 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_107 : BitVec 32 := 4#32
  let v216 : BitVec 32 := Scalar.muli v184 c4_i32_107
  let c1_i32_108 : BitVec 32 := 1#32
  let v217 : BitVec 32 := Scalar.addi v216 c1_i32_108
  let c1_i32_1180 : BitVec 32 := 1#32
  let v1515 : BitVec 32 := Scalar.muli v217 c1_i32_1180
  let v1516 : BitVec 32 := Scalar.addi c0_i32_1181 v1515
  v1516.toNat
def k0_cond36 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_107 : BitVec 32 := 4#32
  let v216 : BitVec 32 := Scalar.muli v184 c4_i32_107
  let c1_i32_108 : BitVec 32 := 1#32
  let v217 : BitVec 32 := Scalar.addi v216 c1_i32_108
  let v226 : BitVec 1 := Scalar.cmpi .eq v217 v2
  let v227 : BitVec 32 := Scalar.extui v226
  let c0_i32_114 : BitVec 32 := 0#32
  let v228 : BitVec 1 := Scalar.cmpi .ne v227 c0_i32_114
  v228

def k0_off7 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond37 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_115 : BitVec 32 := 4#32
  let v229 : BitVec 32 := Scalar.muli v184 c4_i32_115
  let c2_i32_116 : BitVec 32 := 2#32
  let v230 : BitVec 32 := Scalar.addi v229 c2_i32_116
  let v236 : BitVec 1 := Scalar.cmpi .ne v230 v2
  let v237 : BitVec 32 := Scalar.extui v236
  let c0_i32_121 : BitVec 32 := 0#32
  let v238 : BitVec 1 := Scalar.cmpi .ne v237 c0_i32_121
  v238

def k0_off8 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev35 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_115 : BitVec 32 := 4#32
  let v229 : BitVec 32 := Scalar.muli v184 c4_i32_115
  let c2_i32_116 : BitVec 32 := 2#32
  let v230 : BitVec 32 := Scalar.addi v229 c2_i32_116
  let c1_i32_1180 : BitVec 32 := 1#32
  let v1515 : BitVec 32 := Scalar.muli v230 c1_i32_1180
  let v1516 : BitVec 32 := Scalar.addi c0_i32_1181 v1515
  v1516.toNat
def k0_cond38 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_115 : BitVec 32 := 4#32
  let v229 : BitVec 32 := Scalar.muli v184 c4_i32_115
  let c2_i32_116 : BitVec 32 := 2#32
  let v230 : BitVec 32 := Scalar.addi v229 c2_i32_116
  let v239 : BitVec 1 := Scalar.cmpi .eq v230 v2
  let v240 : BitVec 32 := Scalar.extui v239
  let c0_i32_122 : BitVec 32 := 0#32
  let v241 : BitVec 1 := Scalar.cmpi .ne v240 c0_i32_122
  v241

def k0_off10 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond39 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_123 : BitVec 32 := 4#32
  let v242 : BitVec 32 := Scalar.muli v184 c4_i32_123
  let c3_i32_124 : BitVec 32 := 3#32
  let v243 : BitVec 32 := Scalar.addi v242 c3_i32_124
  let v249 : BitVec 1 := Scalar.cmpi .ne v243 v2
  let v250 : BitVec 32 := Scalar.extui v249
  let c0_i32_129 : BitVec 32 := 0#32
  let v251 : BitVec 1 := Scalar.cmpi .ne v250 c0_i32_129
  v251

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev36 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_123 : BitVec 32 := 4#32
  let v242 : BitVec 32 := Scalar.muli v184 c4_i32_123
  let c3_i32_124 : BitVec 32 := 3#32
  let v243 : BitVec 32 := Scalar.addi v242 c3_i32_124
  let c1_i32_1180 : BitVec 32 := 1#32
  let v1515 : BitVec 32 := Scalar.muli v243 c1_i32_1180
  let v1516 : BitVec 32 := Scalar.addi c0_i32_1181 v1515
  v1516.toNat
def k0_cond40 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_82 : BitVec 32 := 0#32
  let v174 : BitVec 32 := Scalar.addi v19 c0_i32_82
  let c8_i32_83 : BitVec 32 := 8#32
  let c0_i32_84 : BitVec 32 := 0#32
  let v175 : BitVec 1 := Scalar.cmpi .eq c8_i32_83 c0_i32_84
  let c1_i32_85 : BitVec 32 := 1#32
  let v176 : BitVec 32 := Scalar.select v175 c1_i32_85 c8_i32_83
  let v177 : BitVec 32 := Scalar.remsi v174 v176
  let c0_i32_87 : BitVec 32 := 0#32
  let v179 : BitVec 1 := Scalar.cmpi .slt v177 c0_i32_87
  let c0_i32_88 : BitVec 32 := 0#32
  let v180 : BitVec 1 := Scalar.cmpi .slt v176 c0_i32_88
  let v181 : BitVec 1 := Scalar.xori v179 v180
  let c0_i32_86 : BitVec 32 := 0#32
  let v178 : BitVec 1 := Scalar.cmpi .ne v177 c0_i32_86
  let v182 : BitVec 1 := Scalar.andi v181 v178
  let v183 : BitVec 32 := Scalar.addi v177 v176
  let v184 : BitVec 32 := Scalar.select v182 v183 v177
  let c4_i32_123 : BitVec 32 := 4#32
  let v242 : BitVec 32 := Scalar.muli v184 c4_i32_123
  let c3_i32_124 : BitVec 32 := 3#32
  let v243 : BitVec 32 := Scalar.addi v242 c3_i32_124
  let v252 : BitVec 1 := Scalar.cmpi .eq v243 v2
  let v253 : BitVec 32 := Scalar.extui v252
  let c0_i32_130 : BitVec 32 := 0#32
  let v254 : BitVec 1 := Scalar.cmpi .ne v253 c0_i32_130
  v254

def k0_off13 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond41 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_174 : BitVec 32 := 4#32
  let v318 : BitVec 32 := Scalar.muli v299 c4_i32_174
  let c0_i32_175 : BitVec 32 := 0#32
  let v319 : BitVec 32 := Scalar.addi v318 c0_i32_175
  let v325 : BitVec 1 := Scalar.cmpi .ne v319 v2
  let v326 : BitVec 32 := Scalar.extui v325
  let c0_i32_180 : BitVec 32 := 0#32
  let v327 : BitVec 1 := Scalar.cmpi .ne v326 c0_i32_180
  v327

def k0_off14 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev37 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_174 : BitVec 32 := 4#32
  let v318 : BitVec 32 := Scalar.muli v299 c4_i32_174
  let c0_i32_175 : BitVec 32 := 0#32
  let v319 : BitVec 32 := Scalar.addi v318 c0_i32_175
  let c1_i32_1180 : BitVec 32 := 1#32
  let v1515 : BitVec 32 := Scalar.muli v319 c1_i32_1180
  let v1516 : BitVec 32 := Scalar.addi c0_i32_1181 v1515
  v1516.toNat
def k0_cond42 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_174 : BitVec 32 := 4#32
  let v318 : BitVec 32 := Scalar.muli v299 c4_i32_174
  let c0_i32_175 : BitVec 32 := 0#32
  let v319 : BitVec 32 := Scalar.addi v318 c0_i32_175
  let v328 : BitVec 1 := Scalar.cmpi .eq v319 v2
  let v329 : BitVec 32 := Scalar.extui v328
  let c0_i32_181 : BitVec 32 := 0#32
  let v330 : BitVec 1 := Scalar.cmpi .ne v329 c0_i32_181
  v330

def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond43 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_182 : BitVec 32 := 4#32
  let v331 : BitVec 32 := Scalar.muli v299 c4_i32_182
  let c1_i32_183 : BitVec 32 := 1#32
  let v332 : BitVec 32 := Scalar.addi v331 c1_i32_183
  let v338 : BitVec 1 := Scalar.cmpi .ne v332 v2
  let v339 : BitVec 32 := Scalar.extui v338
  let c0_i32_188 : BitVec 32 := 0#32
  let v340 : BitVec 1 := Scalar.cmpi .ne v339 c0_i32_188
  v340

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev38 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_182 : BitVec 32 := 4#32
  let v331 : BitVec 32 := Scalar.muli v299 c4_i32_182
  let c1_i32_183 : BitVec 32 := 1#32
  let v332 : BitVec 32 := Scalar.addi v331 c1_i32_183
  let c1_i32_1180 : BitVec 32 := 1#32
  let v1515 : BitVec 32 := Scalar.muli v332 c1_i32_1180
  let v1516 : BitVec 32 := Scalar.addi c0_i32_1181 v1515
  v1516.toNat
def k0_cond44 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_182 : BitVec 32 := 4#32
  let v331 : BitVec 32 := Scalar.muli v299 c4_i32_182
  let c1_i32_183 : BitVec 32 := 1#32
  let v332 : BitVec 32 := Scalar.addi v331 c1_i32_183
  let v341 : BitVec 1 := Scalar.cmpi .eq v332 v2
  let v342 : BitVec 32 := Scalar.extui v341
  let c0_i32_189 : BitVec 32 := 0#32
  let v343 : BitVec 1 := Scalar.cmpi .ne v342 c0_i32_189
  v343

def k0_off19 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond45 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_190 : BitVec 32 := 4#32
  let v344 : BitVec 32 := Scalar.muli v299 c4_i32_190
  let c2_i32_191 : BitVec 32 := 2#32
  let v345 : BitVec 32 := Scalar.addi v344 c2_i32_191
  let v351 : BitVec 1 := Scalar.cmpi .ne v345 v2
  let v352 : BitVec 32 := Scalar.extui v351
  let c0_i32_196 : BitVec 32 := 0#32
  let v353 : BitVec 1 := Scalar.cmpi .ne v352 c0_i32_196
  v353

def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev39 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_190 : BitVec 32 := 4#32
  let v344 : BitVec 32 := Scalar.muli v299 c4_i32_190
  let c2_i32_191 : BitVec 32 := 2#32
  let v345 : BitVec 32 := Scalar.addi v344 c2_i32_191
  let c1_i32_1180 : BitVec 32 := 1#32
  let v1515 : BitVec 32 := Scalar.muli v345 c1_i32_1180
  let v1516 : BitVec 32 := Scalar.addi c0_i32_1181 v1515
  v1516.toNat
def k0_cond46 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_190 : BitVec 32 := 4#32
  let v344 : BitVec 32 := Scalar.muli v299 c4_i32_190
  let c2_i32_191 : BitVec 32 := 2#32
  let v345 : BitVec 32 := Scalar.addi v344 c2_i32_191
  let v354 : BitVec 1 := Scalar.cmpi .eq v345 v2
  let v355 : BitVec 32 := Scalar.extui v354
  let c0_i32_197 : BitVec 32 := 0#32
  let v356 : BitVec 1 := Scalar.cmpi .ne v355 c0_i32_197
  v356

def k0_off22 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond47 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_198 : BitVec 32 := 4#32
  let v357 : BitVec 32 := Scalar.muli v299 c4_i32_198
  let c3_i32_199 : BitVec 32 := 3#32
  let v358 : BitVec 32 := Scalar.addi v357 c3_i32_199
  let v364 : BitVec 1 := Scalar.cmpi .ne v358 v2
  let v365 : BitVec 32 := Scalar.extui v364
  let c0_i32_204 : BitVec 32 := 0#32
  let v366 : BitVec 1 := Scalar.cmpi .ne v365 c0_i32_204
  v366

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev40 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_198 : BitVec 32 := 4#32
  let v357 : BitVec 32 := Scalar.muli v299 c4_i32_198
  let c3_i32_199 : BitVec 32 := 3#32
  let v358 : BitVec 32 := Scalar.addi v357 c3_i32_199
  let c1_i32_1180 : BitVec 32 := 1#32
  let v1515 : BitVec 32 := Scalar.muli v358 c1_i32_1180
  let v1516 : BitVec 32 := Scalar.addi c0_i32_1181 v1515
  v1516.toNat
def k0_cond48 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_157 : BitVec 32 := 1#32
  let v289 : BitVec 32 := Scalar.addi v19 c1_i32_157
  let c8_i32_158 : BitVec 32 := 8#32
  let c0_i32_159 : BitVec 32 := 0#32
  let v290 : BitVec 1 := Scalar.cmpi .eq c8_i32_158 c0_i32_159
  let c1_i32_160 : BitVec 32 := 1#32
  let v291 : BitVec 32 := Scalar.select v290 c1_i32_160 c8_i32_158
  let v292 : BitVec 32 := Scalar.remsi v289 v291
  let c0_i32_162 : BitVec 32 := 0#32
  let v294 : BitVec 1 := Scalar.cmpi .slt v292 c0_i32_162
  let c0_i32_163 : BitVec 32 := 0#32
  let v295 : BitVec 1 := Scalar.cmpi .slt v291 c0_i32_163
  let v296 : BitVec 1 := Scalar.xori v294 v295
  let c0_i32_161 : BitVec 32 := 0#32
  let v293 : BitVec 1 := Scalar.cmpi .ne v292 c0_i32_161
  let v297 : BitVec 1 := Scalar.andi v296 v293
  let v298 : BitVec 32 := Scalar.addi v292 v291
  let v299 : BitVec 32 := Scalar.select v297 v298 v292
  let c4_i32_198 : BitVec 32 := 4#32
  let v357 : BitVec 32 := Scalar.muli v299 c4_i32_198
  let c3_i32_199 : BitVec 32 := 3#32
  let v358 : BitVec 32 := Scalar.addi v357 c3_i32_199
  let v367 : BitVec 1 := Scalar.cmpi .eq v358 v2
  let v368 : BitVec 32 := Scalar.extui v367
  let c0_i32_205 : BitVec 32 := 0#32
  let v369 : BitVec 1 := Scalar.cmpi .ne v368 c0_i32_205
  v369

def k0_off25 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond49 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_249 : BitVec 32 := 4#32
  let v433 : BitVec 32 := Scalar.muli v414 c4_i32_249
  let c0_i32_250 : BitVec 32 := 0#32
  let v434 : BitVec 32 := Scalar.addi v433 c0_i32_250
  let v440 : BitVec 1 := Scalar.cmpi .ne v434 v2
  let v441 : BitVec 32 := Scalar.extui v440
  let c0_i32_255 : BitVec 32 := 0#32
  let v442 : BitVec 1 := Scalar.cmpi .ne v441 c0_i32_255
  v442

def k0_off26 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev41 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_249 : BitVec 32 := 4#32
  let v433 : BitVec 32 := Scalar.muli v414 c4_i32_249
  let c0_i32_250 : BitVec 32 := 0#32
  let v434 : BitVec 32 := Scalar.addi v433 c0_i32_250
  let c1_i32_1180 : BitVec 32 := 1#32
  let v1515 : BitVec 32 := Scalar.muli v434 c1_i32_1180
  let v1516 : BitVec 32 := Scalar.addi c0_i32_1181 v1515
  v1516.toNat
def k0_cond50 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_249 : BitVec 32 := 4#32
  let v433 : BitVec 32 := Scalar.muli v414 c4_i32_249
  let c0_i32_250 : BitVec 32 := 0#32
  let v434 : BitVec 32 := Scalar.addi v433 c0_i32_250
  let v443 : BitVec 1 := Scalar.cmpi .eq v434 v2
  let v444 : BitVec 32 := Scalar.extui v443
  let c0_i32_256 : BitVec 32 := 0#32
  let v445 : BitVec 1 := Scalar.cmpi .ne v444 c0_i32_256
  v445

def k0_off28 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond51 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_257 : BitVec 32 := 4#32
  let v446 : BitVec 32 := Scalar.muli v414 c4_i32_257
  let c1_i32_258 : BitVec 32 := 1#32
  let v447 : BitVec 32 := Scalar.addi v446 c1_i32_258
  let v453 : BitVec 1 := Scalar.cmpi .ne v447 v2
  let v454 : BitVec 32 := Scalar.extui v453
  let c0_i32_263 : BitVec 32 := 0#32
  let v455 : BitVec 1 := Scalar.cmpi .ne v454 c0_i32_263
  v455

def k0_off29 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev42 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_257 : BitVec 32 := 4#32
  let v446 : BitVec 32 := Scalar.muli v414 c4_i32_257
  let c1_i32_258 : BitVec 32 := 1#32
  let v447 : BitVec 32 := Scalar.addi v446 c1_i32_258
  let c1_i32_1180 : BitVec 32 := 1#32
  let v1515 : BitVec 32 := Scalar.muli v447 c1_i32_1180
  let v1516 : BitVec 32 := Scalar.addi c0_i32_1181 v1515
  v1516.toNat
def k0_cond52 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_257 : BitVec 32 := 4#32
  let v446 : BitVec 32 := Scalar.muli v414 c4_i32_257
  let c1_i32_258 : BitVec 32 := 1#32
  let v447 : BitVec 32 := Scalar.addi v446 c1_i32_258
  let v456 : BitVec 1 := Scalar.cmpi .eq v447 v2
  let v457 : BitVec 32 := Scalar.extui v456
  let c0_i32_264 : BitVec 32 := 0#32
  let v458 : BitVec 1 := Scalar.cmpi .ne v457 c0_i32_264
  v458

def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond53 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_265 : BitVec 32 := 4#32
  let v459 : BitVec 32 := Scalar.muli v414 c4_i32_265
  let c2_i32_266 : BitVec 32 := 2#32
  let v460 : BitVec 32 := Scalar.addi v459 c2_i32_266
  let v466 : BitVec 1 := Scalar.cmpi .ne v460 v2
  let v467 : BitVec 32 := Scalar.extui v466
  let c0_i32_271 : BitVec 32 := 0#32
  let v468 : BitVec 1 := Scalar.cmpi .ne v467 c0_i32_271
  v468

def k0_off32 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev43 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_265 : BitVec 32 := 4#32
  let v459 : BitVec 32 := Scalar.muli v414 c4_i32_265
  let c2_i32_266 : BitVec 32 := 2#32
  let v460 : BitVec 32 := Scalar.addi v459 c2_i32_266
  let c1_i32_1180 : BitVec 32 := 1#32
  let v1515 : BitVec 32 := Scalar.muli v460 c1_i32_1180
  let v1516 : BitVec 32 := Scalar.addi c0_i32_1181 v1515
  v1516.toNat
def k0_cond54 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_265 : BitVec 32 := 4#32
  let v459 : BitVec 32 := Scalar.muli v414 c4_i32_265
  let c2_i32_266 : BitVec 32 := 2#32
  let v460 : BitVec 32 := Scalar.addi v459 c2_i32_266
  let v469 : BitVec 1 := Scalar.cmpi .eq v460 v2
  let v470 : BitVec 32 := Scalar.extui v469
  let c0_i32_272 : BitVec 32 := 0#32
  let v471 : BitVec 1 := Scalar.cmpi .ne v470 c0_i32_272
  v471

def k0_off34 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond55 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_273 : BitVec 32 := 4#32
  let v472 : BitVec 32 := Scalar.muli v414 c4_i32_273
  let c3_i32_274 : BitVec 32 := 3#32
  let v473 : BitVec 32 := Scalar.addi v472 c3_i32_274
  let v479 : BitVec 1 := Scalar.cmpi .ne v473 v2
  let v480 : BitVec 32 := Scalar.extui v479
  let c0_i32_279 : BitVec 32 := 0#32
  let v481 : BitVec 1 := Scalar.cmpi .ne v480 c0_i32_279
  v481

def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev44 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_273 : BitVec 32 := 4#32
  let v472 : BitVec 32 := Scalar.muli v414 c4_i32_273
  let c3_i32_274 : BitVec 32 := 3#32
  let v473 : BitVec 32 := Scalar.addi v472 c3_i32_274
  let c1_i32_1180 : BitVec 32 := 1#32
  let v1515 : BitVec 32 := Scalar.muli v473 c1_i32_1180
  let v1516 : BitVec 32 := Scalar.addi c0_i32_1181 v1515
  v1516.toNat
def k0_cond56 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_232 : BitVec 32 := 2#32
  let v404 : BitVec 32 := Scalar.addi v19 c2_i32_232
  let c8_i32_233 : BitVec 32 := 8#32
  let c0_i32_234 : BitVec 32 := 0#32
  let v405 : BitVec 1 := Scalar.cmpi .eq c8_i32_233 c0_i32_234
  let c1_i32_235 : BitVec 32 := 1#32
  let v406 : BitVec 32 := Scalar.select v405 c1_i32_235 c8_i32_233
  let v407 : BitVec 32 := Scalar.remsi v404 v406
  let c0_i32_237 : BitVec 32 := 0#32
  let v409 : BitVec 1 := Scalar.cmpi .slt v407 c0_i32_237
  let c0_i32_238 : BitVec 32 := 0#32
  let v410 : BitVec 1 := Scalar.cmpi .slt v406 c0_i32_238
  let v411 : BitVec 1 := Scalar.xori v409 v410
  let c0_i32_236 : BitVec 32 := 0#32
  let v408 : BitVec 1 := Scalar.cmpi .ne v407 c0_i32_236
  let v412 : BitVec 1 := Scalar.andi v411 v408
  let v413 : BitVec 32 := Scalar.addi v407 v406
  let v414 : BitVec 32 := Scalar.select v412 v413 v407
  let c4_i32_273 : BitVec 32 := 4#32
  let v472 : BitVec 32 := Scalar.muli v414 c4_i32_273
  let c3_i32_274 : BitVec 32 := 3#32
  let v473 : BitVec 32 := Scalar.addi v472 c3_i32_274
  let v482 : BitVec 1 := Scalar.cmpi .eq v473 v2
  let v483 : BitVec 32 := Scalar.extui v482
  let c0_i32_280 : BitVec 32 := 0#32
  let v484 : BitVec 1 := Scalar.cmpi .ne v483 c0_i32_280
  v484

def k0_off37 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond57 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_324 : BitVec 32 := 4#32
  let v548 : BitVec 32 := Scalar.muli v529 c4_i32_324
  let c0_i32_325 : BitVec 32 := 0#32
  let v549 : BitVec 32 := Scalar.addi v548 c0_i32_325
  let v555 : BitVec 1 := Scalar.cmpi .ne v549 v2
  let v556 : BitVec 32 := Scalar.extui v555
  let c0_i32_330 : BitVec 32 := 0#32
  let v557 : BitVec 1 := Scalar.cmpi .ne v556 c0_i32_330
  v557

def k0_off38 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off39 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev45 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_324 : BitVec 32 := 4#32
  let v548 : BitVec 32 := Scalar.muli v529 c4_i32_324
  let c0_i32_325 : BitVec 32 := 0#32
  let v549 : BitVec 32 := Scalar.addi v548 c0_i32_325
  let c1_i32_1180 : BitVec 32 := 1#32
  let v1515 : BitVec 32 := Scalar.muli v549 c1_i32_1180
  let v1516 : BitVec 32 := Scalar.addi c0_i32_1181 v1515
  v1516.toNat
def k0_cond58 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_324 : BitVec 32 := 4#32
  let v548 : BitVec 32 := Scalar.muli v529 c4_i32_324
  let c0_i32_325 : BitVec 32 := 0#32
  let v549 : BitVec 32 := Scalar.addi v548 c0_i32_325
  let v558 : BitVec 1 := Scalar.cmpi .eq v549 v2
  let v559 : BitVec 32 := Scalar.extui v558
  let c0_i32_331 : BitVec 32 := 0#32
  let v560 : BitVec 1 := Scalar.cmpi .ne v559 c0_i32_331
  v560

def k0_off40 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond59 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_332 : BitVec 32 := 4#32
  let v561 : BitVec 32 := Scalar.muli v529 c4_i32_332
  let c1_i32_333 : BitVec 32 := 1#32
  let v562 : BitVec 32 := Scalar.addi v561 c1_i32_333
  let v568 : BitVec 1 := Scalar.cmpi .ne v562 v2
  let v569 : BitVec 32 := Scalar.extui v568
  let c0_i32_338 : BitVec 32 := 0#32
  let v570 : BitVec 1 := Scalar.cmpi .ne v569 c0_i32_338
  v570

def k0_off41 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev46 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_332 : BitVec 32 := 4#32
  let v561 : BitVec 32 := Scalar.muli v529 c4_i32_332
  let c1_i32_333 : BitVec 32 := 1#32
  let v562 : BitVec 32 := Scalar.addi v561 c1_i32_333
  let c1_i32_1180 : BitVec 32 := 1#32
  let v1515 : BitVec 32 := Scalar.muli v562 c1_i32_1180
  let v1516 : BitVec 32 := Scalar.addi c0_i32_1181 v1515
  v1516.toNat
def k0_cond60 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_332 : BitVec 32 := 4#32
  let v561 : BitVec 32 := Scalar.muli v529 c4_i32_332
  let c1_i32_333 : BitVec 32 := 1#32
  let v562 : BitVec 32 := Scalar.addi v561 c1_i32_333
  let v571 : BitVec 1 := Scalar.cmpi .eq v562 v2
  let v572 : BitVec 32 := Scalar.extui v571
  let c0_i32_339 : BitVec 32 := 0#32
  let v573 : BitVec 1 := Scalar.cmpi .ne v572 c0_i32_339
  v573

def k0_off43 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond61 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_340 : BitVec 32 := 4#32
  let v574 : BitVec 32 := Scalar.muli v529 c4_i32_340
  let c2_i32_341 : BitVec 32 := 2#32
  let v575 : BitVec 32 := Scalar.addi v574 c2_i32_341
  let v581 : BitVec 1 := Scalar.cmpi .ne v575 v2
  let v582 : BitVec 32 := Scalar.extui v581
  let c0_i32_346 : BitVec 32 := 0#32
  let v583 : BitVec 1 := Scalar.cmpi .ne v582 c0_i32_346
  v583

def k0_off44 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off45 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev47 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_340 : BitVec 32 := 4#32
  let v574 : BitVec 32 := Scalar.muli v529 c4_i32_340
  let c2_i32_341 : BitVec 32 := 2#32
  let v575 : BitVec 32 := Scalar.addi v574 c2_i32_341
  let c1_i32_1180 : BitVec 32 := 1#32
  let v1515 : BitVec 32 := Scalar.muli v575 c1_i32_1180
  let v1516 : BitVec 32 := Scalar.addi c0_i32_1181 v1515
  v1516.toNat
def k0_cond62 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_340 : BitVec 32 := 4#32
  let v574 : BitVec 32 := Scalar.muli v529 c4_i32_340
  let c2_i32_341 : BitVec 32 := 2#32
  let v575 : BitVec 32 := Scalar.addi v574 c2_i32_341
  let v584 : BitVec 1 := Scalar.cmpi .eq v575 v2
  let v585 : BitVec 32 := Scalar.extui v584
  let c0_i32_347 : BitVec 32 := 0#32
  let v586 : BitVec 1 := Scalar.cmpi .ne v585 c0_i32_347
  v586

def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond63 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_348 : BitVec 32 := 4#32
  let v587 : BitVec 32 := Scalar.muli v529 c4_i32_348
  let c3_i32_349 : BitVec 32 := 3#32
  let v588 : BitVec 32 := Scalar.addi v587 c3_i32_349
  let v594 : BitVec 1 := Scalar.cmpi .ne v588 v2
  let v595 : BitVec 32 := Scalar.extui v594
  let c0_i32_354 : BitVec 32 := 0#32
  let v596 : BitVec 1 := Scalar.cmpi .ne v595 c0_i32_354
  v596

def k0_off47 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev48 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_348 : BitVec 32 := 4#32
  let v587 : BitVec 32 := Scalar.muli v529 c4_i32_348
  let c3_i32_349 : BitVec 32 := 3#32
  let v588 : BitVec 32 := Scalar.addi v587 c3_i32_349
  let c1_i32_1180 : BitVec 32 := 1#32
  let v1515 : BitVec 32 := Scalar.muli v588 c1_i32_1180
  let v1516 : BitVec 32 := Scalar.addi c0_i32_1181 v1515
  v1516.toNat
def k0_cond64 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_307 : BitVec 32 := 3#32
  let v519 : BitVec 32 := Scalar.addi v19 c3_i32_307
  let c8_i32_308 : BitVec 32 := 8#32
  let c0_i32_309 : BitVec 32 := 0#32
  let v520 : BitVec 1 := Scalar.cmpi .eq c8_i32_308 c0_i32_309
  let c1_i32_310 : BitVec 32 := 1#32
  let v521 : BitVec 32 := Scalar.select v520 c1_i32_310 c8_i32_308
  let v522 : BitVec 32 := Scalar.remsi v519 v521
  let c0_i32_312 : BitVec 32 := 0#32
  let v524 : BitVec 1 := Scalar.cmpi .slt v522 c0_i32_312
  let c0_i32_313 : BitVec 32 := 0#32
  let v525 : BitVec 1 := Scalar.cmpi .slt v521 c0_i32_313
  let v526 : BitVec 1 := Scalar.xori v524 v525
  let c0_i32_311 : BitVec 32 := 0#32
  let v523 : BitVec 1 := Scalar.cmpi .ne v522 c0_i32_311
  let v527 : BitVec 1 := Scalar.andi v526 v523
  let v528 : BitVec 32 := Scalar.addi v522 v521
  let v529 : BitVec 32 := Scalar.select v527 v528 v522
  let c4_i32_348 : BitVec 32 := 4#32
  let v587 : BitVec 32 := Scalar.muli v529 c4_i32_348
  let c3_i32_349 : BitVec 32 := 3#32
  let v588 : BitVec 32 := Scalar.addi v587 c3_i32_349
  let v597 : BitVec 1 := Scalar.cmpi .eq v588 v2
  let v598 : BitVec 32 := Scalar.extui v597
  let c0_i32_355 : BitVec 32 := 0#32
  let v599 : BitVec 1 := Scalar.cmpi .ne v598 c0_i32_355
  v599

def k0_off49 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond65 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_399 : BitVec 32 := 4#32
  let v663 : BitVec 32 := Scalar.muli v644 c4_i32_399
  let c0_i32_400 : BitVec 32 := 0#32
  let v664 : BitVec 32 := Scalar.addi v663 c0_i32_400
  let v670 : BitVec 1 := Scalar.cmpi .ne v664 v2
  let v671 : BitVec 32 := Scalar.extui v670
  let c0_i32_405 : BitVec 32 := 0#32
  let v672 : BitVec 1 := Scalar.cmpi .ne v671 c0_i32_405
  v672

def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev49 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_399 : BitVec 32 := 4#32
  let v663 : BitVec 32 := Scalar.muli v644 c4_i32_399
  let c0_i32_400 : BitVec 32 := 0#32
  let v664 : BitVec 32 := Scalar.addi v663 c0_i32_400
  let c1_i32_1180 : BitVec 32 := 1#32
  let v1515 : BitVec 32 := Scalar.muli v664 c1_i32_1180
  let v1516 : BitVec 32 := Scalar.addi c0_i32_1181 v1515
  v1516.toNat
def k0_cond66 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_399 : BitVec 32 := 4#32
  let v663 : BitVec 32 := Scalar.muli v644 c4_i32_399
  let c0_i32_400 : BitVec 32 := 0#32
  let v664 : BitVec 32 := Scalar.addi v663 c0_i32_400
  let v673 : BitVec 1 := Scalar.cmpi .eq v664 v2
  let v674 : BitVec 32 := Scalar.extui v673
  let c0_i32_406 : BitVec 32 := 0#32
  let v675 : BitVec 1 := Scalar.cmpi .ne v674 c0_i32_406
  v675

def k0_off52 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond67 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_407 : BitVec 32 := 4#32
  let v676 : BitVec 32 := Scalar.muli v644 c4_i32_407
  let c1_i32_408 : BitVec 32 := 1#32
  let v677 : BitVec 32 := Scalar.addi v676 c1_i32_408
  let v683 : BitVec 1 := Scalar.cmpi .ne v677 v2
  let v684 : BitVec 32 := Scalar.extui v683
  let c0_i32_413 : BitVec 32 := 0#32
  let v685 : BitVec 1 := Scalar.cmpi .ne v684 c0_i32_413
  v685

def k0_off53 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off54 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev50 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_407 : BitVec 32 := 4#32
  let v676 : BitVec 32 := Scalar.muli v644 c4_i32_407
  let c1_i32_408 : BitVec 32 := 1#32
  let v677 : BitVec 32 := Scalar.addi v676 c1_i32_408
  let c1_i32_1180 : BitVec 32 := 1#32
  let v1515 : BitVec 32 := Scalar.muli v677 c1_i32_1180
  let v1516 : BitVec 32 := Scalar.addi c0_i32_1181 v1515
  v1516.toNat
def k0_cond68 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_407 : BitVec 32 := 4#32
  let v676 : BitVec 32 := Scalar.muli v644 c4_i32_407
  let c1_i32_408 : BitVec 32 := 1#32
  let v677 : BitVec 32 := Scalar.addi v676 c1_i32_408
  let v686 : BitVec 1 := Scalar.cmpi .eq v677 v2
  let v687 : BitVec 32 := Scalar.extui v686
  let c0_i32_414 : BitVec 32 := 0#32
  let v688 : BitVec 1 := Scalar.cmpi .ne v687 c0_i32_414
  v688

def k0_off55 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond69 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_415 : BitVec 32 := 4#32
  let v689 : BitVec 32 := Scalar.muli v644 c4_i32_415
  let c2_i32_416 : BitVec 32 := 2#32
  let v690 : BitVec 32 := Scalar.addi v689 c2_i32_416
  let v696 : BitVec 1 := Scalar.cmpi .ne v690 v2
  let v697 : BitVec 32 := Scalar.extui v696
  let c0_i32_421 : BitVec 32 := 0#32
  let v698 : BitVec 1 := Scalar.cmpi .ne v697 c0_i32_421
  v698

def k0_off56 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off57 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev51 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_415 : BitVec 32 := 4#32
  let v689 : BitVec 32 := Scalar.muli v644 c4_i32_415
  let c2_i32_416 : BitVec 32 := 2#32
  let v690 : BitVec 32 := Scalar.addi v689 c2_i32_416
  let c1_i32_1180 : BitVec 32 := 1#32
  let v1515 : BitVec 32 := Scalar.muli v690 c1_i32_1180
  let v1516 : BitVec 32 := Scalar.addi c0_i32_1181 v1515
  v1516.toNat
def k0_cond70 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_415 : BitVec 32 := 4#32
  let v689 : BitVec 32 := Scalar.muli v644 c4_i32_415
  let c2_i32_416 : BitVec 32 := 2#32
  let v690 : BitVec 32 := Scalar.addi v689 c2_i32_416
  let v699 : BitVec 1 := Scalar.cmpi .eq v690 v2
  let v700 : BitVec 32 := Scalar.extui v699
  let c0_i32_422 : BitVec 32 := 0#32
  let v701 : BitVec 1 := Scalar.cmpi .ne v700 c0_i32_422
  v701

def k0_off58 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond71 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_423 : BitVec 32 := 4#32
  let v702 : BitVec 32 := Scalar.muli v644 c4_i32_423
  let c3_i32_424 : BitVec 32 := 3#32
  let v703 : BitVec 32 := Scalar.addi v702 c3_i32_424
  let v709 : BitVec 1 := Scalar.cmpi .ne v703 v2
  let v710 : BitVec 32 := Scalar.extui v709
  let c0_i32_429 : BitVec 32 := 0#32
  let v711 : BitVec 1 := Scalar.cmpi .ne v710 c0_i32_429
  v711

def k0_off59 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off60 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev52 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_423 : BitVec 32 := 4#32
  let v702 : BitVec 32 := Scalar.muli v644 c4_i32_423
  let c3_i32_424 : BitVec 32 := 3#32
  let v703 : BitVec 32 := Scalar.addi v702 c3_i32_424
  let c1_i32_1180 : BitVec 32 := 1#32
  let v1515 : BitVec 32 := Scalar.muli v703 c1_i32_1180
  let v1516 : BitVec 32 := Scalar.addi c0_i32_1181 v1515
  v1516.toNat
def k0_cond72 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_382 : BitVec 32 := 4#32
  let v634 : BitVec 32 := Scalar.addi v19 c4_i32_382
  let c8_i32_383 : BitVec 32 := 8#32
  let c0_i32_384 : BitVec 32 := 0#32
  let v635 : BitVec 1 := Scalar.cmpi .eq c8_i32_383 c0_i32_384
  let c1_i32_385 : BitVec 32 := 1#32
  let v636 : BitVec 32 := Scalar.select v635 c1_i32_385 c8_i32_383
  let v637 : BitVec 32 := Scalar.remsi v634 v636
  let c0_i32_387 : BitVec 32 := 0#32
  let v639 : BitVec 1 := Scalar.cmpi .slt v637 c0_i32_387
  let c0_i32_388 : BitVec 32 := 0#32
  let v640 : BitVec 1 := Scalar.cmpi .slt v636 c0_i32_388
  let v641 : BitVec 1 := Scalar.xori v639 v640
  let c0_i32_386 : BitVec 32 := 0#32
  let v638 : BitVec 1 := Scalar.cmpi .ne v637 c0_i32_386
  let v642 : BitVec 1 := Scalar.andi v641 v638
  let v643 : BitVec 32 := Scalar.addi v637 v636
  let v644 : BitVec 32 := Scalar.select v642 v643 v637
  let c4_i32_423 : BitVec 32 := 4#32
  let v702 : BitVec 32 := Scalar.muli v644 c4_i32_423
  let c3_i32_424 : BitVec 32 := 3#32
  let v703 : BitVec 32 := Scalar.addi v702 c3_i32_424
  let v712 : BitVec 1 := Scalar.cmpi .eq v703 v2
  let v713 : BitVec 32 := Scalar.extui v712
  let c0_i32_430 : BitVec 32 := 0#32
  let v714 : BitVec 1 := Scalar.cmpi .ne v713 c0_i32_430
  v714

def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond73 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_474 : BitVec 32 := 4#32
  let v778 : BitVec 32 := Scalar.muli v759 c4_i32_474
  let c0_i32_475 : BitVec 32 := 0#32
  let v779 : BitVec 32 := Scalar.addi v778 c0_i32_475
  let v785 : BitVec 1 := Scalar.cmpi .ne v779 v2
  let v786 : BitVec 32 := Scalar.extui v785
  let c0_i32_480 : BitVec 32 := 0#32
  let v787 : BitVec 1 := Scalar.cmpi .ne v786 c0_i32_480
  v787

def k0_off62 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off63 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev53 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_474 : BitVec 32 := 4#32
  let v778 : BitVec 32 := Scalar.muli v759 c4_i32_474
  let c0_i32_475 : BitVec 32 := 0#32
  let v779 : BitVec 32 := Scalar.addi v778 c0_i32_475
  let c1_i32_1180 : BitVec 32 := 1#32
  let v1515 : BitVec 32 := Scalar.muli v779 c1_i32_1180
  let v1516 : BitVec 32 := Scalar.addi c0_i32_1181 v1515
  v1516.toNat
def k0_cond74 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_474 : BitVec 32 := 4#32
  let v778 : BitVec 32 := Scalar.muli v759 c4_i32_474
  let c0_i32_475 : BitVec 32 := 0#32
  let v779 : BitVec 32 := Scalar.addi v778 c0_i32_475
  let v788 : BitVec 1 := Scalar.cmpi .eq v779 v2
  let v789 : BitVec 32 := Scalar.extui v788
  let c0_i32_481 : BitVec 32 := 0#32
  let v790 : BitVec 1 := Scalar.cmpi .ne v789 c0_i32_481
  v790

def k0_off64 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond75 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_482 : BitVec 32 := 4#32
  let v791 : BitVec 32 := Scalar.muli v759 c4_i32_482
  let c1_i32_483 : BitVec 32 := 1#32
  let v792 : BitVec 32 := Scalar.addi v791 c1_i32_483
  let v798 : BitVec 1 := Scalar.cmpi .ne v792 v2
  let v799 : BitVec 32 := Scalar.extui v798
  let c0_i32_488 : BitVec 32 := 0#32
  let v800 : BitVec 1 := Scalar.cmpi .ne v799 c0_i32_488
  v800

def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev54 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_482 : BitVec 32 := 4#32
  let v791 : BitVec 32 := Scalar.muli v759 c4_i32_482
  let c1_i32_483 : BitVec 32 := 1#32
  let v792 : BitVec 32 := Scalar.addi v791 c1_i32_483
  let c1_i32_1180 : BitVec 32 := 1#32
  let v1515 : BitVec 32 := Scalar.muli v792 c1_i32_1180
  let v1516 : BitVec 32 := Scalar.addi c0_i32_1181 v1515
  v1516.toNat
def k0_cond76 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_482 : BitVec 32 := 4#32
  let v791 : BitVec 32 := Scalar.muli v759 c4_i32_482
  let c1_i32_483 : BitVec 32 := 1#32
  let v792 : BitVec 32 := Scalar.addi v791 c1_i32_483
  let v801 : BitVec 1 := Scalar.cmpi .eq v792 v2
  let v802 : BitVec 32 := Scalar.extui v801
  let c0_i32_489 : BitVec 32 := 0#32
  let v803 : BitVec 1 := Scalar.cmpi .ne v802 c0_i32_489
  v803

def k0_off67 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond77 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_490 : BitVec 32 := 4#32
  let v804 : BitVec 32 := Scalar.muli v759 c4_i32_490
  let c2_i32_491 : BitVec 32 := 2#32
  let v805 : BitVec 32 := Scalar.addi v804 c2_i32_491
  let v811 : BitVec 1 := Scalar.cmpi .ne v805 v2
  let v812 : BitVec 32 := Scalar.extui v811
  let c0_i32_496 : BitVec 32 := 0#32
  let v813 : BitVec 1 := Scalar.cmpi .ne v812 c0_i32_496
  v813

def k0_off68 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off69 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev55 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_490 : BitVec 32 := 4#32
  let v804 : BitVec 32 := Scalar.muli v759 c4_i32_490
  let c2_i32_491 : BitVec 32 := 2#32
  let v805 : BitVec 32 := Scalar.addi v804 c2_i32_491
  let c1_i32_1180 : BitVec 32 := 1#32
  let v1515 : BitVec 32 := Scalar.muli v805 c1_i32_1180
  let v1516 : BitVec 32 := Scalar.addi c0_i32_1181 v1515
  v1516.toNat
def k0_cond78 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_490 : BitVec 32 := 4#32
  let v804 : BitVec 32 := Scalar.muli v759 c4_i32_490
  let c2_i32_491 : BitVec 32 := 2#32
  let v805 : BitVec 32 := Scalar.addi v804 c2_i32_491
  let v814 : BitVec 1 := Scalar.cmpi .eq v805 v2
  let v815 : BitVec 32 := Scalar.extui v814
  let c0_i32_497 : BitVec 32 := 0#32
  let v816 : BitVec 1 := Scalar.cmpi .ne v815 c0_i32_497
  v816

def k0_off70 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond79 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_498 : BitVec 32 := 4#32
  let v817 : BitVec 32 := Scalar.muli v759 c4_i32_498
  let c3_i32_499 : BitVec 32 := 3#32
  let v818 : BitVec 32 := Scalar.addi v817 c3_i32_499
  let v824 : BitVec 1 := Scalar.cmpi .ne v818 v2
  let v825 : BitVec 32 := Scalar.extui v824
  let c0_i32_504 : BitVec 32 := 0#32
  let v826 : BitVec 1 := Scalar.cmpi .ne v825 c0_i32_504
  v826

def k0_off71 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off72 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev56 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_498 : BitVec 32 := 4#32
  let v817 : BitVec 32 := Scalar.muli v759 c4_i32_498
  let c3_i32_499 : BitVec 32 := 3#32
  let v818 : BitVec 32 := Scalar.addi v817 c3_i32_499
  let c1_i32_1180 : BitVec 32 := 1#32
  let v1515 : BitVec 32 := Scalar.muli v818 c1_i32_1180
  let v1516 : BitVec 32 := Scalar.addi c0_i32_1181 v1515
  v1516.toNat
def k0_cond80 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_457 : BitVec 32 := 5#32
  let v749 : BitVec 32 := Scalar.addi v19 c5_i32_457
  let c8_i32_458 : BitVec 32 := 8#32
  let c0_i32_459 : BitVec 32 := 0#32
  let v750 : BitVec 1 := Scalar.cmpi .eq c8_i32_458 c0_i32_459
  let c1_i32_460 : BitVec 32 := 1#32
  let v751 : BitVec 32 := Scalar.select v750 c1_i32_460 c8_i32_458
  let v752 : BitVec 32 := Scalar.remsi v749 v751
  let c0_i32_462 : BitVec 32 := 0#32
  let v754 : BitVec 1 := Scalar.cmpi .slt v752 c0_i32_462
  let c0_i32_463 : BitVec 32 := 0#32
  let v755 : BitVec 1 := Scalar.cmpi .slt v751 c0_i32_463
  let v756 : BitVec 1 := Scalar.xori v754 v755
  let c0_i32_461 : BitVec 32 := 0#32
  let v753 : BitVec 1 := Scalar.cmpi .ne v752 c0_i32_461
  let v757 : BitVec 1 := Scalar.andi v756 v753
  let v758 : BitVec 32 := Scalar.addi v752 v751
  let v759 : BitVec 32 := Scalar.select v757 v758 v752
  let c4_i32_498 : BitVec 32 := 4#32
  let v817 : BitVec 32 := Scalar.muli v759 c4_i32_498
  let c3_i32_499 : BitVec 32 := 3#32
  let v818 : BitVec 32 := Scalar.addi v817 c3_i32_499
  let v827 : BitVec 1 := Scalar.cmpi .eq v818 v2
  let v828 : BitVec 32 := Scalar.extui v827
  let c0_i32_505 : BitVec 32 := 0#32
  let v829 : BitVec 1 := Scalar.cmpi .ne v828 c0_i32_505
  v829

def k0_off73 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond81 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_549 : BitVec 32 := 4#32
  let v893 : BitVec 32 := Scalar.muli v874 c4_i32_549
  let c0_i32_550 : BitVec 32 := 0#32
  let v894 : BitVec 32 := Scalar.addi v893 c0_i32_550
  let v900 : BitVec 1 := Scalar.cmpi .ne v894 v2
  let v901 : BitVec 32 := Scalar.extui v900
  let c0_i32_555 : BitVec 32 := 0#32
  let v902 : BitVec 1 := Scalar.cmpi .ne v901 c0_i32_555
  v902

def k0_off74 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off75 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev57 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_549 : BitVec 32 := 4#32
  let v893 : BitVec 32 := Scalar.muli v874 c4_i32_549
  let c0_i32_550 : BitVec 32 := 0#32
  let v894 : BitVec 32 := Scalar.addi v893 c0_i32_550
  let c1_i32_1180 : BitVec 32 := 1#32
  let v1515 : BitVec 32 := Scalar.muli v894 c1_i32_1180
  let v1516 : BitVec 32 := Scalar.addi c0_i32_1181 v1515
  v1516.toNat
def k0_cond82 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_549 : BitVec 32 := 4#32
  let v893 : BitVec 32 := Scalar.muli v874 c4_i32_549
  let c0_i32_550 : BitVec 32 := 0#32
  let v894 : BitVec 32 := Scalar.addi v893 c0_i32_550
  let v903 : BitVec 1 := Scalar.cmpi .eq v894 v2
  let v904 : BitVec 32 := Scalar.extui v903
  let c0_i32_556 : BitVec 32 := 0#32
  let v905 : BitVec 1 := Scalar.cmpi .ne v904 c0_i32_556
  v905

def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond83 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_557 : BitVec 32 := 4#32
  let v906 : BitVec 32 := Scalar.muli v874 c4_i32_557
  let c1_i32_558 : BitVec 32 := 1#32
  let v907 : BitVec 32 := Scalar.addi v906 c1_i32_558
  let v913 : BitVec 1 := Scalar.cmpi .ne v907 v2
  let v914 : BitVec 32 := Scalar.extui v913
  let c0_i32_563 : BitVec 32 := 0#32
  let v915 : BitVec 1 := Scalar.cmpi .ne v914 c0_i32_563
  v915

def k0_off77 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off78 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev58 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_557 : BitVec 32 := 4#32
  let v906 : BitVec 32 := Scalar.muli v874 c4_i32_557
  let c1_i32_558 : BitVec 32 := 1#32
  let v907 : BitVec 32 := Scalar.addi v906 c1_i32_558
  let c1_i32_1180 : BitVec 32 := 1#32
  let v1515 : BitVec 32 := Scalar.muli v907 c1_i32_1180
  let v1516 : BitVec 32 := Scalar.addi c0_i32_1181 v1515
  v1516.toNat
def k0_cond84 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_557 : BitVec 32 := 4#32
  let v906 : BitVec 32 := Scalar.muli v874 c4_i32_557
  let c1_i32_558 : BitVec 32 := 1#32
  let v907 : BitVec 32 := Scalar.addi v906 c1_i32_558
  let v916 : BitVec 1 := Scalar.cmpi .eq v907 v2
  let v917 : BitVec 32 := Scalar.extui v916
  let c0_i32_564 : BitVec 32 := 0#32
  let v918 : BitVec 1 := Scalar.cmpi .ne v917 c0_i32_564
  v918

def k0_off79 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond85 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_565 : BitVec 32 := 4#32
  let v919 : BitVec 32 := Scalar.muli v874 c4_i32_565
  let c2_i32_566 : BitVec 32 := 2#32
  let v920 : BitVec 32 := Scalar.addi v919 c2_i32_566
  let v926 : BitVec 1 := Scalar.cmpi .ne v920 v2
  let v927 : BitVec 32 := Scalar.extui v926
  let c0_i32_571 : BitVec 32 := 0#32
  let v928 : BitVec 1 := Scalar.cmpi .ne v927 c0_i32_571
  v928

def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev59 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_565 : BitVec 32 := 4#32
  let v919 : BitVec 32 := Scalar.muli v874 c4_i32_565
  let c2_i32_566 : BitVec 32 := 2#32
  let v920 : BitVec 32 := Scalar.addi v919 c2_i32_566
  let c1_i32_1180 : BitVec 32 := 1#32
  let v1515 : BitVec 32 := Scalar.muli v920 c1_i32_1180
  let v1516 : BitVec 32 := Scalar.addi c0_i32_1181 v1515
  v1516.toNat
def k0_cond86 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_565 : BitVec 32 := 4#32
  let v919 : BitVec 32 := Scalar.muli v874 c4_i32_565
  let c2_i32_566 : BitVec 32 := 2#32
  let v920 : BitVec 32 := Scalar.addi v919 c2_i32_566
  let v929 : BitVec 1 := Scalar.cmpi .eq v920 v2
  let v930 : BitVec 32 := Scalar.extui v929
  let c0_i32_572 : BitVec 32 := 0#32
  let v931 : BitVec 1 := Scalar.cmpi .ne v930 c0_i32_572
  v931

def k0_off82 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond87 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_573 : BitVec 32 := 4#32
  let v932 : BitVec 32 := Scalar.muli v874 c4_i32_573
  let c3_i32_574 : BitVec 32 := 3#32
  let v933 : BitVec 32 := Scalar.addi v932 c3_i32_574
  let v939 : BitVec 1 := Scalar.cmpi .ne v933 v2
  let v940 : BitVec 32 := Scalar.extui v939
  let c0_i32_579 : BitVec 32 := 0#32
  let v941 : BitVec 1 := Scalar.cmpi .ne v940 c0_i32_579
  v941

def k0_off83 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off84 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev60 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_573 : BitVec 32 := 4#32
  let v932 : BitVec 32 := Scalar.muli v874 c4_i32_573
  let c3_i32_574 : BitVec 32 := 3#32
  let v933 : BitVec 32 := Scalar.addi v932 c3_i32_574
  let c1_i32_1180 : BitVec 32 := 1#32
  let v1515 : BitVec 32 := Scalar.muli v933 c1_i32_1180
  let v1516 : BitVec 32 := Scalar.addi c0_i32_1181 v1515
  v1516.toNat
def k0_cond88 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_532 : BitVec 32 := 6#32
  let v864 : BitVec 32 := Scalar.addi v19 c6_i32_532
  let c8_i32_533 : BitVec 32 := 8#32
  let c0_i32_534 : BitVec 32 := 0#32
  let v865 : BitVec 1 := Scalar.cmpi .eq c8_i32_533 c0_i32_534
  let c1_i32_535 : BitVec 32 := 1#32
  let v866 : BitVec 32 := Scalar.select v865 c1_i32_535 c8_i32_533
  let v867 : BitVec 32 := Scalar.remsi v864 v866
  let c0_i32_537 : BitVec 32 := 0#32
  let v869 : BitVec 1 := Scalar.cmpi .slt v867 c0_i32_537
  let c0_i32_538 : BitVec 32 := 0#32
  let v870 : BitVec 1 := Scalar.cmpi .slt v866 c0_i32_538
  let v871 : BitVec 1 := Scalar.xori v869 v870
  let c0_i32_536 : BitVec 32 := 0#32
  let v868 : BitVec 1 := Scalar.cmpi .ne v867 c0_i32_536
  let v872 : BitVec 1 := Scalar.andi v871 v868
  let v873 : BitVec 32 := Scalar.addi v867 v866
  let v874 : BitVec 32 := Scalar.select v872 v873 v867
  let c4_i32_573 : BitVec 32 := 4#32
  let v932 : BitVec 32 := Scalar.muli v874 c4_i32_573
  let c3_i32_574 : BitVec 32 := 3#32
  let v933 : BitVec 32 := Scalar.addi v932 c3_i32_574
  let v942 : BitVec 1 := Scalar.cmpi .eq v933 v2
  let v943 : BitVec 32 := Scalar.extui v942
  let c0_i32_580 : BitVec 32 := 0#32
  let v944 : BitVec 1 := Scalar.cmpi .ne v943 c0_i32_580
  v944

def k0_off85 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond89 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_611 : BitVec 32 := 4#32
  let v991 : BitVec 32 := Scalar.muli v972 c4_i32_611
  let c0_i32_612 : BitVec 32 := 0#32
  let v992 : BitVec 32 := Scalar.addi v991 c0_i32_612
  let v998 : BitVec 1 := Scalar.cmpi .ne v992 v2
  let v999 : BitVec 32 := Scalar.extui v998
  let c0_i32_617 : BitVec 32 := 0#32
  let v1000 : BitVec 1 := Scalar.cmpi .ne v999 c0_i32_617
  v1000

def k0_off86 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off87 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev61 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_611 : BitVec 32 := 4#32
  let v991 : BitVec 32 := Scalar.muli v972 c4_i32_611
  let c0_i32_612 : BitVec 32 := 0#32
  let v992 : BitVec 32 := Scalar.addi v991 c0_i32_612
  let c1_i32_1180 : BitVec 32 := 1#32
  let v1515 : BitVec 32 := Scalar.muli v992 c1_i32_1180
  let v1516 : BitVec 32 := Scalar.addi c0_i32_1181 v1515
  v1516.toNat
def k0_cond90 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_611 : BitVec 32 := 4#32
  let v991 : BitVec 32 := Scalar.muli v972 c4_i32_611
  let c0_i32_612 : BitVec 32 := 0#32
  let v992 : BitVec 32 := Scalar.addi v991 c0_i32_612
  let v1001 : BitVec 1 := Scalar.cmpi .eq v992 v2
  let v1002 : BitVec 32 := Scalar.extui v1001
  let c0_i32_618 : BitVec 32 := 0#32
  let v1003 : BitVec 1 := Scalar.cmpi .ne v1002 c0_i32_618
  v1003

def k0_off88 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond91 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_619 : BitVec 32 := 4#32
  let v1004 : BitVec 32 := Scalar.muli v972 c4_i32_619
  let c1_i32_620 : BitVec 32 := 1#32
  let v1005 : BitVec 32 := Scalar.addi v1004 c1_i32_620
  let v1011 : BitVec 1 := Scalar.cmpi .ne v1005 v2
  let v1012 : BitVec 32 := Scalar.extui v1011
  let c0_i32_625 : BitVec 32 := 0#32
  let v1013 : BitVec 1 := Scalar.cmpi .ne v1012 c0_i32_625
  v1013

def k0_off89 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off90 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev62 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_619 : BitVec 32 := 4#32
  let v1004 : BitVec 32 := Scalar.muli v972 c4_i32_619
  let c1_i32_620 : BitVec 32 := 1#32
  let v1005 : BitVec 32 := Scalar.addi v1004 c1_i32_620
  let c1_i32_1180 : BitVec 32 := 1#32
  let v1515 : BitVec 32 := Scalar.muli v1005 c1_i32_1180
  let v1516 : BitVec 32 := Scalar.addi c0_i32_1181 v1515
  v1516.toNat
def k0_cond92 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_619 : BitVec 32 := 4#32
  let v1004 : BitVec 32 := Scalar.muli v972 c4_i32_619
  let c1_i32_620 : BitVec 32 := 1#32
  let v1005 : BitVec 32 := Scalar.addi v1004 c1_i32_620
  let v1014 : BitVec 1 := Scalar.cmpi .eq v1005 v2
  let v1015 : BitVec 32 := Scalar.extui v1014
  let c0_i32_626 : BitVec 32 := 0#32
  let v1016 : BitVec 1 := Scalar.cmpi .ne v1015 c0_i32_626
  v1016

def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond93 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_627 : BitVec 32 := 4#32
  let v1017 : BitVec 32 := Scalar.muli v972 c4_i32_627
  let c2_i32_628 : BitVec 32 := 2#32
  let v1018 : BitVec 32 := Scalar.addi v1017 c2_i32_628
  let v1024 : BitVec 1 := Scalar.cmpi .ne v1018 v2
  let v1025 : BitVec 32 := Scalar.extui v1024
  let c0_i32_633 : BitVec 32 := 0#32
  let v1026 : BitVec 1 := Scalar.cmpi .ne v1025 c0_i32_633
  v1026

def k0_off92 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off93 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev63 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_627 : BitVec 32 := 4#32
  let v1017 : BitVec 32 := Scalar.muli v972 c4_i32_627
  let c2_i32_628 : BitVec 32 := 2#32
  let v1018 : BitVec 32 := Scalar.addi v1017 c2_i32_628
  let c1_i32_1180 : BitVec 32 := 1#32
  let v1515 : BitVec 32 := Scalar.muli v1018 c1_i32_1180
  let v1516 : BitVec 32 := Scalar.addi c0_i32_1181 v1515
  v1516.toNat
def k0_cond94 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_627 : BitVec 32 := 4#32
  let v1017 : BitVec 32 := Scalar.muli v972 c4_i32_627
  let c2_i32_628 : BitVec 32 := 2#32
  let v1018 : BitVec 32 := Scalar.addi v1017 c2_i32_628
  let v1027 : BitVec 1 := Scalar.cmpi .eq v1018 v2
  let v1028 : BitVec 32 := Scalar.extui v1027
  let c0_i32_634 : BitVec 32 := 0#32
  let v1029 : BitVec 1 := Scalar.cmpi .ne v1028 c0_i32_634
  v1029

def k0_off94 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond95 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_635 : BitVec 32 := 4#32
  let v1030 : BitVec 32 := Scalar.muli v972 c4_i32_635
  let c3_i32_636 : BitVec 32 := 3#32
  let v1031 : BitVec 32 := Scalar.addi v1030 c3_i32_636
  let v1037 : BitVec 1 := Scalar.cmpi .ne v1031 v2
  let v1038 : BitVec 32 := Scalar.extui v1037
  let c0_i32_641 : BitVec 32 := 0#32
  let v1039 : BitVec 1 := Scalar.cmpi .ne v1038 c0_i32_641
  v1039

def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1182 : BitVec 32 := 0#32
  let c0_i32_1183 : BitVec 32 := 0#32
  ![v2.toNat, 0, 0]
def k0_dev64 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_635 : BitVec 32 := 4#32
  let v1030 : BitVec 32 := Scalar.muli v972 c4_i32_635
  let c3_i32_636 : BitVec 32 := 3#32
  let v1031 : BitVec 32 := Scalar.addi v1030 c3_i32_636
  let c1_i32_1180 : BitVec 32 := 1#32
  let v1515 : BitVec 32 := Scalar.muli v1031 c1_i32_1180
  let v1516 : BitVec 32 := Scalar.addi c0_i32_1181 v1515
  v1516.toNat
def k0_cond96 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_594 : BitVec 32 := 7#32
  let v962 : BitVec 32 := Scalar.addi v19 c7_i32_594
  let c8_i32_595 : BitVec 32 := 8#32
  let c0_i32_596 : BitVec 32 := 0#32
  let v963 : BitVec 1 := Scalar.cmpi .eq c8_i32_595 c0_i32_596
  let c1_i32_597 : BitVec 32 := 1#32
  let v964 : BitVec 32 := Scalar.select v963 c1_i32_597 c8_i32_595
  let v965 : BitVec 32 := Scalar.remsi v962 v964
  let c0_i32_599 : BitVec 32 := 0#32
  let v967 : BitVec 1 := Scalar.cmpi .slt v965 c0_i32_599
  let c0_i32_600 : BitVec 32 := 0#32
  let v968 : BitVec 1 := Scalar.cmpi .slt v964 c0_i32_600
  let v969 : BitVec 1 := Scalar.xori v967 v968
  let c0_i32_598 : BitVec 32 := 0#32
  let v966 : BitVec 1 := Scalar.cmpi .ne v965 c0_i32_598
  let v970 : BitVec 1 := Scalar.andi v969 v966
  let v971 : BitVec 32 := Scalar.addi v965 v964
  let v972 : BitVec 32 := Scalar.select v970 v971 v965
  let c4_i32_635 : BitVec 32 := 4#32
  let v1030 : BitVec 32 := Scalar.muli v972 c4_i32_635
  let c3_i32_636 : BitVec 32 := 3#32
  let v1031 : BitVec 32 := Scalar.addi v1030 c3_i32_636
  let v1040 : BitVec 1 := Scalar.cmpi .eq v1031 v2
  let v1041 : BitVec 32 := Scalar.extui v1040
  let c0_i32_642 : BitVec 32 := 0#32
  let v1042 : BitVec 1 := Scalar.cmpi .ne v1041 c0_i32_642
  v1042

def k0_off97 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1517 : Index := Scalar.indexCast v2
  let c0_1183 : Index := 0#32
  let c0_1184 : Index := 0#32
  ![v1517.toNat, 0, 0]
def k0_cond97 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_643 : BitVec 32 := 0#32
  let v1043 : BitVec 32 := Scalar.addi v19 c0_i32_643
  let c8_i32_644 : BitVec 32 := 8#32
  let c0_i32_645 : BitVec 32 := 0#32
  let v1044 : BitVec 1 := Scalar.cmpi .eq c8_i32_644 c0_i32_645
  let c1_i32_646 : BitVec 32 := 1#32
  let v1045 : BitVec 32 := Scalar.select v1044 c1_i32_646 c8_i32_644
  let v1046 : BitVec 32 := Scalar.remsi v1043 v1045
  let c0_i32_648 : BitVec 32 := 0#32
  let v1048 : BitVec 1 := Scalar.cmpi .slt v1046 c0_i32_648
  let c0_i32_649 : BitVec 32 := 0#32
  let v1049 : BitVec 1 := Scalar.cmpi .slt v1045 c0_i32_649
  let v1050 : BitVec 1 := Scalar.xori v1048 v1049
  let c0_i32_647 : BitVec 32 := 0#32
  let v1047 : BitVec 1 := Scalar.cmpi .ne v1046 c0_i32_647
  let v1051 : BitVec 1 := Scalar.andi v1050 v1047
  let v1052 : BitVec 32 := Scalar.addi v1046 v1045
  let v1053 : BitVec 32 := Scalar.select v1051 v1052 v1046
  let c4_i32_650 : BitVec 32 := 4#32
  let v1054 : BitVec 32 := Scalar.muli v1053 c4_i32_650
  let c0_i32_651 : BitVec 32 := 0#32
  let v1055 : BitVec 32 := Scalar.addi v1054 c0_i32_651
  let v1056 : BitVec 1 := Scalar.cmpi .ne v1055 v2
  let v1057 : BitVec 32 := Scalar.extui v1056
  let c0_i32_654 : BitVec 32 := 0#32
  let v1058 : BitVec 1 := Scalar.cmpi .ne v1057 c0_i32_654
  v1058

def k0_off98 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond98 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_643 : BitVec 32 := 0#32
  let v1043 : BitVec 32 := Scalar.addi v19 c0_i32_643
  let c8_i32_644 : BitVec 32 := 8#32
  let c0_i32_645 : BitVec 32 := 0#32
  let v1044 : BitVec 1 := Scalar.cmpi .eq c8_i32_644 c0_i32_645
  let c1_i32_646 : BitVec 32 := 1#32
  let v1045 : BitVec 32 := Scalar.select v1044 c1_i32_646 c8_i32_644
  let v1046 : BitVec 32 := Scalar.remsi v1043 v1045
  let c0_i32_648 : BitVec 32 := 0#32
  let v1048 : BitVec 1 := Scalar.cmpi .slt v1046 c0_i32_648
  let c0_i32_649 : BitVec 32 := 0#32
  let v1049 : BitVec 1 := Scalar.cmpi .slt v1045 c0_i32_649
  let v1050 : BitVec 1 := Scalar.xori v1048 v1049
  let c0_i32_647 : BitVec 32 := 0#32
  let v1047 : BitVec 1 := Scalar.cmpi .ne v1046 c0_i32_647
  let v1051 : BitVec 1 := Scalar.andi v1050 v1047
  let v1052 : BitVec 32 := Scalar.addi v1046 v1045
  let v1053 : BitVec 32 := Scalar.select v1051 v1052 v1046
  let c4_i32_655 : BitVec 32 := 4#32
  let v1059 : BitVec 32 := Scalar.muli v1053 c4_i32_655
  let c1_i32_656 : BitVec 32 := 1#32
  let v1060 : BitVec 32 := Scalar.addi v1059 c1_i32_656
  let v1061 : BitVec 1 := Scalar.cmpi .ne v1060 v2
  let v1062 : BitVec 32 := Scalar.extui v1061
  let c0_i32_659 : BitVec 32 := 0#32
  let v1063 : BitVec 1 := Scalar.cmpi .ne v1062 c0_i32_659
  v1063

def k0_off99 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond99 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_643 : BitVec 32 := 0#32
  let v1043 : BitVec 32 := Scalar.addi v19 c0_i32_643
  let c8_i32_644 : BitVec 32 := 8#32
  let c0_i32_645 : BitVec 32 := 0#32
  let v1044 : BitVec 1 := Scalar.cmpi .eq c8_i32_644 c0_i32_645
  let c1_i32_646 : BitVec 32 := 1#32
  let v1045 : BitVec 32 := Scalar.select v1044 c1_i32_646 c8_i32_644
  let v1046 : BitVec 32 := Scalar.remsi v1043 v1045
  let c0_i32_648 : BitVec 32 := 0#32
  let v1048 : BitVec 1 := Scalar.cmpi .slt v1046 c0_i32_648
  let c0_i32_649 : BitVec 32 := 0#32
  let v1049 : BitVec 1 := Scalar.cmpi .slt v1045 c0_i32_649
  let v1050 : BitVec 1 := Scalar.xori v1048 v1049
  let c0_i32_647 : BitVec 32 := 0#32
  let v1047 : BitVec 1 := Scalar.cmpi .ne v1046 c0_i32_647
  let v1051 : BitVec 1 := Scalar.andi v1050 v1047
  let v1052 : BitVec 32 := Scalar.addi v1046 v1045
  let v1053 : BitVec 32 := Scalar.select v1051 v1052 v1046
  let c4_i32_660 : BitVec 32 := 4#32
  let v1064 : BitVec 32 := Scalar.muli v1053 c4_i32_660
  let c2_i32_661 : BitVec 32 := 2#32
  let v1065 : BitVec 32 := Scalar.addi v1064 c2_i32_661
  let v1066 : BitVec 1 := Scalar.cmpi .ne v1065 v2
  let v1067 : BitVec 32 := Scalar.extui v1066
  let c0_i32_664 : BitVec 32 := 0#32
  let v1068 : BitVec 1 := Scalar.cmpi .ne v1067 c0_i32_664
  v1068

def k0_off100 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond100 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_643 : BitVec 32 := 0#32
  let v1043 : BitVec 32 := Scalar.addi v19 c0_i32_643
  let c8_i32_644 : BitVec 32 := 8#32
  let c0_i32_645 : BitVec 32 := 0#32
  let v1044 : BitVec 1 := Scalar.cmpi .eq c8_i32_644 c0_i32_645
  let c1_i32_646 : BitVec 32 := 1#32
  let v1045 : BitVec 32 := Scalar.select v1044 c1_i32_646 c8_i32_644
  let v1046 : BitVec 32 := Scalar.remsi v1043 v1045
  let c0_i32_648 : BitVec 32 := 0#32
  let v1048 : BitVec 1 := Scalar.cmpi .slt v1046 c0_i32_648
  let c0_i32_649 : BitVec 32 := 0#32
  let v1049 : BitVec 1 := Scalar.cmpi .slt v1045 c0_i32_649
  let v1050 : BitVec 1 := Scalar.xori v1048 v1049
  let c0_i32_647 : BitVec 32 := 0#32
  let v1047 : BitVec 1 := Scalar.cmpi .ne v1046 c0_i32_647
  let v1051 : BitVec 1 := Scalar.andi v1050 v1047
  let v1052 : BitVec 32 := Scalar.addi v1046 v1045
  let v1053 : BitVec 32 := Scalar.select v1051 v1052 v1046
  let c4_i32_665 : BitVec 32 := 4#32
  let v1069 : BitVec 32 := Scalar.muli v1053 c4_i32_665
  let c3_i32_666 : BitVec 32 := 3#32
  let v1070 : BitVec 32 := Scalar.addi v1069 c3_i32_666
  let v1071 : BitVec 1 := Scalar.cmpi .ne v1070 v2
  let v1072 : BitVec 32 := Scalar.extui v1071
  let c0_i32_669 : BitVec 32 := 0#32
  let v1073 : BitVec 1 := Scalar.cmpi .ne v1072 c0_i32_669
  v1073

def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond101 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_670 : BitVec 32 := 1#32
  let v1074 : BitVec 32 := Scalar.addi v19 c1_i32_670
  let c8_i32_671 : BitVec 32 := 8#32
  let c0_i32_672 : BitVec 32 := 0#32
  let v1075 : BitVec 1 := Scalar.cmpi .eq c8_i32_671 c0_i32_672
  let c1_i32_673 : BitVec 32 := 1#32
  let v1076 : BitVec 32 := Scalar.select v1075 c1_i32_673 c8_i32_671
  let v1077 : BitVec 32 := Scalar.remsi v1074 v1076
  let c0_i32_675 : BitVec 32 := 0#32
  let v1079 : BitVec 1 := Scalar.cmpi .slt v1077 c0_i32_675
  let c0_i32_676 : BitVec 32 := 0#32
  let v1080 : BitVec 1 := Scalar.cmpi .slt v1076 c0_i32_676
  let v1081 : BitVec 1 := Scalar.xori v1079 v1080
  let c0_i32_674 : BitVec 32 := 0#32
  let v1078 : BitVec 1 := Scalar.cmpi .ne v1077 c0_i32_674
  let v1082 : BitVec 1 := Scalar.andi v1081 v1078
  let v1083 : BitVec 32 := Scalar.addi v1077 v1076
  let v1084 : BitVec 32 := Scalar.select v1082 v1083 v1077
  let c4_i32_677 : BitVec 32 := 4#32
  let v1085 : BitVec 32 := Scalar.muli v1084 c4_i32_677
  let c0_i32_678 : BitVec 32 := 0#32
  let v1086 : BitVec 32 := Scalar.addi v1085 c0_i32_678
  let v1087 : BitVec 1 := Scalar.cmpi .ne v1086 v2
  let v1088 : BitVec 32 := Scalar.extui v1087
  let c0_i32_681 : BitVec 32 := 0#32
  let v1089 : BitVec 1 := Scalar.cmpi .ne v1088 c0_i32_681
  v1089

def k0_off102 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond102 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_670 : BitVec 32 := 1#32
  let v1074 : BitVec 32 := Scalar.addi v19 c1_i32_670
  let c8_i32_671 : BitVec 32 := 8#32
  let c0_i32_672 : BitVec 32 := 0#32
  let v1075 : BitVec 1 := Scalar.cmpi .eq c8_i32_671 c0_i32_672
  let c1_i32_673 : BitVec 32 := 1#32
  let v1076 : BitVec 32 := Scalar.select v1075 c1_i32_673 c8_i32_671
  let v1077 : BitVec 32 := Scalar.remsi v1074 v1076
  let c0_i32_675 : BitVec 32 := 0#32
  let v1079 : BitVec 1 := Scalar.cmpi .slt v1077 c0_i32_675
  let c0_i32_676 : BitVec 32 := 0#32
  let v1080 : BitVec 1 := Scalar.cmpi .slt v1076 c0_i32_676
  let v1081 : BitVec 1 := Scalar.xori v1079 v1080
  let c0_i32_674 : BitVec 32 := 0#32
  let v1078 : BitVec 1 := Scalar.cmpi .ne v1077 c0_i32_674
  let v1082 : BitVec 1 := Scalar.andi v1081 v1078
  let v1083 : BitVec 32 := Scalar.addi v1077 v1076
  let v1084 : BitVec 32 := Scalar.select v1082 v1083 v1077
  let c4_i32_682 : BitVec 32 := 4#32
  let v1090 : BitVec 32 := Scalar.muli v1084 c4_i32_682
  let c1_i32_683 : BitVec 32 := 1#32
  let v1091 : BitVec 32 := Scalar.addi v1090 c1_i32_683
  let v1092 : BitVec 1 := Scalar.cmpi .ne v1091 v2
  let v1093 : BitVec 32 := Scalar.extui v1092
  let c0_i32_686 : BitVec 32 := 0#32
  let v1094 : BitVec 1 := Scalar.cmpi .ne v1093 c0_i32_686
  v1094

def k0_off103 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond103 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_670 : BitVec 32 := 1#32
  let v1074 : BitVec 32 := Scalar.addi v19 c1_i32_670
  let c8_i32_671 : BitVec 32 := 8#32
  let c0_i32_672 : BitVec 32 := 0#32
  let v1075 : BitVec 1 := Scalar.cmpi .eq c8_i32_671 c0_i32_672
  let c1_i32_673 : BitVec 32 := 1#32
  let v1076 : BitVec 32 := Scalar.select v1075 c1_i32_673 c8_i32_671
  let v1077 : BitVec 32 := Scalar.remsi v1074 v1076
  let c0_i32_675 : BitVec 32 := 0#32
  let v1079 : BitVec 1 := Scalar.cmpi .slt v1077 c0_i32_675
  let c0_i32_676 : BitVec 32 := 0#32
  let v1080 : BitVec 1 := Scalar.cmpi .slt v1076 c0_i32_676
  let v1081 : BitVec 1 := Scalar.xori v1079 v1080
  let c0_i32_674 : BitVec 32 := 0#32
  let v1078 : BitVec 1 := Scalar.cmpi .ne v1077 c0_i32_674
  let v1082 : BitVec 1 := Scalar.andi v1081 v1078
  let v1083 : BitVec 32 := Scalar.addi v1077 v1076
  let v1084 : BitVec 32 := Scalar.select v1082 v1083 v1077
  let c4_i32_687 : BitVec 32 := 4#32
  let v1095 : BitVec 32 := Scalar.muli v1084 c4_i32_687
  let c2_i32_688 : BitVec 32 := 2#32
  let v1096 : BitVec 32 := Scalar.addi v1095 c2_i32_688
  let v1097 : BitVec 1 := Scalar.cmpi .ne v1096 v2
  let v1098 : BitVec 32 := Scalar.extui v1097
  let c0_i32_691 : BitVec 32 := 0#32
  let v1099 : BitVec 1 := Scalar.cmpi .ne v1098 c0_i32_691
  v1099

def k0_off104 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond104 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_670 : BitVec 32 := 1#32
  let v1074 : BitVec 32 := Scalar.addi v19 c1_i32_670
  let c8_i32_671 : BitVec 32 := 8#32
  let c0_i32_672 : BitVec 32 := 0#32
  let v1075 : BitVec 1 := Scalar.cmpi .eq c8_i32_671 c0_i32_672
  let c1_i32_673 : BitVec 32 := 1#32
  let v1076 : BitVec 32 := Scalar.select v1075 c1_i32_673 c8_i32_671
  let v1077 : BitVec 32 := Scalar.remsi v1074 v1076
  let c0_i32_675 : BitVec 32 := 0#32
  let v1079 : BitVec 1 := Scalar.cmpi .slt v1077 c0_i32_675
  let c0_i32_676 : BitVec 32 := 0#32
  let v1080 : BitVec 1 := Scalar.cmpi .slt v1076 c0_i32_676
  let v1081 : BitVec 1 := Scalar.xori v1079 v1080
  let c0_i32_674 : BitVec 32 := 0#32
  let v1078 : BitVec 1 := Scalar.cmpi .ne v1077 c0_i32_674
  let v1082 : BitVec 1 := Scalar.andi v1081 v1078
  let v1083 : BitVec 32 := Scalar.addi v1077 v1076
  let v1084 : BitVec 32 := Scalar.select v1082 v1083 v1077
  let c4_i32_692 : BitVec 32 := 4#32
  let v1100 : BitVec 32 := Scalar.muli v1084 c4_i32_692
  let c3_i32_693 : BitVec 32 := 3#32
  let v1101 : BitVec 32 := Scalar.addi v1100 c3_i32_693
  let v1102 : BitVec 1 := Scalar.cmpi .ne v1101 v2
  let v1103 : BitVec 32 := Scalar.extui v1102
  let c0_i32_696 : BitVec 32 := 0#32
  let v1104 : BitVec 1 := Scalar.cmpi .ne v1103 c0_i32_696
  v1104

def k0_off105 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond105 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_697 : BitVec 32 := 2#32
  let v1105 : BitVec 32 := Scalar.addi v19 c2_i32_697
  let c8_i32_698 : BitVec 32 := 8#32
  let c0_i32_699 : BitVec 32 := 0#32
  let v1106 : BitVec 1 := Scalar.cmpi .eq c8_i32_698 c0_i32_699
  let c1_i32_700 : BitVec 32 := 1#32
  let v1107 : BitVec 32 := Scalar.select v1106 c1_i32_700 c8_i32_698
  let v1108 : BitVec 32 := Scalar.remsi v1105 v1107
  let c0_i32_702 : BitVec 32 := 0#32
  let v1110 : BitVec 1 := Scalar.cmpi .slt v1108 c0_i32_702
  let c0_i32_703 : BitVec 32 := 0#32
  let v1111 : BitVec 1 := Scalar.cmpi .slt v1107 c0_i32_703
  let v1112 : BitVec 1 := Scalar.xori v1110 v1111
  let c0_i32_701 : BitVec 32 := 0#32
  let v1109 : BitVec 1 := Scalar.cmpi .ne v1108 c0_i32_701
  let v1113 : BitVec 1 := Scalar.andi v1112 v1109
  let v1114 : BitVec 32 := Scalar.addi v1108 v1107
  let v1115 : BitVec 32 := Scalar.select v1113 v1114 v1108
  let c4_i32_704 : BitVec 32 := 4#32
  let v1116 : BitVec 32 := Scalar.muli v1115 c4_i32_704
  let c0_i32_705 : BitVec 32 := 0#32
  let v1117 : BitVec 32 := Scalar.addi v1116 c0_i32_705
  let v1118 : BitVec 1 := Scalar.cmpi .ne v1117 v2
  let v1119 : BitVec 32 := Scalar.extui v1118
  let c0_i32_708 : BitVec 32 := 0#32
  let v1120 : BitVec 1 := Scalar.cmpi .ne v1119 c0_i32_708
  v1120

def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond106 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_697 : BitVec 32 := 2#32
  let v1105 : BitVec 32 := Scalar.addi v19 c2_i32_697
  let c8_i32_698 : BitVec 32 := 8#32
  let c0_i32_699 : BitVec 32 := 0#32
  let v1106 : BitVec 1 := Scalar.cmpi .eq c8_i32_698 c0_i32_699
  let c1_i32_700 : BitVec 32 := 1#32
  let v1107 : BitVec 32 := Scalar.select v1106 c1_i32_700 c8_i32_698
  let v1108 : BitVec 32 := Scalar.remsi v1105 v1107
  let c0_i32_702 : BitVec 32 := 0#32
  let v1110 : BitVec 1 := Scalar.cmpi .slt v1108 c0_i32_702
  let c0_i32_703 : BitVec 32 := 0#32
  let v1111 : BitVec 1 := Scalar.cmpi .slt v1107 c0_i32_703
  let v1112 : BitVec 1 := Scalar.xori v1110 v1111
  let c0_i32_701 : BitVec 32 := 0#32
  let v1109 : BitVec 1 := Scalar.cmpi .ne v1108 c0_i32_701
  let v1113 : BitVec 1 := Scalar.andi v1112 v1109
  let v1114 : BitVec 32 := Scalar.addi v1108 v1107
  let v1115 : BitVec 32 := Scalar.select v1113 v1114 v1108
  let c4_i32_709 : BitVec 32 := 4#32
  let v1121 : BitVec 32 := Scalar.muli v1115 c4_i32_709
  let c1_i32_710 : BitVec 32 := 1#32
  let v1122 : BitVec 32 := Scalar.addi v1121 c1_i32_710
  let v1123 : BitVec 1 := Scalar.cmpi .ne v1122 v2
  let v1124 : BitVec 32 := Scalar.extui v1123
  let c0_i32_713 : BitVec 32 := 0#32
  let v1125 : BitVec 1 := Scalar.cmpi .ne v1124 c0_i32_713
  v1125

def k0_off107 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond107 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_697 : BitVec 32 := 2#32
  let v1105 : BitVec 32 := Scalar.addi v19 c2_i32_697
  let c8_i32_698 : BitVec 32 := 8#32
  let c0_i32_699 : BitVec 32 := 0#32
  let v1106 : BitVec 1 := Scalar.cmpi .eq c8_i32_698 c0_i32_699
  let c1_i32_700 : BitVec 32 := 1#32
  let v1107 : BitVec 32 := Scalar.select v1106 c1_i32_700 c8_i32_698
  let v1108 : BitVec 32 := Scalar.remsi v1105 v1107
  let c0_i32_702 : BitVec 32 := 0#32
  let v1110 : BitVec 1 := Scalar.cmpi .slt v1108 c0_i32_702
  let c0_i32_703 : BitVec 32 := 0#32
  let v1111 : BitVec 1 := Scalar.cmpi .slt v1107 c0_i32_703
  let v1112 : BitVec 1 := Scalar.xori v1110 v1111
  let c0_i32_701 : BitVec 32 := 0#32
  let v1109 : BitVec 1 := Scalar.cmpi .ne v1108 c0_i32_701
  let v1113 : BitVec 1 := Scalar.andi v1112 v1109
  let v1114 : BitVec 32 := Scalar.addi v1108 v1107
  let v1115 : BitVec 32 := Scalar.select v1113 v1114 v1108
  let c4_i32_714 : BitVec 32 := 4#32
  let v1126 : BitVec 32 := Scalar.muli v1115 c4_i32_714
  let c2_i32_715 : BitVec 32 := 2#32
  let v1127 : BitVec 32 := Scalar.addi v1126 c2_i32_715
  let v1128 : BitVec 1 := Scalar.cmpi .ne v1127 v2
  let v1129 : BitVec 32 := Scalar.extui v1128
  let c0_i32_718 : BitVec 32 := 0#32
  let v1130 : BitVec 1 := Scalar.cmpi .ne v1129 c0_i32_718
  v1130

def k0_off108 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond108 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_697 : BitVec 32 := 2#32
  let v1105 : BitVec 32 := Scalar.addi v19 c2_i32_697
  let c8_i32_698 : BitVec 32 := 8#32
  let c0_i32_699 : BitVec 32 := 0#32
  let v1106 : BitVec 1 := Scalar.cmpi .eq c8_i32_698 c0_i32_699
  let c1_i32_700 : BitVec 32 := 1#32
  let v1107 : BitVec 32 := Scalar.select v1106 c1_i32_700 c8_i32_698
  let v1108 : BitVec 32 := Scalar.remsi v1105 v1107
  let c0_i32_702 : BitVec 32 := 0#32
  let v1110 : BitVec 1 := Scalar.cmpi .slt v1108 c0_i32_702
  let c0_i32_703 : BitVec 32 := 0#32
  let v1111 : BitVec 1 := Scalar.cmpi .slt v1107 c0_i32_703
  let v1112 : BitVec 1 := Scalar.xori v1110 v1111
  let c0_i32_701 : BitVec 32 := 0#32
  let v1109 : BitVec 1 := Scalar.cmpi .ne v1108 c0_i32_701
  let v1113 : BitVec 1 := Scalar.andi v1112 v1109
  let v1114 : BitVec 32 := Scalar.addi v1108 v1107
  let v1115 : BitVec 32 := Scalar.select v1113 v1114 v1108
  let c4_i32_719 : BitVec 32 := 4#32
  let v1131 : BitVec 32 := Scalar.muli v1115 c4_i32_719
  let c3_i32_720 : BitVec 32 := 3#32
  let v1132 : BitVec 32 := Scalar.addi v1131 c3_i32_720
  let v1133 : BitVec 1 := Scalar.cmpi .ne v1132 v2
  let v1134 : BitVec 32 := Scalar.extui v1133
  let c0_i32_723 : BitVec 32 := 0#32
  let v1135 : BitVec 1 := Scalar.cmpi .ne v1134 c0_i32_723
  v1135

def k0_off109 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond109 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_724 : BitVec 32 := 3#32
  let v1136 : BitVec 32 := Scalar.addi v19 c3_i32_724
  let c8_i32_725 : BitVec 32 := 8#32
  let c0_i32_726 : BitVec 32 := 0#32
  let v1137 : BitVec 1 := Scalar.cmpi .eq c8_i32_725 c0_i32_726
  let c1_i32_727 : BitVec 32 := 1#32
  let v1138 : BitVec 32 := Scalar.select v1137 c1_i32_727 c8_i32_725
  let v1139 : BitVec 32 := Scalar.remsi v1136 v1138
  let c0_i32_729 : BitVec 32 := 0#32
  let v1141 : BitVec 1 := Scalar.cmpi .slt v1139 c0_i32_729
  let c0_i32_730 : BitVec 32 := 0#32
  let v1142 : BitVec 1 := Scalar.cmpi .slt v1138 c0_i32_730
  let v1143 : BitVec 1 := Scalar.xori v1141 v1142
  let c0_i32_728 : BitVec 32 := 0#32
  let v1140 : BitVec 1 := Scalar.cmpi .ne v1139 c0_i32_728
  let v1144 : BitVec 1 := Scalar.andi v1143 v1140
  let v1145 : BitVec 32 := Scalar.addi v1139 v1138
  let v1146 : BitVec 32 := Scalar.select v1144 v1145 v1139
  let c4_i32_731 : BitVec 32 := 4#32
  let v1147 : BitVec 32 := Scalar.muli v1146 c4_i32_731
  let c0_i32_732 : BitVec 32 := 0#32
  let v1148 : BitVec 32 := Scalar.addi v1147 c0_i32_732
  let v1149 : BitVec 1 := Scalar.cmpi .ne v1148 v2
  let v1150 : BitVec 32 := Scalar.extui v1149
  let c0_i32_735 : BitVec 32 := 0#32
  let v1151 : BitVec 1 := Scalar.cmpi .ne v1150 c0_i32_735
  v1151

def k0_off110 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond110 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_724 : BitVec 32 := 3#32
  let v1136 : BitVec 32 := Scalar.addi v19 c3_i32_724
  let c8_i32_725 : BitVec 32 := 8#32
  let c0_i32_726 : BitVec 32 := 0#32
  let v1137 : BitVec 1 := Scalar.cmpi .eq c8_i32_725 c0_i32_726
  let c1_i32_727 : BitVec 32 := 1#32
  let v1138 : BitVec 32 := Scalar.select v1137 c1_i32_727 c8_i32_725
  let v1139 : BitVec 32 := Scalar.remsi v1136 v1138
  let c0_i32_729 : BitVec 32 := 0#32
  let v1141 : BitVec 1 := Scalar.cmpi .slt v1139 c0_i32_729
  let c0_i32_730 : BitVec 32 := 0#32
  let v1142 : BitVec 1 := Scalar.cmpi .slt v1138 c0_i32_730
  let v1143 : BitVec 1 := Scalar.xori v1141 v1142
  let c0_i32_728 : BitVec 32 := 0#32
  let v1140 : BitVec 1 := Scalar.cmpi .ne v1139 c0_i32_728
  let v1144 : BitVec 1 := Scalar.andi v1143 v1140
  let v1145 : BitVec 32 := Scalar.addi v1139 v1138
  let v1146 : BitVec 32 := Scalar.select v1144 v1145 v1139
  let c4_i32_736 : BitVec 32 := 4#32
  let v1152 : BitVec 32 := Scalar.muli v1146 c4_i32_736
  let c1_i32_737 : BitVec 32 := 1#32
  let v1153 : BitVec 32 := Scalar.addi v1152 c1_i32_737
  let v1154 : BitVec 1 := Scalar.cmpi .ne v1153 v2
  let v1155 : BitVec 32 := Scalar.extui v1154
  let c0_i32_740 : BitVec 32 := 0#32
  let v1156 : BitVec 1 := Scalar.cmpi .ne v1155 c0_i32_740
  v1156

def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond111 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_724 : BitVec 32 := 3#32
  let v1136 : BitVec 32 := Scalar.addi v19 c3_i32_724
  let c8_i32_725 : BitVec 32 := 8#32
  let c0_i32_726 : BitVec 32 := 0#32
  let v1137 : BitVec 1 := Scalar.cmpi .eq c8_i32_725 c0_i32_726
  let c1_i32_727 : BitVec 32 := 1#32
  let v1138 : BitVec 32 := Scalar.select v1137 c1_i32_727 c8_i32_725
  let v1139 : BitVec 32 := Scalar.remsi v1136 v1138
  let c0_i32_729 : BitVec 32 := 0#32
  let v1141 : BitVec 1 := Scalar.cmpi .slt v1139 c0_i32_729
  let c0_i32_730 : BitVec 32 := 0#32
  let v1142 : BitVec 1 := Scalar.cmpi .slt v1138 c0_i32_730
  let v1143 : BitVec 1 := Scalar.xori v1141 v1142
  let c0_i32_728 : BitVec 32 := 0#32
  let v1140 : BitVec 1 := Scalar.cmpi .ne v1139 c0_i32_728
  let v1144 : BitVec 1 := Scalar.andi v1143 v1140
  let v1145 : BitVec 32 := Scalar.addi v1139 v1138
  let v1146 : BitVec 32 := Scalar.select v1144 v1145 v1139
  let c4_i32_741 : BitVec 32 := 4#32
  let v1157 : BitVec 32 := Scalar.muli v1146 c4_i32_741
  let c2_i32_742 : BitVec 32 := 2#32
  let v1158 : BitVec 32 := Scalar.addi v1157 c2_i32_742
  let v1159 : BitVec 1 := Scalar.cmpi .ne v1158 v2
  let v1160 : BitVec 32 := Scalar.extui v1159
  let c0_i32_745 : BitVec 32 := 0#32
  let v1161 : BitVec 1 := Scalar.cmpi .ne v1160 c0_i32_745
  v1161

def k0_off112 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond112 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_724 : BitVec 32 := 3#32
  let v1136 : BitVec 32 := Scalar.addi v19 c3_i32_724
  let c8_i32_725 : BitVec 32 := 8#32
  let c0_i32_726 : BitVec 32 := 0#32
  let v1137 : BitVec 1 := Scalar.cmpi .eq c8_i32_725 c0_i32_726
  let c1_i32_727 : BitVec 32 := 1#32
  let v1138 : BitVec 32 := Scalar.select v1137 c1_i32_727 c8_i32_725
  let v1139 : BitVec 32 := Scalar.remsi v1136 v1138
  let c0_i32_729 : BitVec 32 := 0#32
  let v1141 : BitVec 1 := Scalar.cmpi .slt v1139 c0_i32_729
  let c0_i32_730 : BitVec 32 := 0#32
  let v1142 : BitVec 1 := Scalar.cmpi .slt v1138 c0_i32_730
  let v1143 : BitVec 1 := Scalar.xori v1141 v1142
  let c0_i32_728 : BitVec 32 := 0#32
  let v1140 : BitVec 1 := Scalar.cmpi .ne v1139 c0_i32_728
  let v1144 : BitVec 1 := Scalar.andi v1143 v1140
  let v1145 : BitVec 32 := Scalar.addi v1139 v1138
  let v1146 : BitVec 32 := Scalar.select v1144 v1145 v1139
  let c4_i32_746 : BitVec 32 := 4#32
  let v1162 : BitVec 32 := Scalar.muli v1146 c4_i32_746
  let c3_i32_747 : BitVec 32 := 3#32
  let v1163 : BitVec 32 := Scalar.addi v1162 c3_i32_747
  let v1164 : BitVec 1 := Scalar.cmpi .ne v1163 v2
  let v1165 : BitVec 32 := Scalar.extui v1164
  let c0_i32_750 : BitVec 32 := 0#32
  let v1166 : BitVec 1 := Scalar.cmpi .ne v1165 c0_i32_750
  v1166

def k0_off113 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond113 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_751 : BitVec 32 := 4#32
  let v1167 : BitVec 32 := Scalar.addi v19 c4_i32_751
  let c8_i32_752 : BitVec 32 := 8#32
  let c0_i32_753 : BitVec 32 := 0#32
  let v1168 : BitVec 1 := Scalar.cmpi .eq c8_i32_752 c0_i32_753
  let c1_i32_754 : BitVec 32 := 1#32
  let v1169 : BitVec 32 := Scalar.select v1168 c1_i32_754 c8_i32_752
  let v1170 : BitVec 32 := Scalar.remsi v1167 v1169
  let c0_i32_756 : BitVec 32 := 0#32
  let v1172 : BitVec 1 := Scalar.cmpi .slt v1170 c0_i32_756
  let c0_i32_757 : BitVec 32 := 0#32
  let v1173 : BitVec 1 := Scalar.cmpi .slt v1169 c0_i32_757
  let v1174 : BitVec 1 := Scalar.xori v1172 v1173
  let c0_i32_755 : BitVec 32 := 0#32
  let v1171 : BitVec 1 := Scalar.cmpi .ne v1170 c0_i32_755
  let v1175 : BitVec 1 := Scalar.andi v1174 v1171
  let v1176 : BitVec 32 := Scalar.addi v1170 v1169
  let v1177 : BitVec 32 := Scalar.select v1175 v1176 v1170
  let c4_i32_758 : BitVec 32 := 4#32
  let v1178 : BitVec 32 := Scalar.muli v1177 c4_i32_758
  let c0_i32_759 : BitVec 32 := 0#32
  let v1179 : BitVec 32 := Scalar.addi v1178 c0_i32_759
  let v1180 : BitVec 1 := Scalar.cmpi .ne v1179 v2
  let v1181 : BitVec 32 := Scalar.extui v1180
  let c0_i32_762 : BitVec 32 := 0#32
  let v1182 : BitVec 1 := Scalar.cmpi .ne v1181 c0_i32_762
  v1182

def k0_off114 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond114 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_751 : BitVec 32 := 4#32
  let v1167 : BitVec 32 := Scalar.addi v19 c4_i32_751
  let c8_i32_752 : BitVec 32 := 8#32
  let c0_i32_753 : BitVec 32 := 0#32
  let v1168 : BitVec 1 := Scalar.cmpi .eq c8_i32_752 c0_i32_753
  let c1_i32_754 : BitVec 32 := 1#32
  let v1169 : BitVec 32 := Scalar.select v1168 c1_i32_754 c8_i32_752
  let v1170 : BitVec 32 := Scalar.remsi v1167 v1169
  let c0_i32_756 : BitVec 32 := 0#32
  let v1172 : BitVec 1 := Scalar.cmpi .slt v1170 c0_i32_756
  let c0_i32_757 : BitVec 32 := 0#32
  let v1173 : BitVec 1 := Scalar.cmpi .slt v1169 c0_i32_757
  let v1174 : BitVec 1 := Scalar.xori v1172 v1173
  let c0_i32_755 : BitVec 32 := 0#32
  let v1171 : BitVec 1 := Scalar.cmpi .ne v1170 c0_i32_755
  let v1175 : BitVec 1 := Scalar.andi v1174 v1171
  let v1176 : BitVec 32 := Scalar.addi v1170 v1169
  let v1177 : BitVec 32 := Scalar.select v1175 v1176 v1170
  let c4_i32_763 : BitVec 32 := 4#32
  let v1183 : BitVec 32 := Scalar.muli v1177 c4_i32_763
  let c1_i32_764 : BitVec 32 := 1#32
  let v1184 : BitVec 32 := Scalar.addi v1183 c1_i32_764
  let v1185 : BitVec 1 := Scalar.cmpi .ne v1184 v2
  let v1186 : BitVec 32 := Scalar.extui v1185
  let c0_i32_767 : BitVec 32 := 0#32
  let v1187 : BitVec 1 := Scalar.cmpi .ne v1186 c0_i32_767
  v1187

def k0_off115 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond115 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_751 : BitVec 32 := 4#32
  let v1167 : BitVec 32 := Scalar.addi v19 c4_i32_751
  let c8_i32_752 : BitVec 32 := 8#32
  let c0_i32_753 : BitVec 32 := 0#32
  let v1168 : BitVec 1 := Scalar.cmpi .eq c8_i32_752 c0_i32_753
  let c1_i32_754 : BitVec 32 := 1#32
  let v1169 : BitVec 32 := Scalar.select v1168 c1_i32_754 c8_i32_752
  let v1170 : BitVec 32 := Scalar.remsi v1167 v1169
  let c0_i32_756 : BitVec 32 := 0#32
  let v1172 : BitVec 1 := Scalar.cmpi .slt v1170 c0_i32_756
  let c0_i32_757 : BitVec 32 := 0#32
  let v1173 : BitVec 1 := Scalar.cmpi .slt v1169 c0_i32_757
  let v1174 : BitVec 1 := Scalar.xori v1172 v1173
  let c0_i32_755 : BitVec 32 := 0#32
  let v1171 : BitVec 1 := Scalar.cmpi .ne v1170 c0_i32_755
  let v1175 : BitVec 1 := Scalar.andi v1174 v1171
  let v1176 : BitVec 32 := Scalar.addi v1170 v1169
  let v1177 : BitVec 32 := Scalar.select v1175 v1176 v1170
  let c4_i32_768 : BitVec 32 := 4#32
  let v1188 : BitVec 32 := Scalar.muli v1177 c4_i32_768
  let c2_i32_769 : BitVec 32 := 2#32
  let v1189 : BitVec 32 := Scalar.addi v1188 c2_i32_769
  let v1190 : BitVec 1 := Scalar.cmpi .ne v1189 v2
  let v1191 : BitVec 32 := Scalar.extui v1190
  let c0_i32_772 : BitVec 32 := 0#32
  let v1192 : BitVec 1 := Scalar.cmpi .ne v1191 c0_i32_772
  v1192

def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond116 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_751 : BitVec 32 := 4#32
  let v1167 : BitVec 32 := Scalar.addi v19 c4_i32_751
  let c8_i32_752 : BitVec 32 := 8#32
  let c0_i32_753 : BitVec 32 := 0#32
  let v1168 : BitVec 1 := Scalar.cmpi .eq c8_i32_752 c0_i32_753
  let c1_i32_754 : BitVec 32 := 1#32
  let v1169 : BitVec 32 := Scalar.select v1168 c1_i32_754 c8_i32_752
  let v1170 : BitVec 32 := Scalar.remsi v1167 v1169
  let c0_i32_756 : BitVec 32 := 0#32
  let v1172 : BitVec 1 := Scalar.cmpi .slt v1170 c0_i32_756
  let c0_i32_757 : BitVec 32 := 0#32
  let v1173 : BitVec 1 := Scalar.cmpi .slt v1169 c0_i32_757
  let v1174 : BitVec 1 := Scalar.xori v1172 v1173
  let c0_i32_755 : BitVec 32 := 0#32
  let v1171 : BitVec 1 := Scalar.cmpi .ne v1170 c0_i32_755
  let v1175 : BitVec 1 := Scalar.andi v1174 v1171
  let v1176 : BitVec 32 := Scalar.addi v1170 v1169
  let v1177 : BitVec 32 := Scalar.select v1175 v1176 v1170
  let c4_i32_773 : BitVec 32 := 4#32
  let v1193 : BitVec 32 := Scalar.muli v1177 c4_i32_773
  let c3_i32_774 : BitVec 32 := 3#32
  let v1194 : BitVec 32 := Scalar.addi v1193 c3_i32_774
  let v1195 : BitVec 1 := Scalar.cmpi .ne v1194 v2
  let v1196 : BitVec 32 := Scalar.extui v1195
  let c0_i32_777 : BitVec 32 := 0#32
  let v1197 : BitVec 1 := Scalar.cmpi .ne v1196 c0_i32_777
  v1197

def k0_off117 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond117 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_778 : BitVec 32 := 5#32
  let v1198 : BitVec 32 := Scalar.addi v19 c5_i32_778
  let c8_i32_779 : BitVec 32 := 8#32
  let c0_i32_780 : BitVec 32 := 0#32
  let v1199 : BitVec 1 := Scalar.cmpi .eq c8_i32_779 c0_i32_780
  let c1_i32_781 : BitVec 32 := 1#32
  let v1200 : BitVec 32 := Scalar.select v1199 c1_i32_781 c8_i32_779
  let v1201 : BitVec 32 := Scalar.remsi v1198 v1200
  let c0_i32_783 : BitVec 32 := 0#32
  let v1203 : BitVec 1 := Scalar.cmpi .slt v1201 c0_i32_783
  let c0_i32_784 : BitVec 32 := 0#32
  let v1204 : BitVec 1 := Scalar.cmpi .slt v1200 c0_i32_784
  let v1205 : BitVec 1 := Scalar.xori v1203 v1204
  let c0_i32_782 : BitVec 32 := 0#32
  let v1202 : BitVec 1 := Scalar.cmpi .ne v1201 c0_i32_782
  let v1206 : BitVec 1 := Scalar.andi v1205 v1202
  let v1207 : BitVec 32 := Scalar.addi v1201 v1200
  let v1208 : BitVec 32 := Scalar.select v1206 v1207 v1201
  let c4_i32_785 : BitVec 32 := 4#32
  let v1209 : BitVec 32 := Scalar.muli v1208 c4_i32_785
  let c0_i32_786 : BitVec 32 := 0#32
  let v1210 : BitVec 32 := Scalar.addi v1209 c0_i32_786
  let v1211 : BitVec 1 := Scalar.cmpi .ne v1210 v2
  let v1212 : BitVec 32 := Scalar.extui v1211
  let c0_i32_789 : BitVec 32 := 0#32
  let v1213 : BitVec 1 := Scalar.cmpi .ne v1212 c0_i32_789
  v1213

def k0_off118 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond118 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_778 : BitVec 32 := 5#32
  let v1198 : BitVec 32 := Scalar.addi v19 c5_i32_778
  let c8_i32_779 : BitVec 32 := 8#32
  let c0_i32_780 : BitVec 32 := 0#32
  let v1199 : BitVec 1 := Scalar.cmpi .eq c8_i32_779 c0_i32_780
  let c1_i32_781 : BitVec 32 := 1#32
  let v1200 : BitVec 32 := Scalar.select v1199 c1_i32_781 c8_i32_779
  let v1201 : BitVec 32 := Scalar.remsi v1198 v1200
  let c0_i32_783 : BitVec 32 := 0#32
  let v1203 : BitVec 1 := Scalar.cmpi .slt v1201 c0_i32_783
  let c0_i32_784 : BitVec 32 := 0#32
  let v1204 : BitVec 1 := Scalar.cmpi .slt v1200 c0_i32_784
  let v1205 : BitVec 1 := Scalar.xori v1203 v1204
  let c0_i32_782 : BitVec 32 := 0#32
  let v1202 : BitVec 1 := Scalar.cmpi .ne v1201 c0_i32_782
  let v1206 : BitVec 1 := Scalar.andi v1205 v1202
  let v1207 : BitVec 32 := Scalar.addi v1201 v1200
  let v1208 : BitVec 32 := Scalar.select v1206 v1207 v1201
  let c4_i32_790 : BitVec 32 := 4#32
  let v1214 : BitVec 32 := Scalar.muli v1208 c4_i32_790
  let c1_i32_791 : BitVec 32 := 1#32
  let v1215 : BitVec 32 := Scalar.addi v1214 c1_i32_791
  let v1216 : BitVec 1 := Scalar.cmpi .ne v1215 v2
  let v1217 : BitVec 32 := Scalar.extui v1216
  let c0_i32_794 : BitVec 32 := 0#32
  let v1218 : BitVec 1 := Scalar.cmpi .ne v1217 c0_i32_794
  v1218

def k0_off119 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond119 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_778 : BitVec 32 := 5#32
  let v1198 : BitVec 32 := Scalar.addi v19 c5_i32_778
  let c8_i32_779 : BitVec 32 := 8#32
  let c0_i32_780 : BitVec 32 := 0#32
  let v1199 : BitVec 1 := Scalar.cmpi .eq c8_i32_779 c0_i32_780
  let c1_i32_781 : BitVec 32 := 1#32
  let v1200 : BitVec 32 := Scalar.select v1199 c1_i32_781 c8_i32_779
  let v1201 : BitVec 32 := Scalar.remsi v1198 v1200
  let c0_i32_783 : BitVec 32 := 0#32
  let v1203 : BitVec 1 := Scalar.cmpi .slt v1201 c0_i32_783
  let c0_i32_784 : BitVec 32 := 0#32
  let v1204 : BitVec 1 := Scalar.cmpi .slt v1200 c0_i32_784
  let v1205 : BitVec 1 := Scalar.xori v1203 v1204
  let c0_i32_782 : BitVec 32 := 0#32
  let v1202 : BitVec 1 := Scalar.cmpi .ne v1201 c0_i32_782
  let v1206 : BitVec 1 := Scalar.andi v1205 v1202
  let v1207 : BitVec 32 := Scalar.addi v1201 v1200
  let v1208 : BitVec 32 := Scalar.select v1206 v1207 v1201
  let c4_i32_795 : BitVec 32 := 4#32
  let v1219 : BitVec 32 := Scalar.muli v1208 c4_i32_795
  let c2_i32_796 : BitVec 32 := 2#32
  let v1220 : BitVec 32 := Scalar.addi v1219 c2_i32_796
  let v1221 : BitVec 1 := Scalar.cmpi .ne v1220 v2
  let v1222 : BitVec 32 := Scalar.extui v1221
  let c0_i32_799 : BitVec 32 := 0#32
  let v1223 : BitVec 1 := Scalar.cmpi .ne v1222 c0_i32_799
  v1223

def k0_off120 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond120 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c5_i32_778 : BitVec 32 := 5#32
  let v1198 : BitVec 32 := Scalar.addi v19 c5_i32_778
  let c8_i32_779 : BitVec 32 := 8#32
  let c0_i32_780 : BitVec 32 := 0#32
  let v1199 : BitVec 1 := Scalar.cmpi .eq c8_i32_779 c0_i32_780
  let c1_i32_781 : BitVec 32 := 1#32
  let v1200 : BitVec 32 := Scalar.select v1199 c1_i32_781 c8_i32_779
  let v1201 : BitVec 32 := Scalar.remsi v1198 v1200
  let c0_i32_783 : BitVec 32 := 0#32
  let v1203 : BitVec 1 := Scalar.cmpi .slt v1201 c0_i32_783
  let c0_i32_784 : BitVec 32 := 0#32
  let v1204 : BitVec 1 := Scalar.cmpi .slt v1200 c0_i32_784
  let v1205 : BitVec 1 := Scalar.xori v1203 v1204
  let c0_i32_782 : BitVec 32 := 0#32
  let v1202 : BitVec 1 := Scalar.cmpi .ne v1201 c0_i32_782
  let v1206 : BitVec 1 := Scalar.andi v1205 v1202
  let v1207 : BitVec 32 := Scalar.addi v1201 v1200
  let v1208 : BitVec 32 := Scalar.select v1206 v1207 v1201
  let c4_i32_800 : BitVec 32 := 4#32
  let v1224 : BitVec 32 := Scalar.muli v1208 c4_i32_800
  let c3_i32_801 : BitVec 32 := 3#32
  let v1225 : BitVec 32 := Scalar.addi v1224 c3_i32_801
  let v1226 : BitVec 1 := Scalar.cmpi .ne v1225 v2
  let v1227 : BitVec 32 := Scalar.extui v1226
  let c0_i32_804 : BitVec 32 := 0#32
  let v1228 : BitVec 1 := Scalar.cmpi .ne v1227 c0_i32_804
  v1228

def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond121 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_805 : BitVec 32 := 6#32
  let v1229 : BitVec 32 := Scalar.addi v19 c6_i32_805
  let c8_i32_806 : BitVec 32 := 8#32
  let c0_i32_807 : BitVec 32 := 0#32
  let v1230 : BitVec 1 := Scalar.cmpi .eq c8_i32_806 c0_i32_807
  let c1_i32_808 : BitVec 32 := 1#32
  let v1231 : BitVec 32 := Scalar.select v1230 c1_i32_808 c8_i32_806
  let v1232 : BitVec 32 := Scalar.remsi v1229 v1231
  let c0_i32_810 : BitVec 32 := 0#32
  let v1234 : BitVec 1 := Scalar.cmpi .slt v1232 c0_i32_810
  let c0_i32_811 : BitVec 32 := 0#32
  let v1235 : BitVec 1 := Scalar.cmpi .slt v1231 c0_i32_811
  let v1236 : BitVec 1 := Scalar.xori v1234 v1235
  let c0_i32_809 : BitVec 32 := 0#32
  let v1233 : BitVec 1 := Scalar.cmpi .ne v1232 c0_i32_809
  let v1237 : BitVec 1 := Scalar.andi v1236 v1233
  let v1238 : BitVec 32 := Scalar.addi v1232 v1231
  let v1239 : BitVec 32 := Scalar.select v1237 v1238 v1232
  let c4_i32_812 : BitVec 32 := 4#32
  let v1240 : BitVec 32 := Scalar.muli v1239 c4_i32_812
  let c0_i32_813 : BitVec 32 := 0#32
  let v1241 : BitVec 32 := Scalar.addi v1240 c0_i32_813
  let v1242 : BitVec 1 := Scalar.cmpi .ne v1241 v2
  let v1243 : BitVec 32 := Scalar.extui v1242
  let c0_i32_816 : BitVec 32 := 0#32
  let v1244 : BitVec 1 := Scalar.cmpi .ne v1243 c0_i32_816
  v1244

def k0_off122 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond122 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_805 : BitVec 32 := 6#32
  let v1229 : BitVec 32 := Scalar.addi v19 c6_i32_805
  let c8_i32_806 : BitVec 32 := 8#32
  let c0_i32_807 : BitVec 32 := 0#32
  let v1230 : BitVec 1 := Scalar.cmpi .eq c8_i32_806 c0_i32_807
  let c1_i32_808 : BitVec 32 := 1#32
  let v1231 : BitVec 32 := Scalar.select v1230 c1_i32_808 c8_i32_806
  let v1232 : BitVec 32 := Scalar.remsi v1229 v1231
  let c0_i32_810 : BitVec 32 := 0#32
  let v1234 : BitVec 1 := Scalar.cmpi .slt v1232 c0_i32_810
  let c0_i32_811 : BitVec 32 := 0#32
  let v1235 : BitVec 1 := Scalar.cmpi .slt v1231 c0_i32_811
  let v1236 : BitVec 1 := Scalar.xori v1234 v1235
  let c0_i32_809 : BitVec 32 := 0#32
  let v1233 : BitVec 1 := Scalar.cmpi .ne v1232 c0_i32_809
  let v1237 : BitVec 1 := Scalar.andi v1236 v1233
  let v1238 : BitVec 32 := Scalar.addi v1232 v1231
  let v1239 : BitVec 32 := Scalar.select v1237 v1238 v1232
  let c4_i32_817 : BitVec 32 := 4#32
  let v1245 : BitVec 32 := Scalar.muli v1239 c4_i32_817
  let c1_i32_818 : BitVec 32 := 1#32
  let v1246 : BitVec 32 := Scalar.addi v1245 c1_i32_818
  let v1247 : BitVec 1 := Scalar.cmpi .ne v1246 v2
  let v1248 : BitVec 32 := Scalar.extui v1247
  let c0_i32_821 : BitVec 32 := 0#32
  let v1249 : BitVec 1 := Scalar.cmpi .ne v1248 c0_i32_821
  v1249

def k0_off123 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond123 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_805 : BitVec 32 := 6#32
  let v1229 : BitVec 32 := Scalar.addi v19 c6_i32_805
  let c8_i32_806 : BitVec 32 := 8#32
  let c0_i32_807 : BitVec 32 := 0#32
  let v1230 : BitVec 1 := Scalar.cmpi .eq c8_i32_806 c0_i32_807
  let c1_i32_808 : BitVec 32 := 1#32
  let v1231 : BitVec 32 := Scalar.select v1230 c1_i32_808 c8_i32_806
  let v1232 : BitVec 32 := Scalar.remsi v1229 v1231
  let c0_i32_810 : BitVec 32 := 0#32
  let v1234 : BitVec 1 := Scalar.cmpi .slt v1232 c0_i32_810
  let c0_i32_811 : BitVec 32 := 0#32
  let v1235 : BitVec 1 := Scalar.cmpi .slt v1231 c0_i32_811
  let v1236 : BitVec 1 := Scalar.xori v1234 v1235
  let c0_i32_809 : BitVec 32 := 0#32
  let v1233 : BitVec 1 := Scalar.cmpi .ne v1232 c0_i32_809
  let v1237 : BitVec 1 := Scalar.andi v1236 v1233
  let v1238 : BitVec 32 := Scalar.addi v1232 v1231
  let v1239 : BitVec 32 := Scalar.select v1237 v1238 v1232
  let c4_i32_822 : BitVec 32 := 4#32
  let v1250 : BitVec 32 := Scalar.muli v1239 c4_i32_822
  let c2_i32_823 : BitVec 32 := 2#32
  let v1251 : BitVec 32 := Scalar.addi v1250 c2_i32_823
  let v1252 : BitVec 1 := Scalar.cmpi .ne v1251 v2
  let v1253 : BitVec 32 := Scalar.extui v1252
  let c0_i32_826 : BitVec 32 := 0#32
  let v1254 : BitVec 1 := Scalar.cmpi .ne v1253 c0_i32_826
  v1254

def k0_off124 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond124 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c6_i32_805 : BitVec 32 := 6#32
  let v1229 : BitVec 32 := Scalar.addi v19 c6_i32_805
  let c8_i32_806 : BitVec 32 := 8#32
  let c0_i32_807 : BitVec 32 := 0#32
  let v1230 : BitVec 1 := Scalar.cmpi .eq c8_i32_806 c0_i32_807
  let c1_i32_808 : BitVec 32 := 1#32
  let v1231 : BitVec 32 := Scalar.select v1230 c1_i32_808 c8_i32_806
  let v1232 : BitVec 32 := Scalar.remsi v1229 v1231
  let c0_i32_810 : BitVec 32 := 0#32
  let v1234 : BitVec 1 := Scalar.cmpi .slt v1232 c0_i32_810
  let c0_i32_811 : BitVec 32 := 0#32
  let v1235 : BitVec 1 := Scalar.cmpi .slt v1231 c0_i32_811
  let v1236 : BitVec 1 := Scalar.xori v1234 v1235
  let c0_i32_809 : BitVec 32 := 0#32
  let v1233 : BitVec 1 := Scalar.cmpi .ne v1232 c0_i32_809
  let v1237 : BitVec 1 := Scalar.andi v1236 v1233
  let v1238 : BitVec 32 := Scalar.addi v1232 v1231
  let v1239 : BitVec 32 := Scalar.select v1237 v1238 v1232
  let c4_i32_827 : BitVec 32 := 4#32
  let v1255 : BitVec 32 := Scalar.muli v1239 c4_i32_827
  let c3_i32_828 : BitVec 32 := 3#32
  let v1256 : BitVec 32 := Scalar.addi v1255 c3_i32_828
  let v1257 : BitVec 1 := Scalar.cmpi .ne v1256 v2
  let v1258 : BitVec 32 := Scalar.extui v1257
  let c0_i32_831 : BitVec 32 := 0#32
  let v1259 : BitVec 1 := Scalar.cmpi .ne v1258 c0_i32_831
  v1259

def k0_off125 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond125 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_832 : BitVec 32 := 7#32
  let v1260 : BitVec 32 := Scalar.addi v19 c7_i32_832
  let c8_i32_833 : BitVec 32 := 8#32
  let c0_i32_834 : BitVec 32 := 0#32
  let v1261 : BitVec 1 := Scalar.cmpi .eq c8_i32_833 c0_i32_834
  let c1_i32_835 : BitVec 32 := 1#32
  let v1262 : BitVec 32 := Scalar.select v1261 c1_i32_835 c8_i32_833
  let v1263 : BitVec 32 := Scalar.remsi v1260 v1262
  let c0_i32_837 : BitVec 32 := 0#32
  let v1265 : BitVec 1 := Scalar.cmpi .slt v1263 c0_i32_837
  let c0_i32_838 : BitVec 32 := 0#32
  let v1266 : BitVec 1 := Scalar.cmpi .slt v1262 c0_i32_838
  let v1267 : BitVec 1 := Scalar.xori v1265 v1266
  let c0_i32_836 : BitVec 32 := 0#32
  let v1264 : BitVec 1 := Scalar.cmpi .ne v1263 c0_i32_836
  let v1268 : BitVec 1 := Scalar.andi v1267 v1264
  let v1269 : BitVec 32 := Scalar.addi v1263 v1262
  let v1270 : BitVec 32 := Scalar.select v1268 v1269 v1263
  let c4_i32_839 : BitVec 32 := 4#32
  let v1271 : BitVec 32 := Scalar.muli v1270 c4_i32_839
  let c0_i32_840 : BitVec 32 := 0#32
  let v1272 : BitVec 32 := Scalar.addi v1271 c0_i32_840
  let v1273 : BitVec 1 := Scalar.cmpi .ne v1272 v2
  let v1274 : BitVec 32 := Scalar.extui v1273
  let c0_i32_843 : BitVec 32 := 0#32
  let v1275 : BitVec 1 := Scalar.cmpi .ne v1274 c0_i32_843
  v1275

def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond126 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_832 : BitVec 32 := 7#32
  let v1260 : BitVec 32 := Scalar.addi v19 c7_i32_832
  let c8_i32_833 : BitVec 32 := 8#32
  let c0_i32_834 : BitVec 32 := 0#32
  let v1261 : BitVec 1 := Scalar.cmpi .eq c8_i32_833 c0_i32_834
  let c1_i32_835 : BitVec 32 := 1#32
  let v1262 : BitVec 32 := Scalar.select v1261 c1_i32_835 c8_i32_833
  let v1263 : BitVec 32 := Scalar.remsi v1260 v1262
  let c0_i32_837 : BitVec 32 := 0#32
  let v1265 : BitVec 1 := Scalar.cmpi .slt v1263 c0_i32_837
  let c0_i32_838 : BitVec 32 := 0#32
  let v1266 : BitVec 1 := Scalar.cmpi .slt v1262 c0_i32_838
  let v1267 : BitVec 1 := Scalar.xori v1265 v1266
  let c0_i32_836 : BitVec 32 := 0#32
  let v1264 : BitVec 1 := Scalar.cmpi .ne v1263 c0_i32_836
  let v1268 : BitVec 1 := Scalar.andi v1267 v1264
  let v1269 : BitVec 32 := Scalar.addi v1263 v1262
  let v1270 : BitVec 32 := Scalar.select v1268 v1269 v1263
  let c4_i32_844 : BitVec 32 := 4#32
  let v1276 : BitVec 32 := Scalar.muli v1270 c4_i32_844
  let c1_i32_845 : BitVec 32 := 1#32
  let v1277 : BitVec 32 := Scalar.addi v1276 c1_i32_845
  let v1278 : BitVec 1 := Scalar.cmpi .ne v1277 v2
  let v1279 : BitVec 32 := Scalar.extui v1278
  let c0_i32_848 : BitVec 32 := 0#32
  let v1280 : BitVec 1 := Scalar.cmpi .ne v1279 c0_i32_848
  v1280

def k0_off127 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond127 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_832 : BitVec 32 := 7#32
  let v1260 : BitVec 32 := Scalar.addi v19 c7_i32_832
  let c8_i32_833 : BitVec 32 := 8#32
  let c0_i32_834 : BitVec 32 := 0#32
  let v1261 : BitVec 1 := Scalar.cmpi .eq c8_i32_833 c0_i32_834
  let c1_i32_835 : BitVec 32 := 1#32
  let v1262 : BitVec 32 := Scalar.select v1261 c1_i32_835 c8_i32_833
  let v1263 : BitVec 32 := Scalar.remsi v1260 v1262
  let c0_i32_837 : BitVec 32 := 0#32
  let v1265 : BitVec 1 := Scalar.cmpi .slt v1263 c0_i32_837
  let c0_i32_838 : BitVec 32 := 0#32
  let v1266 : BitVec 1 := Scalar.cmpi .slt v1262 c0_i32_838
  let v1267 : BitVec 1 := Scalar.xori v1265 v1266
  let c0_i32_836 : BitVec 32 := 0#32
  let v1264 : BitVec 1 := Scalar.cmpi .ne v1263 c0_i32_836
  let v1268 : BitVec 1 := Scalar.andi v1267 v1264
  let v1269 : BitVec 32 := Scalar.addi v1263 v1262
  let v1270 : BitVec 32 := Scalar.select v1268 v1269 v1263
  let c4_i32_849 : BitVec 32 := 4#32
  let v1281 : BitVec 32 := Scalar.muli v1270 c4_i32_849
  let c2_i32_850 : BitVec 32 := 2#32
  let v1282 : BitVec 32 := Scalar.addi v1281 c2_i32_850
  let v1283 : BitVec 1 := Scalar.cmpi .ne v1282 v2
  let v1284 : BitVec 32 := Scalar.extui v1283
  let c0_i32_853 : BitVec 32 := 0#32
  let v1285 : BitVec 1 := Scalar.cmpi .ne v1284 c0_i32_853
  v1285

def k0_off128 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
def k0_cond128 (d0 : Dev nD) : BitVec 1 :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c7_i32_832 : BitVec 32 := 7#32
  let v1260 : BitVec 32 := Scalar.addi v19 c7_i32_832
  let c8_i32_833 : BitVec 32 := 8#32
  let c0_i32_834 : BitVec 32 := 0#32
  let v1261 : BitVec 1 := Scalar.cmpi .eq c8_i32_833 c0_i32_834
  let c1_i32_835 : BitVec 32 := 1#32
  let v1262 : BitVec 32 := Scalar.select v1261 c1_i32_835 c8_i32_833
  let v1263 : BitVec 32 := Scalar.remsi v1260 v1262
  let c0_i32_837 : BitVec 32 := 0#32
  let v1265 : BitVec 1 := Scalar.cmpi .slt v1263 c0_i32_837
  let c0_i32_838 : BitVec 32 := 0#32
  let v1266 : BitVec 1 := Scalar.cmpi .slt v1262 c0_i32_838
  let v1267 : BitVec 1 := Scalar.xori v1265 v1266
  let c0_i32_836 : BitVec 32 := 0#32
  let v1264 : BitVec 1 := Scalar.cmpi .ne v1263 c0_i32_836
  let v1268 : BitVec 1 := Scalar.andi v1267 v1264
  let v1269 : BitVec 32 := Scalar.addi v1263 v1262
  let v1270 : BitVec 32 := Scalar.select v1268 v1269 v1263
  let c4_i32_854 : BitVec 32 := 4#32
  let v1286 : BitVec 32 := Scalar.muli v1270 c4_i32_854
  let c3_i32_855 : BitVec 32 := 3#32
  let v1287 : BitVec 32 := Scalar.addi v1286 c3_i32_855
  let v1288 : BitVec 1 := Scalar.cmpi .ne v1287 v2
  let v1289 : BitVec 32 := Scalar.extui v1288
  let c0_i32_858 : BitVec 32 := 0#32
  let v1290 : BitVec 1 := Scalar.cmpi .ne v1289 c0_i32_858
  v1290

def k0_off129 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1183 : BitVec 32 := 0#32
  let c0_i32_1184 : BitVec 32 := 0#32
  ![v2.toNat, 0, 0]
abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.KernelIdeal.Core.lean ====
/-
  The protocol of the kernel: its semaphore cells, what every buffer holds, the schedule of duties.

  • Barrier cell of device `c`: each other device `d` pays one unit and hands over slot `c` of its own receive buffer.
  • Copy cell `b` (of two) of device `c`: round `r` is paid by the local copy of column group `2r + b` of `w` into half `b` of
    the weight buffer; it hands back that half, filled, and the borrowed share of the columns read.
  • Send cell `n` of device `c`: paid by the transfer of piece `n`; it hands back slot `n` of the send buffer.
  • Receive cell `s` of device `c`: paid by device `s`'s transfer to `c`; it hands over slot `s` of `c`'s receive buffer, filled.
-/
module

public import proofs.«01_k».proof.Proof.Gen.KernelIdeal.Frame
public import proofs.«01_k».proof.Proof.Gen.KernelIdeal.Skeleton
public import Idealize.ShloMosaic.Lib.Pipeline.Launch
public import Idealize.ShloMosaic.Lib.Pipeline.Kit
public import Idealize.ShloMosaic.Lib.Pipeline.Value
public import Idealize.ShloMosaic.Lib.Rounds
public import Idealize.ShloMosaic.Lib.Memref
public import Idealize.ShloMosaic.Lib.ValueIdx
public import Idealize.ShloMosaic.Lib.ValueLayout
public import Idealize.ShloMosaic.Lib.Tactic

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ) (ρ : Dev nD → PrngReg)

/-! ## Who sends what to whom -/

/-- The device that piece `n` of device `c` goes to: pieces come in groups of four, the groups starting at `c`'s own. -/
def dest (c : Dev nD) (n : Fin 32) : Dev nD := ⟨(c.val / 4 + n.val / 4) % 8 * 4 + n.val % 4, by show _ < 32; omega⟩
/-- The piece of device `s` that goes to device `c`. -/
def pieceOf (s c : Dev nD) : Fin 32 := ⟨(c.val / 4 + 8 - s.val / 4) % 8 * 4 + c.val % 4, by omega⟩

theorem pieceOf_dest : ∀ (c : Dev nD) (n : Fin 32), pieceOf c (dest c n) = n := by decide +kernel
theorem dest_pieceOf : ∀ (s c : Dev nD), dest s (pieceOf s c) = c := by decide +kernel

/-- Pieces and their targets correspond one to one. -/
def destEquiv (c : Dev nD) : Fin 32 ≃ Dev nD := ⟨dest c, pieceOf c, pieceOf_dest c, dest_pieceOf c⟩

/-! ## Buffers, slots, semaphores -/

abbrev xM : Memref sig .tc .vmem S256x8192 .f32 := Memref.whole cc0_stg0_0
abbrev oM : Memref sig .tc .vmem S8192x128 .f32 := Memref.whole cc0_stg1_0
abbrev wM : Memref sig .tc .hbm S8192x4096 .f32 := Memref.whole main_arg1
abbrev bM : Memref sig .tc .vmem S2x8192x512 .f32 := Memref.whole cc0_scratch0
abbrev tM : Memref sig .tc .vmem S256x8192 .bf16 := Memref.whole cc0_scratch1
abbrev sM : Memref sig .tc .vmem S32x256x128 .bf16 := Memref.whole cc0_scratch2
abbrev rM : Memref sig .tc .vmem S32x256x128 .bf16 := Memref.whole cc0_scratch3

theorem inbSlot (n : ℕ) (h : n < 32) : ∀ i, (![n, 0, 0] : Fin 3 → ℕ) i + S1x256x128.size i ≤ S32x256x128.size i := by
  intro i; fin_cases i
  · show n + 1 ≤ 32; omega
  · show 0 + 256 ≤ 256; omega
  · show 0 + 128 ≤ 128; omega
theorem inbHalf (b : ℕ) (h : b < 2) : ∀ i, (![b, 0, 0] : Fin 3 → ℕ) i + S1x8192x512.size i ≤ S2x8192x512.size i := by
  intro i; fin_cases i
  · show b + 1 ≤ 2; omega
  · show 0 + 8192 ≤ 8192; omega
  · show 0 + 512 ≤ 512; omega
theorem inbCols (g : ℕ) (h : g < 8) : ∀ i, (![0, g * 512] : Fin 2 → ℕ) i + S8192x512.size i ≤ S8192x4096.size i := by
  intro i; fin_cases i
  · show 0 + 8192 ≤ 8192; omega
  · show g * 512 + 512 ≤ 4096; omega
theorem inbRows (n : ℕ) (h : n < 32) : ∀ i, (![256 * n, 0] : Fin 2 → ℕ) i + S256x128.size i ≤ S8192x128.size i := by
  intro i; fin_cases i
  · show 256 * n + 256 ≤ 8192; omega
  · show 0 + 128 ≤ 128; omega
theorem inbSem (n : ℕ) (h : n < 32) : ∀ i, (![n] : Fin 1 → ℕ) i + S1.size i ≤ S32.size i := by
  intro i; fin_cases i; show n + 1 ≤ 32; omega
theorem inbSem2 (n : ℕ) (h : n < 2) : ∀ i, (![n] : Fin 1 → ℕ) i + S1.size i ≤ S2.size i := by
  intro i; fin_cases i; show n + 1 ≤ 2; omega

/-- Slot `n` of the send or receive buffer. -/
abbrev slotR (n : Fin 32) : Rect S32x256x128 := Rect.unit ![n.val, 0, 0] S1x256x128.size (inbSlot n.val n.isLt)
/-- Half `b` of the weight buffer. -/
abbrev halfR (b : Fin 2) : Rect S2x8192x512 := Rect.unit ![b.val, 0, 0] S1x8192x512.size (inbHalf b.val b.isLt)
/-- Column group `g` of `w`. -/
abbrev colsR (g : Fin 8) : Rect S8192x4096 := Rect.unit ![0, g.val * 512] S8192x512.size (inbCols g.val g.isLt)
/-- Rows `256 n …` of the output. -/
abbrev rowsR (n : Fin 32) : Rect S8192x128 := Rect.unit ![256 * n.val, 0] S256x128.size (inbRows n.val n.isLt)

abbrev sSlot (n : Fin 32) : Memref sig .tc .vmem S256x128 .bf16 := (sM.slice (slotR n) (fun _ => rfl)).squeeze S256x128 squeezes_S1x256x128_S256x128
abbrev rSlot (n : Fin 32) : Memref sig .tc .vmem S256x128 .bf16 := (rM.slice (slotR n) (fun _ => rfl)).squeeze S256x128 squeezes_S1x256x128_S256x128
abbrev bHalf (b : Fin 2) : Memref sig .tc .vmem S8192x512 .f32 := (bM.slice (halfR b) (fun _ => rfl)).squeeze S8192x512 squeezes_S1x8192x512_S8192x512
abbrev wCols (g : Fin 8) : Memref sig .tc .hbm S8192x512 .f32 := wM.slice (colsR g) (fun _ => rfl)

abbrev barS : Sem sig := (SemArray.scalar (sig.barrier 0 rfl) : Sems sig S_).sem
abbrev cSem (b : Fin 2) : DmaSem sig := ((cc0_scratch4.slice (Rect.unit (s := S2) ![b.val] S1.size (inbSem2 b.val b.isLt))).squeeze S_ squeezes_S1_S_).sem
abbrev sSem (n : Fin 32) : DmaSem sig := ((cc0_scratch5.slice (Rect.unit (s := S32) ![n.val] S1.size (inbSem n.val n.isLt))).squeeze S_ squeezes_S1_S_).sem
abbrev rSem (n : Fin 32) : DmaSem sig := ((cc0_scratch6.slice (Rect.unit (s := S32) ![n.val] S1.size (inbSem n.val n.isLt))).squeeze S_ squeezes_S1_S_).sem

theorem cSem_val : ∀ b : Fin 2, (cSem b).val = 2 + b.val := by decide +kernel
theorem sSem_val : ∀ n : Fin 32, (sSem n).val = 4 + n.val := by decide +kernel
theorem rSem_val : ∀ n : Fin 32, (rSem n).val = 36 + n.val := by decide +kernel

abbrev barCell (c : Dev nD) : GSem nD τ sig := ((c : Thread nD τ), .reg barS)
abbrev copyCell (c : Dev nD) (b : Fin 2) : GSem nD τ sig := ((c : Thread nD τ), .dma (cSem b))
abbrev sendCell (c : Dev nD) (n : Fin 32) : GSem nD τ sig := ((c : Thread nD τ), .dma (sSem n))
abbrev recvCell (c : Dev nD) (n : Fin 32) : GSem nD τ sig := ((c : Thread nD τ), .dma (rSem n))

/-- What a semaphore is for. -/
inductive Kind where
  | bar | copy (b : Fin 2) | send (n : Fin 32) | recv (n : Fin 32) | other
  deriving DecidableEq

def kindOf : SemLoc sig → Kind
  | .reg _ => .bar
  | .dma q =>
    if h : q.val < 2 then .other
    else if h : q.val < 4 then .copy ⟨q.val - 2, by omega⟩
    else if h : q.val < 36 then .send ⟨q.val - 4, by omega⟩
    else if h : q.val < 68 then .recv ⟨q.val - 36, by omega⟩ else .other

theorem kind_bar : kindOf (.reg barS) = .bar := rfl
theorem kind_copy : ∀ b : Fin 2, kindOf (.dma (cSem b)) = .copy b := by decide +kernel
theorem kind_send : ∀ n : Fin 32, kindOf (.dma (sSem n)) = .send n := by decide +kernel
theorem kind_recv : ∀ n : Fin 32, kindOf (.dma (rSem n)) = .recv n := by decide +kernel

/-! ## Contents -/

/-- Device `c`'s block of `x`, as staged. -/
def xstg (c : Dev nD) : (cc0_stg0_0 : Ref sig .tc).ty.Contents (Elt F) :=
  (win0_0.blk (0 : Fin 1)).view.read (Elt F) (m ((c : Thread nD τ).loc main_arg0))
/-- Device `c`'s copy of `w`. -/
def ws (c : Dev nD) : S8192x4096.Idx → Elt F .f32 := m ((c : Thread nD τ).loc main_arg1)

/-- The rows of `x` in the narrow format. -/
def xbv (c : Dev nD) : FVec F S256x8192 .bf16 := k0_pay3 (xstg m c)

/-- The column group that device `c` handles at step `p`. -/
def grp (c : Dev nD) (p : ℕ) : Fin 8 := ⟨(c.val / 4 + p) % 8, Nat.mod_lt _ (by decide)⟩

theorem col_lt (g : Fin 8) (j : Fin 512) : g.val * 512 + j.val < 4096 := by omega

/-- A half of the weight buffer holding column group `g`, as a function on the whole buffer. -/
def wBuf (c : Dev nD) (g : Fin 8) : S2x8192x512.Idx → Elt F .f32 :=
  fun i => ws m c (ix2 (i 1) ⟨g.val * 512 + (i 2).val, col_lt g (i 2)⟩)
/-- What a load of a half of the weight buffer yields. -/
def wVal (c : Dev nD) (g : Fin 8) : Vec F S1x8192x512 .f32 :=
  fun i => ws m c (ix2 (i 1) ⟨g.val * 512 + (i 2).val, col_lt g (i 2)⟩)

/-- The activated product of the rows with column group `g`. -/
def gel (c : Dev nD) (g : Fin 8) : FVec F S256x512 .f32 := k0_pay15 (xbv m c) (wVal m c g)

theorem slices_piece (d : ℕ) (h : d < 4) : S256x512.Slices ![0, 128 * d] S256x128 := by
  refine ⟨rfl, fun a => ?_⟩
  fin_cases a
  · show 0 + 256 ≤ 256; omega
  · show 128 * d + 128 ≤ 512; omega

/-- Piece `n` as stored in its slot. -/
def piece (c : Dev nD) (n : Fin 32) : FVec F S1x256x128 .bf16 :=
  shapeCast S1x256x128 (truncf .bf16 (extractStridedSlice S256x128 ![0, 128 * (n.val % 4)] (gel m c (grp c (n.val / 4)))
    (slices_piece _ (Nat.mod_lt _ (by decide)))) bitsLt_bf16_f32) shapeCasts_S256x128_S1x256x128

/-- The send buffer of device `c`, every piece computed. -/
def sBuf (c : Dev nD) : S32x256x128.Idx → Elt F .bf16 := fun i => piece m c (i 0) (ix3 (0 : Fin 1) (i 1) (i 2))
/-- The receive buffer of device `c`, every piece delivered. -/
def rBuf (c : Dev nD) : S32x256x128.Idx → Elt F .bf16 := fun i => sBuf m (i 0) (ix3 (pieceOf (i 0) c) (i 1) (i 2))

theorem row_div (i : S8192x128.Idx) : (i 0).val / 256 < 32 := Nat.div_lt_of_lt_mul (i 0).isLt

/-- The output of device `c`. -/
def oBuf (c : Dev nD) : S8192x128.Idx → Elt F .f32 :=
  fun i => FloatOps.extf .f32 bitsLt_bf16_f32 (rBuf m c (ix3 ⟨(i 0).val / 256, row_div i⟩ ⟨(i 0).val % 256, Nat.mod_lt _ (by decide)⟩ (i 1)))

end Cert.KernelIdeal.Pf

end
-- ==== Proof.KernelIdeal.State.lean ====
/-
  The schedule of duties, what every device owes, and the assertions that describe how far a device has come.
-/
module

public import proofs.«01_k».proof.Proof.KernelIdeal.Core

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## Ownership of the slots -/

/-- The credit of a copy of a column group. -/
@[irreducible] def NC : ℕ := (bHalf 0).view.dmaCredit
/-- The credit of a copy of one piece. -/
@[irreducible] def NS : ℕ := (rSlot 0).view.dmaCredit
theorem NC_def : NC = (bHalf 0).view.dmaCredit := by unfold NC; rfl
theorem NS_def : NS = (rSlot 0).view.dmaCredit := by unfold NS; rfl
theorem NC_pos : 0 < NC := by rw [NC_def]; exact View.dmaCredit_pos _ (by decide)
theorem NS_pos : 0 < NS := by rw [NS_def]; exact View.dmaCredit_pos _ (by decide)

/-- Slot `n` of device `c`'s send buffer, holding what `f` holds there. -/
def sPts (c : Dev nD) (n : Fin 32) (f : S32x256x128.Idx → Elt F .bf16) : sProp 𝕄 :=
  ((c : Thread nD τ).loc cc0_scratch2) ↦[(slotR n).set]{fullShare} f
/-- Slot `n` of device `c`'s receive buffer, holding what `f` holds there. -/
def rPts (c : Dev nD) (n : Fin 32) (f : S32x256x128.Idx → Elt F .bf16) : sProp 𝕄 :=
  ((c : Thread nD τ).loc cc0_scratch3) ↦[(slotR n).set]{fullShare} f
/-- Half `b` of device `c`'s weight buffer, holding what `f` holds there. -/
def bPts (c : Dev nD) (b : Fin 2) (f : S2x8192x512.Idx → Elt F .f32) : sProp 𝕄 :=
  ((c : Thread nD τ).loc cc0_scratch0) ↦[(halfR b).set]{fullShare} f
/-- The share of `w` that the copies into half `b` read with. -/
def shr (b : Fin 2) : PosShare TreeShare := if b = 0 then fullShare.left else fullShare.right
/-- The elements `I` of device `c`'s `w`, at the share of half `b`. -/
def wPts (c : Dev nD) (b : Fin 2) (I : Finset S8192x4096.Idx) : sProp 𝕄 :=
  ((c : Thread nD τ).loc main_arg1) ↦[I]{shr b} ws m c

instance sPts_storable (c : Dev nD) (n f) : BI.Storable (upEmb : UEmb _ 𝕄) (sPts (F := F) c n f) := by unfold sPts; infer_instance
instance rPts_storable (c : Dev nD) (n f) : BI.Storable (upEmb : UEmb _ 𝕄) (rPts (F := F) c n f) := by unfold rPts; infer_instance
instance bPts_storable (c : Dev nD) (n f) : BI.Storable (upEmb : UEmb _ 𝕄) (bPts (F := F) c n f) := by unfold bPts; infer_instance
instance wPts_storable (c : Dev nD) (b I) : BI.Storable (upEmb : UEmb _ 𝕄) (wPts (F := F) m c b I) := by unfold wPts; infer_instance

/-! ## The schedule -/

/-- What the local copy of round `r` into half `b` hands back. -/
def copyPay (c : Dev nD) (b : Fin 2) (r : ℕ) : sProp 𝕄 :=
  iprop(bPts c b (wBuf m c (grp c (2 * r + b.val))) ∗ wPts m c b (colsR (grp c (2 * r + b.val))).set)

def payOf (c : Dev nD) (k : Kind) (r : ℕ) (d : Fin 32) : sProp 𝕄 :=
  match k with
  | .bar => iprop(∃ f, rPts d c f)
  | .copy b => copyPay m c b r
  | .send n => sPts c n (sBuf m c)
  | .recv s => rPts c s (rBuf m c)
  | .other => iprop(emp)

def dutiesOf (c : Dev nD) (k : Kind) (r : ℕ) : Finset (Fin 32) :=
  match k with
  | .bar => if r = 0 then Finset.univ.filter (fun d : Dev nD => d ≠ c) else ∅
  | .copy _ => if r < 4 then {0} else ∅
  | .send n => if r = 0 ∧ dest c n ≠ c then {0} else ∅
  | .recv s => if r = 0 ∧ s ≠ c then {0} else ∅
  | .other => ∅

def amountOfKind (k : Kind) : ℕ :=
  match k with
  | .bar => 1 | .copy _ => NC | .send _ => NS | .recv _ => NS | .other => 1

def Rd : Rounds.Schedule (GSem nD τ sig) (Fin 32) 𝕄 where
  duties g r := if g.1.2 = .tc then dutiesOf g.1.1 (kindOf g.2) r else ∅
  unitless _ := False
  amount g _ _ := amountOfKind (kindOf g.2)
  payload g r d := payOf m g.1.1 (kindOf g.2) r d
  amount_pos g _ _ _ := by
    unfold amountOfKind; split
    · exact Nat.one_pos
    · exact NC_pos
    · exact NS_pos
    · exact NS_pos
    · exact Nat.one_pos

instance Rd_payload_storable (g : GSem nD τ sig) (r : ℕ) (d : Fin 32) :
    BI.Storable (upEmb : UEmb _ 𝕄) ((Rd (F := F) m).payload g r d) := by
  show BI.Storable upEmb (payOf m g.1.1 (kindOf g.2) r d)
  unfold payOf copyPay
  split <;> infer_instance

section Sched
variable (c : Dev nD)

theorem duties_tc (sm : SemLoc sig) (r : ℕ) : (Rd (F := F) m).duties ((c : Thread nD τ), sm) r = dutiesOf c (kindOf sm) r := by dsimp only [Rd]; exact if_pos rfl
theorem duties_bar : (Rd (F := F) m).duties (barCell c) 0 = Finset.univ.filter (fun d : Dev nD => d ≠ c) := by
  rw [duties_tc, kind_bar]; rfl
theorem duties_copy (b : Fin 2) (r : ℕ) (h : r < 4) : (Rd (F := F) m).duties (copyCell c b) r = {0} := by
  rw [duties_tc, kind_copy]; exact if_pos h
theorem duties_send (n : Fin 32) (h : dest c n ≠ c) : (Rd (F := F) m).duties (sendCell c n) 0 = {0} := by
  rw [duties_tc, kind_send]; exact if_pos ⟨rfl, h⟩
theorem duties_recv (s : Fin 32) (h : s ≠ c) : (Rd (F := F) m).duties (recvCell c s) 0 = {0} := by
  rw [duties_tc, kind_recv]; exact if_pos ⟨rfl, h⟩
theorem duties_bar_later (r : ℕ) (h : 1 ≤ r) : (Rd (F := F) m).duties (barCell c) r = ∅ := by
  rw [duties_tc, kind_bar]; exact if_neg (by omega)
theorem duties_copy_later (b : Fin 2) (r : ℕ) (h : 4 ≤ r) : (Rd (F := F) m).duties (copyCell c b) r = ∅ := by
  rw [duties_tc, kind_copy]; exact if_neg (by omega)
theorem duties_send_later (n : Fin 32) (r : ℕ) (h : 1 ≤ r) : (Rd (F := F) m).duties (sendCell c n) r = ∅ := by
  rw [duties_tc, kind_send]; exact if_neg (fun h' => by omega)
theorem duties_send_own (n : Fin 32) (h : dest c n = c) (r : ℕ) : (Rd (F := F) m).duties (sendCell c n) r = ∅ := by
  rw [duties_tc, kind_send]; exact if_neg (fun h' => h'.2 h)
theorem duties_recv_later (s : Fin 32) (r : ℕ) (h : 1 ≤ r) : (Rd (F := F) m).duties (recvCell c s) r = ∅ := by
  rw [duties_tc, kind_recv]; exact if_neg (fun h' => by omega)
theorem duties_recv_own (r : ℕ) : (Rd (F := F) m).duties (recvCell c c) r = ∅ := by
  rw [duties_tc, kind_recv]; exact if_neg (fun h' => h'.2 rfl)

theorem amount_bar (r d) : (Rd (F := F) m).amount (barCell c) r d = 1 := by dsimp only [Rd]; rfl
theorem amount_copy (b : Fin 2) (r d) : (Rd (F := F) m).amount (copyCell c b) r d = NC := by dsimp only [Rd]; rw [kind_copy]; rfl
theorem amount_send (n : Fin 32) (r d) : (Rd (F := F) m).amount (sendCell c n) r d = NS := by dsimp only [Rd]; rw [kind_send]; rfl
theorem amount_recv (s : Fin 32) (r d) : (Rd (F := F) m).amount (recvCell c s) r d = NS := by dsimp only [Rd]; rw [kind_recv]; rfl

theorem payload_bar (r d) : (Rd (F := F) m).payload (barCell c) r d = iprop(∃ f, rPts d c f) := by dsimp only [Rd]; rw [kind_bar]; rfl
theorem payload_copy (b : Fin 2) (r d) : (Rd (F := F) m).payload (copyCell c b) r d = copyPay m c b r := by dsimp only [Rd]; rw [kind_copy]; rfl
theorem payload_send (n : Fin 32) (r d) : (Rd (F := F) m).payload (sendCell c n) r d = sPts c n (sBuf m c) := by dsimp only [Rd]; rw [kind_send]; rfl
theorem payload_recv (s : Fin 32) (r d) : (Rd (F := F) m).payload (recvCell c s) r d = rPts c s (rBuf m c) := by dsimp only [Rd]; rw [kind_recv]; rfl

theorem card_others : ∀ c : Dev nD, (Finset.univ.filter (fun d : Dev nD => d ≠ c)).card = 31 := by decide +kernel
theorem expect_bar : (Rd (F := F) m).expect (barCell c) 0 = 31 := by
  unfold Schedule.expect Schedule.amountOf
  rw [duties_bar, Finset.sum_congr rfl fun d _ => amount_bar m c 0 d, Finset.sum_const, card_others]; rfl
theorem expect_copy (b : Fin 2) (r : ℕ) (h : r < 4) : (Rd (F := F) m).expect (copyCell c b) r = NC := by
  unfold Schedule.expect Schedule.amountOf; rw [duties_copy m c b r h, Finset.sum_singleton, amount_copy]
theorem expect_send (n : Fin 32) (h : dest c n ≠ c) : (Rd (F := F) m).expect (sendCell c n) 0 = NS := by
  unfold Schedule.expect Schedule.amountOf; rw [duties_send m c n h, Finset.sum_singleton, amount_send]
theorem expect_recv (s : Fin 32) (h : s ≠ c) : (Rd (F := F) m).expect (recvCell c s) 0 = NS := by
  unfold Schedule.expect Schedule.amountOf; rw [duties_recv m c s h, Finset.sum_singleton, amount_recv]

end Sched

/-! ## What each device owes; the levels -/

/-- The summands of `g` from `n` on. -/
def above (n : ℕ) (g : Fin 32 → CellTallies nD τ sig Unit) : CellTallies nD τ sig Unit := ∑ i : Fin 32, if n ≤ i.val then g i else 0

theorem above_step (n : ℕ) (h : n < 32) (g : Fin 32 → CellTallies nD τ sig Unit) : above n g = above (n + 1) g + g ⟨n, h⟩ := by
  unfold above
  rw [← Finset.add_sum_erase _ _ (Finset.mem_univ (⟨n, h⟩ : Fin 32)), ← Finset.add_sum_erase Finset.univ (fun i : Fin 32 => if n + 1 ≤ i.val then g i else 0) (Finset.mem_univ (⟨n, h⟩ : Fin 32))]
  rw [if_pos (le_refl n), if_neg (by simp), zero_add, add_comm]
  congr 1
  refine Finset.sum_congr rfl fun i hi => ?_
  have hne : i.val ≠ n := fun h' => Finset.ne_of_mem_erase hi (Fin.ext h')
  by_cases h1 : n ≤ i.val
  · rw [if_pos h1, if_pos (by omega)]
  · rw [if_neg h1, if_neg (by omega)]
theorem above_end (g : Fin 32 → CellTallies nD τ sig Unit) : above 32 g = 0 :=
  Finset.sum_eq_zero fun i _ => if_neg (by omega)

/-- The barrier unit device `c` owes device `i`. -/
def oBar (c : Dev nD) (i : Fin 32) : CellTallies nD τ sig Unit := if i = c then 0 else tallyAt (barCell i) () 1
/-- The receive credit device `c` owes for its piece `n`. -/
def oSnd (c : Dev nD) (n : Fin 32) : CellTallies nD τ sig Unit := if dest c n = c then 0 else tallyAt (recvCell (dest c n) c) () NS
def O₀ (c : Dev nD) : CellTallies nD τ sig Unit := above 0 (oSnd c) + above 0 (oBar c)

def L (g : GSem nD τ sig) : Finset Unit := if g.1.2 = .tc then {()} else ∅
/-- Barrier cells at 1, receive cells at 2, everything else at 0. -/
def lv (g : GSem nD τ sig) (_ : Unit) : ℕ := match kindOf g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (n : Fin 32) (u) : lv (recvCell c n) u = 2 := by unfold lv; rw [kind_recv]
theorem lv_bar (c : Dev nD) (u) : lv (barCell c) u = 1 := rfl

theorem above_pos {n : ℕ} {g : Fin 32 → CellTallies nD τ sig Unit} {x : GSem nD τ sig} {u : Unit} (h : 0 < above n g x u) : ∃ i, 0 < g i x u := by
  by_contra hn
  push Not at hn
  refine absurd h (Nat.not_lt.2 (Nat.le_zero.2 ?_))
  unfold above
  rw [Finset.sum_apply, Finsupp.finset_sum_apply]
  refine Finset.sum_eq_zero fun i _ => ?_
  by_cases hi : n ≤ i.val
  · rw [if_pos hi]; exact Nat.le_zero.1 (hn i)
  · rw [if_neg hi]; rfl
theorem oBar_pos {c : Dev nD} {i : Fin 32} {x : GSem nD τ sig} {u : Unit} (h : 0 < oBar c i x u) : x = barCell i := by
  unfold oBar at h
  by_cases hi : i = c
  · rw [if_pos hi] at h; exact absurd h (Nat.lt_irrefl 0)
  · rw [if_neg hi, tallyAt_apply] at h; by_contra hn; rw [if_neg (fun h' => hn h'.1)] at h; exact Nat.lt_irrefl 0 h
theorem oSnd_pos {c : Dev nD} {i : Fin 32} {x : GSem nD τ sig} {u : Unit} (h : 0 < oSnd c i x u) : x = recvCell (dest c i) c := by
  unfold oSnd at h
  by_cases hi : dest c i = c
  · rw [if_pos hi] at h; exact absurd h (Nat.lt_irrefl 0)
  · rw [if_neg hi, tallyAt_apply] at h; by_contra hn; rw [if_neg (fun h' => hn h'.1)] at h; exact Nat.lt_irrefl 0 h
theorem O₀_pos {c : Dev nD} {x : GSem nD τ sig} {u : Unit} (h : 0 < O₀ c x u) : (∃ i, x = recvCell (dest c i) c) ∨ ∃ i, x = barCell i := by
  unfold O₀ at h
  rw [Pi.add_apply, Finsupp.add_apply] at h
  rcases Nat.eq_zero_or_pos (above 0 (oSnd c) x u) with h0 | h0
  · rw [h0, zero_add] at h
    obtain ⟨i, hi⟩ := above_pos h; exact .inr ⟨i, oBar_pos hi⟩
  · obtain ⟨i, hi⟩ := above_pos h0; exact .inl ⟨i, oSnd_pos hi⟩

/-- A wait below level 1 is allowed whatever of its launch debts a device still owes. -/
theorem mayWait_low (c : Dev nD) (q : DmaSem sig) (hq : lv ((c : Thread nD τ), .dma q) () = 0) (O : CellTallies nD τ sig Unit)
    (hO : ∀ x u, 0 < O x u → (∃ i, x = recvCell (dest c i) c) ∨ ∃ i, x = barCell i) :
    (levAts L lv : sProp 𝕄) ⊢ MayWait (c : Thread nD τ) (.dma q) () O :=
  MayOwe.of_cut (L := L) (lev := lv) 0 (fun p hp => by rw [Finset.mem_singleton.mp hp, L_tc]; exact Finset.mem_singleton_self _)
    (fun g u hg => by rcases hO _ _ hg with ⟨i, rfl⟩ | ⟨i, rfl⟩ <;> exact Finset.mem_singleton_self _)
    (fun p hp => by rw [Finset.mem_singleton.mp hp]; exact hq.le)
    (fun g u hg => by rcases hO _ _ hg with ⟨i, rfl⟩ | ⟨i, rfl⟩ <;> simp only [lv_recv, lv_bar] <;> decide)

/-- The barrier wait is allowed while only receive credits are owed. -/
theorem mayWait_bar (c : Dev nD) : (levAts L lv : sProp 𝕄) ⊢ MayWait (c : Thread nD τ) (.reg barS) () (above 0 (oSnd c)) :=
  MayOwe.of_cut (L := L) (lev := lv) 1 (fun p hp => by rw [Finset.mem_singleton.mp hp, L_tc]; exact Finset.mem_singleton_self _)
    (fun g u hg => by obtain ⟨i, hi⟩ := above_pos hg; rw [oSnd_pos hi]; exact Finset.mem_singleton_self _)
    (fun p hp => by rw [Finset.mem_singleton.mp hp]; exact le_refl 1)
    (fun g u hg => by obtain ⟨i, hi⟩ := above_pos hg; rw [oSnd_pos hi, lv_recv]; decide)

/-! ## Progress through 32 items -/

/-- The items before `n` in their later state `Ψ`, the others in their first state `Φ`, item `n` itself left out. -/
def hole (n : ℕ) (Φ Ψ : Fin 32 → sProp 𝕄) : sProp 𝕄 :=
  bigSep Finset.univ fun i => if i.val = n then iprop(emp) else if i.val < n then Ψ i else Φ i
/-- The items before `n` in their later state `Ψ`, the others in their first state `Φ`. -/
def prog (n : ℕ) (Φ Ψ : Fin 32 → sProp 𝕄) : sProp 𝕄 :=
  bigSep Finset.univ fun i => if i.val < n then Ψ i else Φ i

theorem prog_take (n : ℕ) (h : n < 32) (Φ Ψ : Fin 32 → sProp 𝕄) : prog n Φ Ψ = iprop(Φ ⟨n, h⟩ ∗ hole n Φ Ψ) := by
  unfold prog hole
  rw [bigSep_univ_split (⟨n, h⟩ : Fin 32), bigSep_univ_split (Φ := fun i => if i.val = n then iprop(emp) else if i.val < n then Ψ i else Φ i) (⟨n, h⟩ : Fin 32)]
  rw [if_neg (Nat.lt_irrefl n), if_pos rfl, show ∀ X : sProp 𝕄, BI.sep iprop(emp) X = X from fun X => equiv_iff.mp BI.emp_sep]
  congr 1
  refine bigSep_congr fun i hi => ?_
  rw [if_neg (fun h' => Finset.ne_of_mem_erase hi (Fin.ext h'))]
theorem prog_put (n : ℕ) (h : n < 32) (Φ Ψ : Fin 32 → sProp 𝕄) : iprop(Ψ ⟨n, h⟩ ∗ hole n Φ Ψ) = prog (n + 1) Φ Ψ := by
  unfold prog hole
  rw [bigSep_univ_split (⟨n, h⟩ : Fin 32), bigSep_univ_split (Φ := fun i => if i.val < n + 1 then Ψ i else Φ i) (⟨n, h⟩ : Fin 32)]
  rw [if_pos (Nat.lt_succ_self n), if_pos rfl, show ∀ X : sProp 𝕄, BI.sep iprop(emp) X = X from fun X => equiv_iff.mp BI.emp_sep]
  congr 1
  refine bigSep_congr fun i hi => ?_
  have hne : i.val ≠ n := fun h' => Finset.ne_of_mem_erase hi (Fin.ext h')
  rw [if_neg hne]
  by_cases h1 : i.val < n
  · rw [if_pos h1, if_pos (by omega)]
  · rw [if_neg h1, if_neg (by omega)]
theorem prog_start (Φ Ψ : Fin 32 → sProp 𝕄) : prog 0 Φ Ψ = bigSep Finset.univ Φ := by
  unfold prog; exact bigSep_congr fun i _ => if_neg (Nat.not_lt_zero _)
theorem prog_end (Φ Ψ : Fin 32 → sProp 𝕄) : prog 32 Φ Ψ = bigSep Finset.univ Ψ := by
  unfold prog; exact bigSep_congr fun i _ => if_pos i.isLt

/-! ## The records every device reads -/

/-- The semaphores of the protocol: the barrier, the two copy cells, the 32 send cells, the 32 receive cells. -/
def csem (k : Fin 67) : SemLoc sig := if h : k.val = 0 then .reg barS else .dma ⟨k.val + 1, by show _ < 68; omega⟩
abbrev kcell (ck : Dev nD × Fin 67) : GSem nD τ sig := ((ck.1 : Thread nD τ), csem ck.2)
def kBar : Fin 67 := 0
def kCopy (b : Fin 2) : Fin 67 := ⟨1 + b.val, by omega⟩
def kSend (n : Fin 32) : Fin 67 := ⟨3 + n.val, by omega⟩
def kRecv (n : Fin 32) : Fin 67 := ⟨35 + n.val, by omega⟩
theorem csem_bar : csem kBar = .reg barS := rfl
theorem csem_copy (b : Fin 2) : csem (kCopy b) = .dma (cSem b) := by
  unfold csem kCopy; rw [dif_neg (by simp)]; congr 1; apply Fin.ext; rw [cSem_val]; show 1 + b.val + 1 = _; omega
theorem csem_send (n : Fin 32) : csem (kSend n) = .dma (sSem n) := by
  unfold csem kSend; rw [dif_neg (by simp)]; congr 1; apply Fin.ext; rw [sSem_val]; show 3 + n.val + 1 = _; omega
theorem csem_recv (n : Fin 32) : csem (kRecv n) = .dma (rSem n) := by
  unfold csem kRecv; rw [dif_neg (by simp)]; congr 1; apply Fin.ext; rw [rSem_val]; show 35 + n.val + 1 = _; omega

/-- One summand of a separating conjunction, the rest dropped. -/
theorem big_one {I : Type} [DecidableEq I] {s : Finset I} {i : I} {Φ : I → sProp 𝕄} (h : i ∈ s) : (bigSep s Φ : sProp 𝕄) ⊢ Φ i :=
  bigSep_elim h

variable (K : Dev nD × Fin 67 → ℕ)

/-- Every cell's invariant, that every cell has reached round 0, and the levels. -/
def records : sProp 𝕄 :=
  iprop((bigSep Finset.univ fun ck : Dev nD × Fin 67 => cellInv ER (Rd m) (K ck) (kcell ck))
    ∗ (bigSep Finset.univ fun ck : Dev nD × Fin 67 => reached ER (kcell ck) 0) ∗ levAts L lv)

instance records_persistent : BI.Persistent (records m K) := by unfold records; infer_instance

theorem inv_at (ck : Dev nD × Fin 67) : records m K ⊢ cellInv ER (Rd m) (K ck) (kcell ck) := by
  unfold records; iintro ⟨H, -, -⟩
  iapply (big_one (Φ := fun ck => cellInv ER (Rd m) (K ck) (kcell ck)) (Finset.mem_univ ck)); iexact H
theorem reached_at (ck : Dev nD × Fin 67) : records m K ⊢ reached ER (kcell ck) 0 := by
  unfold records; iintro ⟨-, H, -⟩
  iapply (big_one (Φ := fun ck : Dev nD × Fin 67 => reached ER (kcell ck) 0) (Finset.mem_univ ck)); iexact H
theorem lev_at : records m K ⊢ levAts L lv := by unfold records; iintro ⟨-, -, H⟩; iexact H

theorem inv_bar (c : Dev nD) : records m K ⊢ cellInv ER (Rd m) (K (c, kBar)) (barCell c) := inv_at m K (c, kBar)
theorem inv_copy (c : Dev nD) (b : Fin 2) : records m K ⊢ cellInv ER (Rd m) (K (c, kCopy b)) (copyCell c b) := by
  have h := inv_at m K (c, kCopy b); rwa [show kcell (c, kCopy b) = copyCell c b from congrArg (Prod.mk _) (csem_copy b)] at h
theorem inv_send (c : Dev nD) (n : Fin 32) : records m K ⊢ cellInv ER (Rd m) (K (c, kSend n)) (sendCell c n) := by
  have h := inv_at m K (c, kSend n); rwa [show kcell (c, kSend n) = sendCell c n from congrArg (Prod.mk _) (csem_send n)] at h
theorem inv_recv (c : Dev nD) (n : Fin 32) : records m K ⊢ cellInv ER (Rd m) (K (c, kRecv n)) (recvCell c n) := by
  have h := inv_at m K (c, kRecv n); rwa [show kcell (c, kRecv n) = recvCell c n from congrArg (Prod.mk _) (csem_recv n)] at h
theorem reached_bar (c : Dev nD) : records m K ⊢ reached ER (barCell c) 0 := reached_at m K (c, kBar)
theorem reached_copy (c : Dev nD) (b : Fin 2) : records m K ⊢ reached ER (copyCell c b) 0 := by
  have h := reached_at m K (c, kCopy b); rwa [show kcell (c, kCopy b) = copyCell c b from congrArg (Prod.mk _) (csem_copy b)] at h
theorem reached_send (c : Dev nD) (n : Fin 32) : records m K ⊢ reached ER (sendCell c n) 0 := by
  have h := reached_at m K (c, kSend n); rwa [show kcell (c, kSend n) = sendCell c n from congrArg (Prod.mk _) (csem_send n)] at h
theorem reached_recv (c : Dev nD) (n : Fin 32) : records m K ⊢ reached ER (recvCell c n) 0 := by
  have h := reached_at m K (c, kRecv n); rwa [show kcell (c, kRecv n) = recvCell c n from congrArg (Prod.mk _) (csem_recv n)] at h

/-! ## The assertions of a device's progress -/

section Progress
variable (c : Dev nD)

/-- The device owes `O`, whatever waits it has recorded. -/
def owesSome (O : CellTallies nD τ sig Unit) : sProp 𝕄 := iprop(∃ W, owes (c : Thread nD τ) O W)

/-- Before signalling device `i`: the duty token of its barrier cell and the slot of the own receive buffer to hand over. -/
def sig0 (i : Fin 32) : sProp 𝕄 := if i = c then iprop(emp) else iprop(dutyTok ER (barCell i) 0 c ∗ ∃ f, rPts c i f)
def sig1 (_ : Fin 32) : sProp 𝕄 := iprop(emp)
/-- The first `n` devices signalled. -/
def Sig (n : ℕ) : sProp 𝕄 := iprop(owesSome c (above 0 (oSnd c) + above n (oBar c)) ∗ prog n (sig0 c) sig1)

/-- Half `b` idle before round `r`: its buffer half, the share of `w`, the position, and the tokens of the rounds to come. -/
def Idle (b : Fin 2) (r : ℕ) : sProp 𝕄 :=
  iprop((∃ f, bPts c b f) ∗ wPts m c b Finset.univ ∗ atPos ER (copyCell c b) r ∅ 0 ∗ reached ER (copyCell c b) r
    ∗ bigSep (Finset.univ.filter fun i : Fin 4 => r ≤ i.val) fun i => dutyTok ER (copyCell c b) i.val 0)
/-- Half `b` with the copy of round `r` in flight. -/
def Pend (b : Fin 2) (r : ℕ) : sProp 𝕄 :=
  iprop(cred (tallyAt (copyCell c b) () NC) ∗ wPts m c b (Finset.univ \ (colsR (grp c (2 * r + b.val))).set) ∗ atPos ER (copyCell c b) r ∅ 0
    ∗ bigSep (Finset.univ.filter fun i : Fin 4 => r + 1 ≤ i.val) fun i => dutyTok ER (copyCell c b) i.val 0)
/-- Half `b` filled by the copy of round `r`. -/
def Full (b : Fin 2) (r : ℕ) : sProp 𝕄 :=
  iprop(bPts c b (wBuf m c (grp c (2 * r + b.val))) ∗ wPts m c b Finset.univ ∗ atPos ER (copyCell c b) (r + 1) ∅ 0 ∗ reached ER (copyCell c b) (r + 1)
    ∗ bigSep (Finset.univ.filter fun i : Fin 4 => r + 1 ≤ i.val) fun i => dutyTok ER (copyCell c b) i.val 0)

/-- What piece `n` needs besides its own slot: the target slot, and, where it travels, the two duty tokens. -/
def sndRest (n : Fin 32) : sProp 𝕄 :=
  iprop((∃ f, rPts (dest c n) c f) ∗ if dest c n = c then iprop(emp) else iprop(dutyTok ER (sendCell c n) 0 0 ∗ dutyTok ER (recvCell (dest c n) c) 0 0))
def snd0 (n : Fin 32) : sProp 𝕄 := iprop((∃ f, sPts c n f) ∗ sndRest c n)
def snd1 (n : Fin 32) : sProp 𝕄 :=
  if dest c n = c then iprop(sPts c n (sBuf m c) ∗ rPts c c (rBuf m c)) else cred (tallyAt (sendCell c n) () NS)
/-- Piece `n` after the conditional transfer. -/
def sndHalf (n : Fin 32) : sProp 𝕄 :=
  if dest c n = c then iprop(sPts c n (sBuf m c) ∗ ∃ f, rPts c c f) else cred (tallyAt (sendCell c n) () NS)
/-- The first `n` pieces sent, or put in place locally. -/
def Snd (n : ℕ) : sProp 𝕄 := iprop(owesSome c (above n (oSnd c)) ∗ prog n (snd0 c) (snd1 m c))
/-- … and piece `n` in its slot of the send buffer; -/
def SndS (n : ℕ) (h : n < 32) : sProp 𝕄 :=
  iprop(owesSome c (above n (oSnd c)) ∗ sPts c ⟨n, h⟩ (sBuf m c) ∗ sndRest c ⟨n, h⟩ ∗ hole n (snd0 c) (snd1 m c))
/-- … and travelling if it has to travel. -/
def SndR (n : ℕ) (h : n < 32) : sProp 𝕄 :=
  iprop(owesSome c (above (n + 1) (oSnd c)) ∗ sndHalf m c ⟨n, h⟩ ∗ hole n (snd0 c) (snd1 m c))

/-- Before and after the wait for the departure of piece `n`. -/
def dep0 (n : Fin 32) : sProp 𝕄 := iprop(snd1 m c n ∗ atPos ER (sendCell c n) 0 ∅ 0)
def dep1 (n : Fin 32) : sProp 𝕄 :=
  iprop((∃ f, sPts c n f) ∗ semVal (sendCell c n) 0 ∗ if dest c n = c then rPts c c (rBuf m c) else iprop(emp))
def Dep (n : ℕ) : sProp 𝕄 := iprop(owesSome c 0 ∗ prog n (dep0 m c) (dep1 m c))

/-- Before and after the wait for the arrival of device `s`'s piece. -/
def arr0 (s : Fin 32) : sProp 𝕄 :=
  iprop(atPos ER (recvCell c s) 0 ∅ 0 ∗ if s = c then rPts c c (rBuf m c) else cred (tallyAt (recvCell c s) () NS))
def arr1 (s : Fin 32) : sProp 𝕄 := iprop(rPts c s (rBuf m c) ∗ semVal (recvCell c s) 0)
/-- The output rows of the first `n` devices written. -/
def outPts (n : ℕ) : sProp 𝕄 :=
  iprop(∃ f : S8192x128.Idx → Elt F .f32, ⌜∀ i : S8192x128.Idx, (i 0).val < 256 * n → f i = oBuf m c i⌝ ∗ ((c : Thread nD τ).loc cc0_stg1_0) ↦{fullShare} f)
def Arr (n : ℕ) : sProp 𝕄 := iprop(owesSome c 0 ∗ prog n (arr0 m c) (arr1 m c) ∗ outPts m c n)
/-- … and the piece of device `n` there. -/
def ArrS (n : ℕ) (h : n < 32) : sProp 𝕄 := iprop(owesSome c 0 ∗ arr1 m c ⟨n, h⟩ ∗ hole n (arr0 m c) (arr1 m c) ∗ outPts m c n)

end Progress

end Cert.KernelIdeal.Pf

end
-- ==== Proof.KernelIdeal.Steps.lean ====
/-
  One statement of the kernel at a time: what it takes and what it leaves.
-/
module

public import proofs.«01_k».proof.Proof.KernelIdeal.State

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- A program of one device. -/
abbrev PR (F : FTy → Type) (α : Type) := Prog (TpuEff nD τ sig (Elt F) Λ₀ (Proc.tc (τ := τ))) α

variable (m : (ℓ : Loc nD τ sig) → Buf (Elt F) ℓ) (K : Dev nD × Fin 67 → ℕ)

/-- The weakest precondition of a program of device `c`. -/
abbrev run {α : Type} (c : Dev nD) (p : PR F α) (Q : α → sProp 𝕄) : sProp 𝕄 :=
  wp frame (wpE (defs₀ (F := F)) 𝒱₀ (c : Thread nD τ) none) Set.univ p Q

variable (F) in
/-- The assertions of the program logic. -/
abbrev PropF : Type := sProp (MT nD τ sig Unit (Elt F) ℕ UU ℕ)

section Steps
variable {c : Dev nD}
variable {R S A B T X : PropF F}
variable {α : Type} {k : PR F α}
variable {Q : α → PropF F}

/-! ## Reordering -/

theorem sep_left_comm_eq (A B C : PropF F) : iprop(A ∗ (B ∗ C)) = iprop(B ∗ (A ∗ C)) :=
  equiv_iff.mp ⟨(sep_left_comm (PROP := sProp 𝕄)).1, (sep_left_comm (PROP := sProp 𝕄)).2⟩
theorem big_split {I : Type} [Fintype I] [DecidableEq I] (i : I) (Φ : I → PropF F) :
    bigSep Finset.univ Φ = iprop(Φ i ∗ bigSep (Finset.univ.erase i) Φ) := bigSep_univ_split i

theorem at2 (h : iprop(records m K ∗ A ∗ (S ∗ R)) ⊢ X) : iprop(records m K ∗ S ∗ A ∗ R) ⊢ X :=
  .trans (sep_mono_right (sep_left_comm (PROP := sProp 𝕄)).1) h

theorem st_end {v : α} (h : S ⊢ Q v) : S ⊢ run c (pure v) Q := by
  show S ⊢ wp _ _ _ (Prog.ret v) Q
  rw [wp_ret]; exact h.trans fupd_intro

theorem st_bind {β : Type} {p : PR F β} {f : β → PR F α} (h : S ⊢ run c p (fun b => run c (f b) Q)) : S ⊢ run c (p >>= f) Q := by
  unfold run; rw [wp_bind]; exact h

theorem st_dev {f : Dev nD → PR F α} (h : S ⊢ run c (f c) Q) : S ⊢ run c (Prog.lift .deviceId >>= f) Q := by
  show S ⊢ wp _ _ _ (Prog.op .deviceId f) Q
  rw [wp_deviceId]; exact h

/-! ## The barrier -/

theorem sig_other (n : ℕ) (h : n < 32) (hne : (⟨n, h⟩ : Fin 32) ≠ c) :
    Sig (F := F) c n = iprop(owesSome c (above 0 (oSnd c) + above (n + 1) (oBar c) + tallyAt (barCell (⟨n, h⟩ : Dev nD)) () 1)
      ∗ (dutyTok ER (barCell (⟨n, h⟩ : Dev nD)) 0 c ∗ ∃ f, rPts c ⟨n, h⟩ f) ∗ hole n (sig0 c) sig1) := by
  unfold Sig
  rw [prog_take n h, above_step n h (oBar c), show sig0 (F := F) c ⟨n, h⟩ = _ from if_neg hne, show oBar c ⟨n, h⟩ = _ from if_neg hne, add_assoc]
theorem sig_own (n : ℕ) (h : n < 32) (he : (⟨n, h⟩ : Fin 32) = c) : Sig (F := F) c n = Sig c (n + 1) := by
  unfold Sig
  rw [← prog_put n h, prog_take n h, above_step n h (oBar c), show sig0 (F := F) c ⟨n, h⟩ = _ from if_pos he, show oBar c ⟨n, h⟩ = _ from if_pos he,
    add_zero]; rfl
theorem sig_next (n : ℕ) (h : n < 32) :
    Sig (F := F) c (n + 1) = iprop(owesSome c (above 0 (oSnd c) + above (n + 1) (oBar c)) ∗ emp ∗ hole n (sig0 c) sig1) := by
  unfold Sig
  rw [← prog_put n h]; rfl

/-- Signal device `n`, if it is another one. -/
theorem st_sig (cnd : Dev nD → BitVec 1) {n dv : ℕ} {hlt : cnd c = 1#1 → dv < nD}
    (hk : iprop(records m K ∗ Sig (F := F) c (n + 1) ∗ R) ⊢ run c k Q) (hP' : ∀ d, cnd d = 1#1 ↔ d.val ≠ n) (hd : dv = n) (hdv : n < 32) :
    iprop(records m K ∗ Sig (F := F) c n ∗ R)
      ⊢ run c (dite (cnd c = 1#1) (fun h => semSignalWord (⟨dv, hlt h⟩ : Dev nD) barS 1#32 >>= fun _ => k) (fun _ => k)) Q := by
  subst hd
  have hP : cnd c = 1#1 ↔ (⟨dv, hdv⟩ : Fin 32) ≠ c := (hP' c).trans (not_congr ⟨fun h => Fin.ext h.symm, fun h => (congrArg Fin.val h).symm⟩)
  by_cases hc : cnd c = 1#1
  · rw [dif_pos hc]
    have hne := hP.1 hc
    show _ ⊢ wp _ _ _ (Prog.op (.semSignal ((⟨dv, hlt hc⟩ : Dev nD) : Thread nD τ) barS 1) fun _ => k) Q
    rw [sig_other dv hdv hne]; unfold owesSome
    iintro ⟨#Hrec, ⟨⟨%W, Ho⟩, ⟨Ht, Hp⟩, Hh⟩, HR⟩
    iapply (wp_signal 𝒱₀ ER (Rd m) (c : Thread nD τ) none (dst := ((⟨dv, hdv⟩ : Dev nD) : Thread nD τ)) (κ := K (⟨dv, hdv⟩, kBar))
      (r := 0) (d := c) (by rw [duties_bar]; exact Finset.mem_filter.2 ⟨Finset.mem_univ _, fun h => hne h.symm⟩)
      (amount_bar m ⟨dv, hdv⟩ 0 c) ()
      (above 0 (oSnd c) + above (dv + 1) (oBar c)) rfl) $$ [Ho Ht Hp]
    · isplitr; · iapply (inv_bar m K ⟨dv, hdv⟩); iexact Hrec
      isplitl [Ho]; · iexact Ho
      isplitl [Ht]; · iexact Ht
      isplitl [Hp]; · rw [payload_bar]; iexact Hp
      iapply (reached_bar m K ⟨dv, hdv⟩); iexact Hrec
    iintro Ho
    iapply hk
    rw [sig_next dv hdv]; unfold owesSome
    isplitr; · iexact Hrec
    isplitr [HR]
    · isplitl [Ho]; · iexists W; iexact Ho
      isplitr; · iempintro
      iexact Hh
    iexact HR
  · rw [dif_neg hc, sig_own dv hdv (by by_contra h; exact hc (hP.2 h))]; exact hk

/-- What piece `n` needs before the receive slots of the others are there. -/
def sndTok (c : Dev nD) (n : Fin 32) : PropF F :=
  iprop((∃ f, sPts c n f) ∗ if dest c n = c then iprop(emp) else iprop(dutyTok ER (sendCell c n) 0 0 ∗ dutyTok ER (recvCell (dest c n) c) 0 0))
/-- Before the barrier wait: the position at the barrier, its credit, the own receive slot, the pieces' tokens. -/
def Bar (c : Dev nD) : PropF F :=
  iprop(atPos ER (barCell c) 0 ∅ 0 ∗ cred (tallyAt (barCell c) () 31) ∗ (∃ f, rPts c c f) ∗ bigSep Finset.univ (sndTok (F := F) c))

theorem sig_all : (Sig (F := F) c 32) ⊢ owesSome c (above 0 (oSnd c)) := by
  unfold Sig; rw [above_end, add_zero]
  iintro ⟨H, -⟩; iexact H

set_option maxRecDepth 20000 in
theorem may_bar : records m K ⊢ MayWait (c : Thread nD τ) (.reg barS) () (above 0 (oSnd c)) := (lev_at m K).trans (mayWait_bar c)

theorem rest_bar : (bigSep ((Rd m).duties (barCell c) 0 \ ∅) fun d => (Rd (F := F) m).payload (barCell c) 0 d)
    = bigSep (Finset.univ.filter (fun d : Dev nD => d ≠ c)) fun d => iprop(∃ f, rPts (F := F) d c f) := by
  rw [Finset.sdiff_empty, duties_bar]; exact bigSep_congr fun d _ => payload_bar m c 0 d

theorem snd_start :
    iprop(owesSome c (above 0 (oSnd c)) ∗ (bigSep (Finset.univ.filter (fun d : Dev nD => d ≠ c)) fun d => iprop(∃ f, rPts (F := F) d c f))
      ∗ (∃ f, rPts (F := F) c c f) ∗ bigSep Finset.univ (sndTok (F := F) c)) ⊢ Snd m c 0 := by
  unfold Snd
  rw [prog_start]
  have h1 : (bigSep Finset.univ (snd0 (F := F) c) : PropF F)
      = iprop((bigSep Finset.univ fun d : Dev nD => iprop(∃ f, rPts (F := F) d c f)) ∗ bigSep Finset.univ (sndTok (F := F) c)) := by
    rw [bigSep_univ_equiv (destEquiv c) (fun d : Dev nD => iprop(∃ f, rPts (F := F) d c f)), ← bigSep_sep']
    refine bigSep_congr fun n _ => ?_
    unfold snd0 sndTok sndRest
    exact sep_left_comm_eq (F := F) _ _ _
  rw [h1, big_split (F := F) c (fun d : Dev nD => iprop(∃ f, rPts (F := F) d c f)), ← Finset.filter_ne' Finset.univ c]
  iintro ⟨Ho, Hp, Hc, Ht⟩
  isplitl [Ho]; · iexact Ho
  isplitr [Ht]
  · isplitl [Hc]; · iexact Hc
    iexact Hp
  iexact Ht

/-- The wait at the barrier: every other device hands over its slot for the own piece. -/
theorem st_bar (hk : iprop(records m K ∗ Snd m c 0 ∗ semVal (barCell c) 0 ∗ R) ⊢ run c k Q) :
    iprop(records m K ∗ Sig (F := F) c 32 ∗ Bar (F := F) c ∗ R) ⊢ run c (semWaitWord barS 31#32 >>= fun _ => k) Q := by
  show _ ⊢ wp _ _ _ (Prog.op (.semWait barS 31) fun _ => k) Q
  unfold Bar
  iintro ⟨#Hrec, HS, ⟨Hat, Hc, Hown, Htok⟩, HR⟩
  ihave Ho := (sig_all (F := F) (c := c)) $$ HS
  unfold owesSome
  icases Ho with ⟨%W, Ho⟩
  iapply (wp_wait_rest_token 𝒱₀ ER (Rd m) (c : Thread nD τ) none (κ := K (c, kBar)) (wpE_semWait_eq 𝒱₀ (c : Thread nD τ) none Set.univ) (Set.mem_univ _) ()
    (O := above 0 (oSnd c)) (W := W) (R := 0) (m := 0) (T := ∅) (by rw [expect_bar])) $$ [Hc Ho Hat]
  · isplitr; · iapply (inv_bar m K c); iexact Hrec
    isplitl [Hc]; · iexact Hc
    isplitl [Ho]; · iexact Ho
    isplitr; · iapply (may_bar m K); iexact Hrec
    iexact Hat
  iintro ⟨Ho, Hat, -, Hpay⟩
  ihave Hpay := (Entails.of_eq (rest_bar m)) $$ Hpay
  imod (cell_close ER (Rd m) (Set.mem_univ (K (c, kBar))) (fun h => h) (R := 0 + 1) (duties_bar_later m c)) $$ [Hat] with Hz
  · isplitr; · iapply (inv_bar m K c); iexact Hrec
    iexact Hat
  iapply hk
  isplitr; · iexact Hrec
  isplitr [Hz HR]
  · iapply (snd_start m)
    isplitl [Ho]; · unfold owesSome; iexists _; iexact Ho
    isplitl [Hpay]; · iexact Hpay
    isplitl [Hown]; · iexact Hown
    iexact Htok
  isplitl [Hz]; · iexact Hz
  iexact HR

/-! ## The copies of `w` -/

theorem from_succ (r : ℕ) (h : r < 4) : (Finset.univ.filter fun i : Fin 4 => r ≤ i.val).erase ⟨r, h⟩ = Finset.univ.filter fun i : Fin 4 => r + 1 ≤ i.val := by
  ext i
  simp only [Finset.mem_erase, Finset.mem_filter, Finset.mem_univ, true_and, ne_eq, Fin.ext_iff]
  omega
theorem toks_take (c : Dev nD) (b : Fin 2) (r : ℕ) (h : r < 4) :
    (bigSep (Finset.univ.filter fun i : Fin 4 => r ≤ i.val) fun i => (dutyTok ER (copyCell c b) i.val 0 : PropF F))
      = iprop(dutyTok ER (copyCell c b) r 0 ∗ bigSep (Finset.univ.filter fun i : Fin 4 => r + 1 ≤ i.val) fun i => dutyTok ER (copyCell c b) i.val 0) := by
  rw [bigSep_erase (i := (⟨r, h⟩ : Fin 4)) (Finset.mem_filter.2 ⟨Finset.mem_univ _, le_refl r⟩), from_succ r h]; rfl

theorem cols_set (g : Fin 8) : (wCols g).view.set = (colsR g).set := View.set_slice_whole _ _
theorem half_set (b : Fin 2) : (bHalf b).view.set = (halfR b).set := by rw [View.set_reshape, View.set_slice_whole]

theorem emb_half (b : Fin 2) (y : Fin 8192) (z : Fin 512) : (bHalf b).view.emb (ix2 y z) = (ix3 b y z : S2x8192x512.Idx) := by
  show (halfR b).emb (Shape.reshapeEquiv _ (ix2 y z)) = _
  rw [reshapeEquiv_ix2_1ab]
  funext a; apply Fin.ext
  fin_cases a
  · show b.val + 1 * 0 = b.val; omega
  · show 0 + 1 * y.val = y.val; omega
  · show 0 + 1 * z.val = z.val; omega
theorem emb_cols (g : Fin 8) (y : Fin 8192) (z : Fin 512) : (wCols g).view.emb (ix2 y z) = (ix2 y ⟨g.val * 512 + z.val, col_lt g z⟩ : S8192x4096.Idx) := by
  show (colsR g).emb (ix2 y z) = _
  funext a; apply Fin.ext
  fin_cases a
  · show 0 + 1 * y.val = y.val; omega
  · show g.val * 512 + 1 * z.val = g.val * 512 + z.val; omega

/-- A column group landed in a half of the weight buffer. -/
theorem landed_cols (c : Dev nD) (b : Fin 2) (g : Fin 8) (f : S2x8192x512.Idx → Elt F .f32) :
    ∀ i ∈ (halfR b).set, (bHalf b).view.write (Elt F) f ((wCols g).view.read (Elt F) (ws m c)) Finset.univ i = wBuf m c g i := by
  intro i hi
  rw [← half_set] at hi
  obtain ⟨x, -, rfl⟩ := Finset.mem_map.1 hi
  rw [View.write_emb_of_mem _ _ (Finset.mem_univ x), eq_ix2 x]
  have e := emb_half b (x 0) (x 1)
  have e' := emb_cols g (x 0) (x 1)
  show ws m c ((wCols g).view.emb (ix2 (x 0) (x 1))) = wBuf m c g ((bHalf b).view.emb (ix2 (x 0) (x 1)))
  rw [e, e']; rfl

/-- Start the copy of round `r` into half `b`. -/
theorem st_copy (b : Fin 2) (r : ℕ) {off : Fin 2 → ℕ} {hin} {hin2} {hin3} {p1 p2 p3}
    (hk : iprop(records m K ∗ Pend m c b r ∗ R) ⊢ run c k Q) (hr : r < 4) (hoff : off = ![0, (grp c (2 * r + b.val)).val * 512]) :
    iprop(records m K ∗ Idle m c b r ∗ R)
      ⊢ run c (Prog.lift (.enqueueDma (wM.slice (Rect.unit (s := S8192x4096) off S8192x512.size hin) (fun _ => rfl))
          (.here ((bM.slice (Rect.unit (s := S2x8192x512) ![b.val, 0, 0] S1x8192x512.size hin2) (fun _ => rfl)).squeeze S8192x512 squeezes_S1x8192x512_S8192x512))
          (.dma ((cc0_scratch4.slice (Rect.unit (s := S2) ![b.val] S1.size hin3)).squeeze S_ squeezes_S1_S_).sem) p1 p2 p3) >>= fun _ => k) Q := by
  subst hoff
  show _ ⊢ wp _ _ _ (Prog.op (.enqueueDma (wCols (grp c (2 * r + b.val))) (.here (bHalf b)) (.dma (cSem b)) p1 p2 p3) fun _ => k) Q
  unfold Idle
  rw [toks_take c b r hr]
  iintro ⟨#Hrec, ⟨⟨%f, Hb⟩, Hw, Hat, #Hre, Ht, Hts⟩, HR⟩
  unfold wPts bPts
  ihave ⟨Hw, Hw'⟩ := (pointsTo_split_subset (Finset.subset_univ (colsR (grp c (2 * r + b.val))).set)).1 $$ Hw
  iapply (wp_copy_pointsTo 𝒱₀ ER (Rd m) (c : Thread nD τ) none (src := wCols (grp c (2 * r + b.val))) (dst := bHalf b) (q := shr b) (fs := ws m c) (fd := f)
    (r := r) (d := 0) (κ := K (c, kCopy b)) (by rw [duties_copy m c b r hr]; exact Finset.mem_singleton_self _) () NC (by rw [NC_def]) (amount_copy m c b r 0)
    (by
      rw [payload_copy, cols_set, half_set]; unfold copyPay bPts wPts
      exact sep_mono_left (Entails.of_eq (pointsTo_congr (landed_cols m c b _ f))))) $$ [Hw Hb Ht]
  · isplitr; · iapply (inv_copy m K c b); iexact Hrec
    isplitl [Hw]; · rw [cols_set]; iexact Hw
    isplitl [Hb]; · rw [half_set]; iexact Hb
    isplitl [Ht]; · iexact Ht
    iexact Hre
  iintro Hc
  iapply hk
  unfold Pend wPts
  isplitr; · iexact Hrec
  isplitr [HR]
  · isplitl [Hc]; · iexact Hc
    isplitl [Hw']; · iexact Hw'
    isplitl [Hat]; · iexact Hat
    iexact Hts
  iexact HR

theorem rest_copy (b : Fin 2) (r : ℕ) (hr : r < 4) :
    (bigSep ((Rd m).duties (copyCell c b) r \ ∅) fun d => (Rd (F := F) m).payload (copyCell c b) r d) = copyPay m c b r := by
  rw [Finset.sdiff_empty, duties_copy m c b r hr, bigSep_singleton, payload_copy]

set_option maxRecDepth 20000 in
theorem may_copy (b : Fin 2) (n : ℕ) : records m K ⊢ MayWait (c : Thread nD τ) (.dma (cSem b)) () (above n (oSnd c)) :=
  (lev_at m K).trans (mayWait_low c (cSem b) (by unfold lv; rw [kind_copy]) _ (fun x u h => by
    obtain ⟨i, hi⟩ := above_pos h; exact .inl ⟨i, oSnd_pos hi⟩))

/-- Wait for the copy of round `r` into half `b`. -/
theorem st_cwait (b : Fin 2) (r : ℕ) {n : ℕ} {src : Memref sig .tc .hbm S8192x512 .f32} {hin2} {hin3} {p1 p2}
    (hk : iprop(records m K ∗ Full m c b r ∗ owesSome c (above n (oSnd c)) ∗ R) ⊢ run c k Q) (hr : r < 4) :
    iprop(records m K ∗ Pend m c b r ∗ owesSome c (above n (oSnd c)) ∗ R)
      ⊢ run c (Prog.lift (.waitDma2 ((cc0_scratch4.slice (Rect.unit (s := S2) ![b.val] S1.size hin3)).squeeze S_ squeezes_S1_S_).sem src
          ((bM.slice (Rect.unit (s := S2x8192x512) ![b.val, 0, 0] S1x8192x512.size hin2) (fun _ => rfl)).squeeze S8192x512 squeezes_S1x8192x512_S8192x512) p1 p2) >>= fun _ => k) Q := by
  show _ ⊢ wp _ _ _ (Prog.op (.waitDma2 (cSem b) src (bHalf b) p1 p2) fun _ => k) Q
  unfold Pend owesSome
  iintro ⟨#Hrec, ⟨Hc, Hw, Hat, Hts⟩, ⟨%W, Ho⟩, HR⟩
  iapply (wp_wait_rest_token 𝒱₀ ER (Rd m) (c : Thread nD τ) none (κ := K (c, kCopy b)) (wpE_waitDma2_eq 𝒱₀ (c : Thread nD τ) none Set.univ) (Set.mem_univ _) ()
    (O := above n (oSnd c)) (W := W) (R := r) (m := 0) (T := ∅) (by rw [expect_copy m c b r hr, NC_def, Nat.zero_add])) $$ [Hc Ho Hat]
  · isplitr; · iapply (inv_copy m K c b); iexact Hrec
    isplitl [Hc]; · rw [NC_def]; iexact Hc
    isplitl [Ho]; · iexact Ho
    isplitr; · iapply (may_copy m K b n); iexact Hrec
    iexact Hat
  iintro ⟨Ho, Hat, Hre, Hpay⟩
  ihave Hpay := (Entails.of_eq (rest_copy m b r hr)) $$ Hpay
  unfold copyPay
  icases Hpay with ⟨Hb, Hw'⟩
  unfold wPts
  ihave Hw := (pointsTo_join_subset (ℓ := (c : Thread nD τ).loc main_arg1) (q := shr b) (f := ws m c) (g := ws m c) (Finset.subset_univ (colsR (grp c (2 * r + b.val))).set)) $$ [Hw Hw']
  · isplitl [Hw']; · iexact Hw'
    iexact Hw
  iapply hk
  unfold Full owesSome wPts
  isplitr; · iexact Hrec
  isplitr [HR Ho]
  · isplitl [Hb]; · iexact Hb
    isplitl [Hw]; · rw [Finset.piecewise_same]; iexact Hw
    isplitl [Hat]; · iexact Hat
    isplitl [Hre]; · iexact Hre
    iexact Hts
  isplitl [Ho]; · iexists _; iexact Ho
  iexact HR

theorem full_idle (b : Fin 2) (r : ℕ) : Full m c b r ⊢ Idle m c b (r + 1) := by
  unfold Full Idle
  iintro ⟨Hb, H⟩
  isplitl [Hb]; · iexists _; iexact Hb
  iexact H

end Steps

end Cert.KernelIdeal.Pf

end
-- ==== Proof.KernelIdeal.Steps2.lean ====
/-
  Filling the slots, sending, and collecting: one statement of the kernel at a time.
-/
module

public import proofs.«01_k».proof.Proof.KernelIdeal.Steps

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ) (K : Dev nD × Fin 67 → ℕ)

section Steps
variable {c : Dev nD}
variable {R S A B T X : PropF F}
variable {α : Type} {k : PR F α}
variable {Q : α → PropF F}

/-! ## Loads of the rows, of their narrow copy, of a half of the weight buffer -/

/-- The staged rows of `x`; the narrow copy, before and after it is made. -/
def xPts (c : Dev nD) : PropF F := ((c : Thread nD τ).loc cc0_stg0_0) ↦{fullShare} xstg m c
def tAny (c : Dev nD) : PropF F := iprop(∃ f : S256x8192.Idx → Elt F .bf16, ((c : Thread nD τ).loc cc0_scratch1) ↦{fullShare} f)
def tPts (c : Dev nD) : PropF F := ((c : Thread nD τ).loc cc0_scratch1) ↦{fullShare} (xbv m c : S256x8192.Idx → Elt F .bf16)

theorem zero2 : (![0, 0] : Fin 2 → ℕ) = fun _ => 0 := by decide

theorem st_xload {hin} {p} {f : (S256x8192.Idx → Elt F .f32) → PR F α} (hk : iprop(records m K ∗ xPts m c ∗ R) ⊢ run c (f (xstg m c)) Q) :
    iprop(records m K ∗ xPts m c ∗ R)
      ⊢ run c (Prog.lift (.load xM (Rect.unit (s := S256x8192) ![0, 0] S256x8192.size hin).toLoadRect p) >>= f) Q := by
  show _ ⊢ wp _ _ _ (Prog.op (.load xM (Rect.unit (s := S256x8192) ![0, 0] S256x8192.size hin).toLoadRect p) f) Q
  iintro ⟨#Hrec, HX, HR⟩
  unfold xPts
  iapply (wp_load 𝒱₀ (c : Thread nD τ) none Set.univ (m := xM) (Finset.subset_univ _)) $$ HX
  iintro HX
  rw [show View.readAt (Elt F) xM.view (Rect.unit (s := S256x8192) ![0, 0] S256x8192.size hin).toLoadRect (xstg m c) = xstg m c from Memref.readAt_unit_zero (Elt F) cc0_stg0_0 zero2 hin _]
  iapply hk
  unfold xPts
  isplitr; · iexact Hrec
  isplitl [HX]; · iexact HX
  iexact HR

/-- The load of the narrow copy before it is made; what it reads goes unused. -/
theorem st_tload0 {hin} {p} (hk : iprop(records m K ∗ tAny (F := F) c ∗ R) ⊢ run c k Q) :
    iprop(records m K ∗ tAny (F := F) c ∗ R)
      ⊢ run c (Prog.lift (.load tM (Rect.unit (s := S256x8192) ![0, 0] S256x8192.size hin).toLoadRect p) >>= fun _ => k) Q := by
  show _ ⊢ wp _ _ _ (Prog.op (.load tM (Rect.unit (s := S256x8192) ![0, 0] S256x8192.size hin).toLoadRect p) fun _ => k) Q
  unfold tAny
  iintro ⟨#Hrec, ⟨%f, HX⟩, HR⟩
  iapply (wp_load 𝒱₀ (c : Thread nD τ) none Set.univ (m := tM) (Finset.subset_univ _)) $$ HX
  iintro HX
  iapply hk
  unfold tAny
  isplitr; · iexact Hrec
  isplitl [HX]; · iexists _; iexact HX
  iexact HR

theorem st_tstore {hin} {p1 p2} (hk : iprop(records m K ∗ tPts m c ∗ R) ⊢ run c k Q) :
    iprop(records m K ∗ tAny (F := F) c ∗ R)
      ⊢ run c (Prog.lift (.store tM (Rect.unit (s := S256x8192) ![0, 0] S256x8192.size hin) (k0_pay3 (xstg m c)) Finset.univ p1 p2) >>= fun _ => k) Q := by
  show _ ⊢ wp _ _ _ (Prog.op (.store tM (Rect.unit (s := S256x8192) ![0, 0] S256x8192.size hin) (k0_pay3 (xstg m c)) Finset.univ p1 p2) fun _ => k) Q
  unfold tAny
  iintro ⟨#Hrec, ⟨%f, HX⟩, HR⟩
  iapply (wp_store 𝒱₀ (c : Thread nD τ) none Set.univ (m := tM) (r := Rect.unit (s := S256x8192) ![0, 0] S256x8192.size hin) (S := Finset.univ) (f := f) (Finset.subset_univ _)) $$ HX
  iintro HX
  iapply hk
  isplitr; · iexact Hrec
  isplitl [HX]
  · unfold tPts xbv
    ihave HX := (Entails.of_eq (congrArg (fun g : S256x8192.Idx → Elt F .bf16 => (((c : Thread nD τ).loc cc0_scratch1) ↦{fullShare} g : PropF F))
      (Memref.write_access_unit_zero_univ (Elt F) cc0_scratch1 zero2 hin f (k0_pay3 (xstg m c))))) $$ HX
    iexact HX
  iexact HR

theorem st_tload {hin} {p} {f : (S256x8192.Idx → Elt F .bf16) → PR F α} (hk : iprop(records m K ∗ tPts m c ∗ R) ⊢ run c (f (xbv m c)) Q) :
    iprop(records m K ∗ tPts m c ∗ R)
      ⊢ run c (Prog.lift (.load tM (Rect.unit (s := S256x8192) ![0, 0] S256x8192.size hin).toLoadRect p) >>= f) Q := by
  show _ ⊢ wp _ _ _ (Prog.op (.load tM (Rect.unit (s := S256x8192) ![0, 0] S256x8192.size hin).toLoadRect p) f) Q
  iintro ⟨#Hrec, HX, HR⟩
  unfold tPts
  iapply (wp_load 𝒱₀ (c : Thread nD τ) none Set.univ (m := tM) (Finset.subset_univ _)) $$ HX
  iintro HX
  rw [show View.readAt (Elt F) tM.view (Rect.unit (s := S256x8192) ![0, 0] S256x8192.size hin).toLoadRect (xbv m c) = xbv m c from Memref.readAt_unit_zero (Elt F) cc0_scratch1 zero2 hin _]
  iapply hk
  unfold tPts
  isplitr; · iexact Hrec
  isplitl [HX]; · iexact HX
  iexact HR

theorem emb_half3 (b : Fin 2) (x : S1x8192x512.Idx) : (bM.access (halfR b)).emb x = (ix3 b (x 1) (x 2) : S2x8192x512.Idx) := by
  show (halfR b).emb x = _
  funext a; apply Fin.ext
  fin_cases a
  · show b.val + 1 * (x 0).val = b.val; have h : (x 0).val < 1 := (x 0).isLt; omega
  · show 0 + 1 * (x 1).val = (x 1).val; omega
  · show 0 + 1 * (x 2).val = (x 2).val; omega

theorem st_wload (b : Fin 2) (r : ℕ) {hin} {p} {f : (S1x8192x512.Idx → Elt F .f32) → PR F α}
    (hk : iprop(records m K ∗ Full m c b r ∗ R) ⊢ run c (f (wVal m c (grp c (2 * r + b.val)))) Q) :
    iprop(records m K ∗ Full m c b r ∗ R)
      ⊢ run c (Prog.lift (.load bM (Rect.unit (s := S2x8192x512) ![b.val, 0, 0] S1x8192x512.size hin).toLoadRect p) >>= f) Q := by
  show _ ⊢ wp _ _ _ (Prog.op (.load bM (halfR b).toLoadRect p) f) Q
  unfold Full bPts
  iintro ⟨#Hrec, ⟨Hb, H⟩, HR⟩
  iapply (wp_load_rect 𝒱₀ (c : Thread nD τ) none Set.univ (m := bM) (r := halfR b) (S := (halfR b).set) (by rw [View.set_slice_whole])) $$ Hb
  iintro Hb
  rw [show (bM.access (halfR b)).read (Elt F) (wBuf m c (grp c (2 * r + b.val))) = wVal m c (grp c (2 * r + b.val)) from by
    funext x
    show wBuf m c _ ((bM.access (halfR b)).emb x) = _
    rw [emb_half3]; rfl]
  iapply hk
  unfold Full bPts
  isplitr; · iexact Hrec
  isplitr [HR]
  · isplitl [Hb]; · iexact Hb
    iexact H
  iexact HR

/-! ## Slots -/

theorem sslot_set (n : Fin 32) : (sSlot n).view.set = (slotR n).set := by rw [View.set_reshape, View.set_slice_whole]
theorem rslot_set (n : Fin 32) : (rSlot n).view.set = (slotR n).set := by rw [View.set_reshape, View.set_slice_whole]
theorem emb_slotR (n : Fin 32) (x : S1x256x128.Idx) : (slotR n).emb x = (ix3 n (x 1) (x 2) : S32x256x128.Idx) := by
  funext a; apply Fin.ext
  fin_cases a
  · show n.val + 1 * (x 0).val = n.val; have h : (x 0).val < 1 := (x 0).isLt; omega
  · show 0 + 1 * (x 1).val = (x 1).val; omega
  · show 0 + 1 * (x 2).val = (x 2).val; omega
theorem emb_sslot (n : Fin 32) (y : Fin 256) (z : Fin 128) : (sSlot n).view.emb (ix2 y z) = (ix3 n y z : S32x256x128.Idx) := by
  show (slotR n).emb (Shape.reshapeEquiv _ (ix2 y z)) = _
  rw [reshapeEquiv_ix2_1ab, emb_slotR]
theorem emb_rslot (n : Fin 32) (y : Fin 256) (z : Fin 128) : (rSlot n).view.emb (ix2 y z) = (ix3 n y z : S32x256x128.Idx) := by
  show (slotR n).emb (Shape.reshapeEquiv _ (ix2 y z)) = _
  rw [reshapeEquiv_ix2_1ab, emb_slotR]
theorem ix3_one (x : S1x256x128.Idx) : (ix3 (0 : Fin 1) (x 1) (x 2) : S1x256x128.Idx) = x := by
  have h : x 0 = (0 : Fin 1) := Fin.ext (by have h : (x 0).val < 1 := (x 0).isLt; show (x 0).val = 0; omega)
  rw [← h]; exact (eq_ix3 x).symm

/-- A piece stored in its slot of the send buffer. -/
theorem stored_slot (c : Dev nD) (n : Fin 32) (f : S32x256x128.Idx → Elt F .bf16) :
    ∀ i ∈ (slotR n).set, (sM.access (slotR n)).write (Elt F) f (piece m c n) Finset.univ i = sBuf m c i := by
  intro i hi
  rw [← View.set_slice_whole (b := cc0_scratch2)] at hi
  obtain ⟨x, -, rfl⟩ := Finset.mem_map.1 hi
  refine (View.write_emb_of_mem (Val := Elt F) (v := sM.access (slotR n)) _ _ (Finset.mem_univ x)).trans ?_
  show piece m c n x = sBuf m c ((slotR n).emb x)
  rw [emb_slotR]
  show _ = piece m c n (ix3 (0 : Fin 1) (x 1) (x 2))
  rw [ix3_one]

theorem st_put (n : ℕ) (h : n < 32) {hin hin'} {p p1 p2} {w : S1x256x128.Idx → Elt F .bf16}
    (hk : iprop(records m K ∗ SndS m c n h ∗ R) ⊢ run c k Q) (hw : w = piece m c ⟨n, h⟩) :
    iprop(records m K ∗ Snd m c n ∗ R)
      ⊢ run c (Prog.lift (.load sM (Rect.unit (s := S32x256x128) ![n, 0, 0] S1x256x128.size hin).toLoadRect p) >>= fun _ =>
          Prog.lift (.store sM (Rect.unit (s := S32x256x128) ![n, 0, 0] S1x256x128.size hin') w Finset.univ p1 p2) >>= fun _ => k) Q := by
  subst hw
  show _ ⊢ wp _ _ _ (Prog.op (.load sM (slotR ⟨n, h⟩).toLoadRect p) fun _ => Prog.op (.store sM (slotR ⟨n, h⟩) (piece m c ⟨n, h⟩) Finset.univ p1 p2) fun _ => k) Q
  unfold Snd
  rw [prog_take n h]
  unfold snd0 sPts
  iintro ⟨#Hrec, ⟨Ho, ⟨⟨%f, Hs⟩, Hr⟩, Hh⟩, HR⟩
  iapply (wp_load_rect 𝒱₀ (c : Thread nD τ) none Set.univ (m := sM) (r := slotR ⟨n, h⟩) (S := (slotR ⟨n, h⟩).set) (by rw [View.set_slice_whole])) $$ Hs
  iintro Hs
  iapply (wp_store 𝒱₀ (c : Thread nD τ) none Set.univ (m := sM) (r := slotR ⟨n, h⟩) (S := (slotR ⟨n, h⟩).set) (by
    rw [← View.set_slice_whole (b := cc0_scratch2)]; exact subset_rfl)) $$ Hs
  iintro Hs
  iapply hk
  unfold SndS sPts snd0
  isplitr; · iexact Hrec
  isplitr [HR]
  · isplitl [Ho]; · iexact Ho
    isplitl [Hs]
    · ihave Hs := (Entails.of_eq (pointsTo_congr (stored_slot m c ⟨n, h⟩ f))) $$ Hs
      iexact Hs
    isplitl [Hr]; · iexact Hr
    iexact Hh
  iexact HR

/-! ## Sending a piece, or keeping it -/

/-- A piece written into its slot of the target's receive buffer. -/
theorem landed_piece (c : Dev nD) (n : Fin 32) (f : S32x256x128.Idx → Elt F .bf16) :
    ∀ i ∈ (slotR c).set, (rSlot c).view.write (Elt F) f ((sSlot n).view.read (Elt F) (sBuf m c)) Finset.univ i = rBuf m (dest c n) i := by
  intro i hi
  rw [← rslot_set] at hi
  obtain ⟨x, -, rfl⟩ := Finset.mem_map.1 hi
  rw [View.write_emb_of_mem _ _ (Finset.mem_univ x), eq_ix2 x]
  have e := emb_rslot c (x 0) (x 1)
  have e' := emb_sslot n (x 0) (x 1)
  show sBuf m c ((sSlot n).view.emb (ix2 (x 0) (x 1))) = rBuf m (dest c n) ((rSlot c).view.emb (ix2 (x 0) (x 1)))
  rw [e, e']
  show _ = sBuf m c (ix3 (pieceOf c (dest c n)) (x 0) (x 1))
  rw [pieceOf_dest]

/-- A slot of the send buffer, of the receive buffer, and a cell of a row of semaphores, at offsets yet to be evaluated. -/
abbrev sAt (off : Fin 3 → ℕ) (h : ∀ a, off a + S1x256x128.size a ≤ S32x256x128.size a) : Memref sig .tc .vmem S256x128 .bf16 :=
  (sM.slice (Rect.unit (s := S32x256x128) off S1x256x128.size h) (fun _ => rfl)).squeeze S256x128 squeezes_S1x256x128_S256x128
abbrev rAt (off : Fin 3 → ℕ) (h : ∀ a, off a + S1x256x128.size a ≤ S32x256x128.size a) : Memref sig .tc .vmem S256x128 .bf16 :=
  (rM.slice (Rect.unit (s := S32x256x128) off S1x256x128.size h) (fun _ => rfl)).squeeze S256x128 squeezes_S1x256x128_S256x128
abbrev qAt (q : DmaSems sig S32) (off : Fin 1 → ℕ) (h : ∀ a, off a + S1.size a ≤ S32.size a) : DmaSem sig :=
  ((q.slice (Rect.unit (s := S32) off S1.size h)).squeeze S_ squeezes_S1_S_).sem

theorem st_send (cnd : Dev nD → BitVec 1) (dvf : Dev nD → ℕ) (n : ℕ) (h : n < 32) {hlt : cnd c = 1#1 → dvf c < nD}
    {offQ : Fin 1 → ℕ} {offR : Fin 3 → ℕ} {hin} {hin'} {hQ : cnd c = 1#1 → ∀ a, offQ a + S1.size a ≤ S32.size a}
    {hR : cnd c = 1#1 → ∀ a, offR a + S1x256x128.size a ≤ S32x256x128.size a}
    {p1 : cnd c = 1#1 → (sAt ![n, 0, 0] hin).view.WordExact} {p2 : ∀ hc, (rAt offR (hR hc)).view.WordExact}
    {p3 : ∀ hc, DmaTarget.Typed .vmem (.dma (qAt cc0_scratch6 offQ (hQ hc))) (.remote (Dev.tc (⟨dvf c, hlt hc⟩ : Dev nD)) (rAt offR (hR hc)) (.dma (qAt cc0_scratch5 ![n] hin')))}
    (hk : iprop(records m K ∗ SndR m c n h ∗ R) ⊢ run c k Q) (hP : ∀ d, cnd d = 1#1 ↔ dest d ⟨n, h⟩ ≠ d) (hd : ∀ d, dvf d = (dest d ⟨n, h⟩).val)
    (hoQ : offQ = ![c.val]) (hoR : offR = ![c.val, 0, 0]) :
    iprop(records m K ∗ SndS m c n h ∗ R)
      ⊢ run c (dite (cnd c = 1#1) (fun hc => Prog.lift (.enqueueDma (sAt ![n, 0, 0] hin)
            (.remote (Dev.tc (⟨dvf c, hlt hc⟩ : Dev nD)) (rAt offR (hR hc)) (.dma (qAt cc0_scratch5 ![n] hin')))
            (.dma (qAt cc0_scratch6 offQ (hQ hc))) (p1 hc) (p2 hc) (p3 hc)) >>= fun _ => k)
          (fun _ => k)) Q := by
  subst hoQ hoR
  by_cases hc : cnd c = 1#1
  · rw [dif_pos hc]
    have hne := (hP c).1 hc
    have hdv : (⟨dvf c, hlt hc⟩ : Dev nD) = dest c ⟨n, h⟩ := Fin.ext (hd c)
    generalize p1 hc = q1; generalize p2 hc = q2; generalize p3 hc = q3
    clear p1 p2 p3
    revert q1 q2 q3
    rw [hdv]
    intro q1 q2 q3
    show _ ⊢ wp _ _ _ (Prog.op (.enqueueDma (sSlot ⟨n, h⟩) (.remote (Dev.tc (dest c ⟨n, h⟩)) (rSlot c) (.dma (sSem ⟨n, h⟩))) (.dma (rSem c)) q1 q2 q3) fun _ => k) Q
    unfold SndS sndRest owesSome
    rw [if_neg hne]
    iintro ⟨#Hrec, ⟨⟨%W, Ho⟩, Hs, ⟨⟨%f, Hr⟩, Ht1, Ht2⟩, Hh⟩, HR⟩
    unfold sPts rPts
    iapply (wp_send_pointsTo 𝒱₀ ER (Rd m) (c : Thread nD τ) none (c' := (dest c ⟨n, h⟩ : Thread nD τ)) (src := sSlot ⟨n, h⟩) (dst := rSlot c)
      (sS := .dma (sSem ⟨n, h⟩)) (sem := .dma (rSem c)) (q := fullShare) (fs := sBuf m c) (fd := f) (r₁ := 0) (r₂ := 0) (d₁ := 0) (d₂ := 0)
      (κ₁ := K (c, kSend ⟨n, h⟩)) (κ₂ := K (dest c ⟨n, h⟩, kRecv c))
      (by rw [duties_send m c _ hne]; exact Finset.mem_singleton_self _)
      (by rw [duties_recv m _ c (Ne.symm hne)]; exact Finset.mem_singleton_self _)
      () () NS (by rw [NS_def]) (amount_send m c _ 0 0) (amount_recv m _ c 0 0)
      (O₀ := above n (oSnd c)) (above (n + 1) (oSnd c)) (by rw [above_step n h, show oSnd c ⟨n, h⟩ = _ from if_neg hne])
      (by rw [payload_send, sslot_set]; unfold sPts; exact .rfl)
      (by rw [payload_recv, rslot_set]; unfold rPts; exact Entails.of_eq (pointsTo_congr (landed_piece m c ⟨n, h⟩ f)))) $$ [Hs Hr Ho Ht1 Ht2]
    · isplitr; · iapply (inv_send m K c ⟨n, h⟩); iexact Hrec
      isplitr; · iapply (inv_recv m K (dest c ⟨n, h⟩) c); iexact Hrec
      isplitl [Hs]; · rw [sslot_set]; iexact Hs
      isplitl [Hr]; · rw [rslot_set]; iexact Hr
      isplitl [Ho]; · iexact Ho
      isplitl [Ht1]; · iexact Ht1
      isplitr; · iapply (reached_send m K c ⟨n, h⟩); iexact Hrec
      isplitl [Ht2]; · iexact Ht2
      iapply (reached_recv m K (dest c ⟨n, h⟩) c); iexact Hrec
    iintro ⟨Hc, Ho⟩
    iapply hk
    unfold SndR sndHalf owesSome
    rw [if_neg hne]
    isplitr; · iexact Hrec
    isplitr [HR]
    · isplitl [Ho]; · iexists W; iexact Ho
      isplitl [Hc]; · iexact Hc
      iexact Hh
    iexact HR
  · rw [dif_neg hc]
    have heq : dest c ⟨n, h⟩ = c := by by_contra h'; exact hc ((hP c).2 h')
    refine BIBase.Entails.trans ?_ hk
    unfold SndS SndR sndRest sndHalf
    rw [if_pos heq, if_pos heq, above_step n h, show oSnd c ⟨n, h⟩ = 0 from if_pos heq, add_zero, heq]
    iintro ⟨#Hrec, ⟨Ho, Hs, ⟨Hr, -⟩, Hh⟩, HR⟩
    isplitr; · iexact Hrec
    isplitr [HR]
    · isplitl [Ho]; · iexact Ho
      isplitl [Hs Hr]
      · isplitl [Hs]; · iexact Hs
        iexact Hr
      iexact Hh
    iexact HR

theorem pay8_id (v : S1x256x128.Idx → Elt F .bf16) : k0_pay8 (F := F) v = v := by
  show shapeCast S1x256x128 (shapeCast S256x128 v shapeCasts_S1x256x128_S256x128) shapeCasts_S256x128_S1x256x128 = v
  rw [shapeCast_shapeCast]

/-- A piece the device keeps, copied from its slot into the own receive slot. -/
theorem kept_piece (c : Dev nD) (n : Fin 32) (hn : dest c n = c) (f : S32x256x128.Idx → Elt F .bf16) :
    ∀ i ∈ (slotR c).set, (rM.access (slotR c)).write (Elt F) f (k0_pay8 ((sM.access (slotR n)).read (Elt F) (sBuf m c))) Finset.univ i = rBuf m c i := by
  intro i hi
  rw [← View.set_slice_whole (b := cc0_scratch3)] at hi
  obtain ⟨x, -, rfl⟩ := Finset.mem_map.1 hi
  refine (View.write_emb_of_mem (Val := Elt F) (v := rM.access (slotR c)) _ _ (Finset.mem_univ x)).trans ?_
  rw [pay8_id]
  show sBuf m c ((slotR n).emb x) = rBuf m c ((slotR c).emb x)
  rw [emb_slotR, emb_slotR]
  show _ = sBuf m c (ix3 (pieceOf c c) (x 1) (x 2))
  rw [show pieceOf c c = n from (congrArg (pieceOf c) hn.symm).trans (pieceOf_dest c n)]

theorem st_local (cnd : Dev nD → BitVec 1) (n : ℕ) (h : n < 32) {off : Fin 3 → ℕ} {hin} {hR : cnd c = 1#1 → ∀ a, off a + S1x256x128.size a ≤ S32x256x128.size a} {p : cnd c = 1#1 → _}
    {p1 : ∀ hc, rM.view.LoadsAt (Rect.unit (s := S32x256x128) off S1x256x128.size (hR hc)).toLoadRect}
    {p2 : ∀ hc, (rM.access (Rect.unit (s := S32x256x128) off S1x256x128.size (hR hc))).Stores Finset.univ}
    {p3 : ∀ hc, (Finset.univ : Finset (Rect.unit (s := S32x256x128) off S1x256x128.size (hR hc)).shape.Idx) = Finset.univ ∨ ∀ a, (Rect.unit (s := S32x256x128) off S1x256x128.size (hR hc)).stride a = 1}
    {pay : (S1x256x128.Idx → Elt F .bf16) → S1x256x128.Idx → Elt F .bf16}
    (hk : iprop(records m K ∗ Snd m c (n + 1) ∗ R) ⊢ run c k Q) (hP : ∀ d, cnd d = 1#1 ↔ dest d ⟨n, h⟩ = d)
    (ho : off = ![c.val, 0, 0]) (hp : pay = k0_pay8) :
    iprop(records m K ∗ SndR m c n h ∗ R)
      ⊢ run c (dite (cnd c = 1#1) (fun hc =>
          Prog.lift (.load sM (Rect.unit (s := S32x256x128) ![n, 0, 0] S1x256x128.size hin).toLoadRect (p hc)) >>= fun v =>
          Prog.lift (.load rM (Rect.unit (s := S32x256x128) off S1x256x128.size (hR hc)).toLoadRect (p1 hc)) >>= fun _ =>
          Prog.lift (.store rM (Rect.unit (s := S32x256x128) off S1x256x128.size (hR hc)) (pay v) Finset.univ (p2 hc) (p3 hc)) >>= fun _ => k)
          (fun _ => k)) Q := by
  subst ho hp
  have hlast : (iprop(hole n (snd0 c) (snd1 m c) ∗ snd1 m c ⟨n, h⟩) : PropF F) ⊢ prog (n + 1) (snd0 c) (snd1 m c) := by
    rw [← prog_put n h]; iintro ⟨H1, H2⟩; isplitl [H2] <;> iassumption
  by_cases hc : cnd c = 1#1
  · rw [dif_pos hc]
    have heq := (hP c).1 hc
    show _ ⊢ wp _ _ _ (Prog.op (.load sM (slotR ⟨n, h⟩).toLoadRect (p hc)) fun v => Prog.op (.load rM (slotR c).toLoadRect (p1 hc)) fun _ =>
      Prog.op (.store rM (slotR c) (k0_pay8 v) Finset.univ (p2 hc) (p3 hc)) fun _ => k) Q
    unfold SndR sndHalf
    rw [if_pos heq]
    unfold sPts rPts
    iintro ⟨#Hrec, ⟨Ho, ⟨Hs, ⟨%f, Hr⟩⟩, Hh⟩, HR⟩
    iapply (wp_load_rect 𝒱₀ (c : Thread nD τ) none Set.univ (m := sM) (r := slotR ⟨n, h⟩) (S := (slotR ⟨n, h⟩).set) (by rw [View.set_slice_whole])) $$ Hs
    iintro Hs
    iapply (wp_load_rect 𝒱₀ (c : Thread nD τ) none Set.univ (m := rM) (r := slotR c) (S := (slotR c).set) (by rw [View.set_slice_whole])) $$ Hr
    iintro Hr
    iapply (wp_store 𝒱₀ (c : Thread nD τ) none Set.univ (m := rM) (r := slotR c) (S := (slotR c).set) (by
      rw [← View.set_slice_whole (b := cc0_scratch3)]; exact subset_rfl)) $$ Hr
    iintro Hr
    ihave Hr := (Entails.of_eq (pointsTo_congr (kept_piece m c ⟨n, h⟩ heq f))) $$ Hr
    iapply hk
    isplitr; · iexact Hrec
    isplitr [HR]
    · unfold Snd
      isplitl [Ho]; · iexact Ho
      iapply hlast
      isplitl [Hh]; · iexact Hh
      unfold snd1 sPts rPts
      rw [if_pos heq]
      isplitl [Hs]; · iexact Hs
      iexact Hr
    iexact HR
  · rw [dif_neg hc]
    have hne : dest c ⟨n, h⟩ ≠ c := fun h' => hc ((hP c).2 h')
    refine BIBase.Entails.trans ?_ hk
    unfold SndR sndHalf
    rw [if_neg hne]
    iintro ⟨#Hrec, ⟨Ho, Hs, Hh⟩, HR⟩
    isplitr; · iexact Hrec
    isplitr [HR]
    · unfold Snd
      isplitl [Ho]; · iexact Ho
      iapply hlast
      isplitl [Hh]; · iexact Hh
      unfold snd1
      rw [if_neg hne]
      iexact Hs
    iexact HR

end Steps

end Cert.KernelIdeal.Pf

end
-- ==== Proof.KernelIdeal.Steps3.lean ====
/-
  Waiting for departures and arrivals, and writing the output: one statement of the kernel at a time.
-/
module

public import proofs.«01_k».proof.Proof.KernelIdeal.Steps2

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ) (K : Dev nD × Fin 67 → ℕ)

section Steps
variable {c : Dev nD}
variable {R S A B T X : PropF F}
variable {α : Type} {k : PR F α}
variable {Q : α → PropF F}

/-! ## Departures -/

theorem rest_send (n : Fin 32) (hne : dest c n ≠ c) :
    (bigSep ((Rd m).duties (sendCell c n) 0 \ ∅) fun d => (Rd (F := F) m).payload (sendCell c n) 0 d) = sPts c n (sBuf m c) := by
  rw [Finset.sdiff_empty, duties_send m c n hne, bigSep_singleton, payload_send]
theorem rest_recv (s : Fin 32) (hne : s ≠ c) :
    (bigSep ((Rd m).duties (recvCell c s) 0 \ ∅) fun d => (Rd (F := F) m).payload (recvCell c s) 0 d) = rPts c s (rBuf m c) := by
  rw [Finset.sdiff_empty, duties_recv m c s hne, bigSep_singleton, payload_recv]

theorem st_wsend (cnd : Dev nD → BitVec 1) (n : ℕ) (h : n < 32) {src : cnd c = 1#1 → Memref sig .tc .vmem S256x128 .bf16} {hin hin'}
    {p1 : ∀ hc, (src hc).view.WordExact} {p2 : cnd c = 1#1 → (sAt ![n, 0, 0] hin).view.WordExact}
    (hk : iprop(records m K ∗ Dep m c (n + 1) ∗ R) ⊢ run c k Q) (hP : ∀ d, cnd d = 1#1 ↔ dest d ⟨n, h⟩ ≠ d) :
    iprop(records m K ∗ Dep m c n ∗ R)
      ⊢ run c (dite (cnd c = 1#1) (fun hc =>
          Prog.lift (.waitDma2 (qAt cc0_scratch5 ![n] hin') (src hc) (sAt ![n, 0, 0] hin) (p1 hc) (p2 hc)) >>= fun _ => k) (fun _ => k)) Q := by
  have hlast : (iprop(hole n (dep0 m c) (dep1 m c) ∗ dep1 m c ⟨n, h⟩) : PropF F) ⊢ prog (n + 1) (dep0 m c) (dep1 m c) := by
    rw [← prog_put n h]; iintro ⟨H1, H2⟩; isplitl [H2] <;> iassumption
  unfold Dep
  rw [prog_take n h]
  by_cases hc : cnd c = 1#1
  · rw [dif_pos hc]
    have hne := (hP c).1 hc
    show _ ⊢ wp _ _ _ (Prog.op (.waitDma2 (sSem ⟨n, h⟩) (src hc) (sSlot ⟨n, h⟩) (p1 hc) (p2 hc)) fun _ => k) Q
    unfold dep0 snd1 owesSome
    rw [if_neg hne]
    iintro ⟨#Hrec, ⟨⟨%W, Ho⟩, ⟨Hc, Hat⟩, Hh⟩, HR⟩
    iapply (wp_wait_rest_token 𝒱₀ ER (Rd m) (c : Thread nD τ) none (κ := K (c, kSend ⟨n, h⟩)) (wpE_waitDma2_eq 𝒱₀ (c : Thread nD τ) none Set.univ) (Set.mem_univ _) ()
      (O := 0) (W := W) (R := 0) (m := 0) (T := ∅) (by rw [expect_send m c _ hne, NS_def, Nat.zero_add])) $$ [Hc Ho Hat]
    · isplitr; · iapply (inv_send m K c ⟨n, h⟩); iexact Hrec
      isplitl [Hc]; · rw [NS_def]; iexact Hc
      isplitl [Ho]; · iexact Ho
      isplitr; · rw [MayWait_zero]; iempintro
      iexact Hat
    iintro ⟨Ho, Hat, -, Hpay⟩
    ihave Hs := (Entails.of_eq (rest_send m ⟨n, h⟩ hne)) $$ Hpay
    imod (cell_close ER (Rd m) (κ := K (c, kSend ⟨n, h⟩)) (Set.mem_univ _) (fun h => h) (R := 0 + 1) (fun r hr => duties_send_later m c ⟨n, h⟩ r hr)) $$ [Hat] with Hz
    · isplitr; · iapply (inv_send m K c ⟨n, h⟩); iexact Hrec
      iexact Hat
    iapply hk
    unfold Dep owesSome
    isplitr; · iexact Hrec
    isplitr [HR]
    · isplitl [Ho]; · iexists _; iexact Ho
      iapply hlast
      isplitl [Hh]; · iexact Hh
      unfold dep1
      rw [if_neg hne]
      isplitl [Hs]; · iexists _; iexact Hs
      isplitl [Hz]; · iexact Hz
      iempintro
    iexact HR
  · rw [dif_neg hc]
    have heq : dest c ⟨n, h⟩ = c := by by_contra h'; exact hc ((hP c).2 h')
    unfold dep0 snd1
    rw [if_pos heq]
    iintro ⟨#Hrec, ⟨Ho, ⟨⟨Hs, Hr⟩, Hat⟩, Hh⟩, HR⟩
    imod (cell_close ER (Rd m) (κ := K (c, kSend ⟨n, h⟩)) (Set.mem_univ _) (fun h => h) (R := 0) (fun r _ => duties_send_own m c ⟨n, h⟩ heq r)) $$ [Hat] with Hz
    · isplitr; · iapply (inv_send m K c ⟨n, h⟩); iexact Hrec
      iexact Hat
    iapply hk
    unfold Dep
    isplitr; · iexact Hrec
    isplitr [HR]
    · isplitl [Ho]; · iexact Ho
      iapply hlast
      isplitl [Hh]; · iexact Hh
      unfold dep1
      rw [if_pos heq]
      isplitl [Hs]; · iexists _; iexact Hs
      isplitl [Hz]; · iexact Hz
      iexact Hr
    iexact HR

/-! ## Arrivals -/

theorem st_wrecv (cnd : Dev nD → BitVec 1) (n : ℕ) (h : n < 32) {src : Memref sig .tc .vmem S256x128 .bf16} {hin hin'} {p1 p2}
    (hk : iprop(records m K ∗ ArrS m c n h ∗ R) ⊢ run c k Q) (hP : ∀ d, cnd d = 1#1 ↔ d.val ≠ n) :
    iprop(records m K ∗ Arr m c n ∗ R)
      ⊢ run c (dite (cnd c = 1#1) (fun _ =>
          Prog.lift (.waitDma2 (qAt cc0_scratch6 ![n] hin') src (rAt ![n, 0, 0] hin) p1 p2) >>= fun _ => k) (fun _ => k)) Q := by
  unfold Arr
  rw [prog_take n h]
  by_cases hc : cnd c = 1#1
  · rw [dif_pos hc]
    have hne : (⟨n, h⟩ : Fin 32) ≠ c := fun h' => (hP c).1 hc (congrArg Fin.val h').symm
    show _ ⊢ wp _ _ _ (Prog.op (.waitDma2 (rSem ⟨n, h⟩) src (rSlot ⟨n, h⟩) p1 p2) fun _ => k) Q
    unfold arr0 owesSome
    rw [if_neg hne]
    iintro ⟨#Hrec, ⟨⟨%W, Ho⟩, ⟨⟨Hat, Hc⟩, Hh⟩, Hout⟩, HR⟩
    iapply (wp_wait_rest_token 𝒱₀ ER (Rd m) (c : Thread nD τ) none (κ := K (c, kRecv ⟨n, h⟩)) (wpE_waitDma2_eq 𝒱₀ (c : Thread nD τ) none Set.univ) (Set.mem_univ _) ()
      (O := 0) (W := W) (R := 0) (m := 0) (T := ∅) (by rw [expect_recv m c _ hne, NS_def, Nat.zero_add])) $$ [Hc Ho Hat]
    · isplitr; · iapply (inv_recv m K c ⟨n, h⟩); iexact Hrec
      isplitl [Hc]; · rw [NS_def]; iexact Hc
      isplitl [Ho]; · iexact Ho
      isplitr; · rw [MayWait_zero]; iempintro
      iexact Hat
    iintro ⟨Ho, Hat, -, Hpay⟩
    ihave Hs := (Entails.of_eq (rest_recv m ⟨n, h⟩ hne)) $$ Hpay
    imod (cell_close ER (Rd m) (κ := K (c, kRecv ⟨n, h⟩)) (Set.mem_univ _) (fun h => h) (R := 0 + 1) (fun r hr => duties_recv_later m c ⟨n, h⟩ r hr)) $$ [Hat] with Hz
    · isplitr; · iapply (inv_recv m K c ⟨n, h⟩); iexact Hrec
      iexact Hat
    iapply hk
    unfold ArrS arr1 arr0 owesSome
    isplitr; · iexact Hrec
    isplitr [HR]
    · isplitl [Ho]; · iexists _; iexact Ho
      isplitl [Hs Hz]
      · isplitl [Hs]; · iexact Hs
        iexact Hz
      isplitl [Hh]; · iexact Hh
      iexact Hout
    iexact HR
  · rw [dif_neg hc]
    have heq : (⟨n, h⟩ : Fin 32) = c := by
      by_contra h'; exact hc ((hP c).2 fun e => h' (Fin.ext e.symm))
    unfold arr0
    rw [if_pos heq]
    iintro ⟨#Hrec, ⟨Ho, ⟨⟨Hat, Hr⟩, Hh⟩, Hout⟩, HR⟩
    imod (cell_close ER (Rd m) (κ := K (c, kRecv ⟨n, h⟩)) (Set.mem_univ _) (fun h => h) (R := 0) (g := recvCell c ⟨n, h⟩) (fun r _ => by
      rw [show recvCell c ⟨n, h⟩ = recvCell c c from congrArg (recvCell c) heq]; exact duties_recv_own m c r)) $$ [Hat] with Hz
    · isplitr; · iapply (inv_recv m K c ⟨n, h⟩); iexact Hrec
      iexact Hat
    iapply hk
    unfold ArrS arr1 arr0
    isplitr; · iexact Hrec
    isplitr [HR]
    · isplitl [Ho]; · iexact Ho
      isplitl [Hr Hz]
      · isplitl [Hr]; · rw [heq]; iexact Hr
        iexact Hz
      isplitl [Hh]; · iexact Hh
      iexact Hout
    iexact HR

/-- What a load of a slot of the receive buffer yields. -/
def rVal (c : Dev nD) (n : Fin 32) : S1x256x128.Idx → Elt F .bf16 := fun x => rBuf m c (ix3 n (x 1) (x 2))

theorem emb_rowsR (n : Fin 32) (y : Fin 256) (z : Fin 128) : (rowsR n).emb (ix2 y z) = (ix2 ⟨256 * n.val + y.val, by omega⟩ z : S8192x128.Idx) := by
  funext a; apply Fin.ext
  fin_cases a
  · show 256 * n.val + 1 * y.val = 256 * n.val + y.val; omega
  · show 0 + 1 * z.val = z.val; omega

/-- Writing device `n`'s rows completes the first `n + 1` blocks of the output. -/
theorem rows_written (c : Dev nD) (n : Fin 32) (f : S8192x128.Idx → Elt F .f32) (hf : ∀ i : S8192x128.Idx, (i 0).val < 256 * n.val → f i = oBuf m c i)
    (i : S8192x128.Idx) (hi : (i 0).val < 256 * (n.val + 1)) :
    (oM.access (rowsR n)).write (Elt F) f (k0_pay90 (rVal m c n)) Finset.univ i = oBuf m c i := by
  by_cases hm : i ∈ (rowsR n).set
  · rw [← View.set_slice_whole (b := cc0_stg1_0)] at hm
    obtain ⟨x, -, rfl⟩ := Finset.mem_map.1 hm
    refine (View.write_emb_of_mem (Val := Elt F) (v := oM.access (rowsR n)) _ _ (Finset.mem_univ x)).trans ?_
    show k0_pay90 (rVal m c n) x = oBuf m c ((rowsR n).emb x)
    obtain ⟨y, z, rfl⟩ : ∃ (y : Fin 256) (z : Fin 128), x = ix2 y z := ⟨x 0, x 1, eq_ix2 x⟩
    rw [emb_rowsR]
    show FloatOps.extf .f32 bitsLt_bf16_f32 (rVal m c n (Shape.reshapeEquiv _ (ix2 y z))) = FloatOps.extf .f32 bitsLt_bf16_f32 (rBuf m c _)
    rw [reshapeEquiv_ix2_1ab]
    congr 1
    show rBuf m c (ix3 n y z) = _
    congr 1
    have hy := y.isLt
    refine congrArg₂ (fun (a : Fin 32) (b : Fin 256) => (ix3 a b z : S32x256x128.Idx)) (Fin.ext ?_) (Fin.ext ?_)
    · show n.val = (256 * n.val + y.val) / 256; omega
    · show y.val = (256 * n.val + y.val) % 256; omega
  · rw [View.write_of_not_mem]
    · refine hf i (Nat.lt_of_not_le fun h => hm ?_)
      rw [Rect.mem_set_unit]
      intro a
      fin_cases a
      · exact ⟨h, by show (i 0).val < 256 * n.val + 256; omega⟩
      · exact ⟨Nat.zero_le _, by show (i 1).val < 0 + 128; have := (i 1).isLt; rw [Nat.zero_add]; exact this⟩
    · intro h
      apply hm
      have h' : i ∈ (oM.access (rowsR n)).set := h
      rwa [View.set_slice_whole] at h'

theorem st_row (n : ℕ) (h : n < 32) {off : Fin 2 → ℕ} {hin hrow hrow'} {p p' p1 p2} {pay : (S1x256x128.Idx → Elt F .bf16) → S256x128.Idx → Elt F .f32}
    (hk : iprop(records m K ∗ Arr m c (n + 1) ∗ R) ⊢ run c k Q) (ho : off = ![256 * n, 0]) (hp : pay = k0_pay90) :
    iprop(records m K ∗ ArrS m c n h ∗ R)
      ⊢ run c (Prog.lift (.load rM (Rect.unit (s := S32x256x128) ![n, 0, 0] S1x256x128.size hin).toLoadRect p) >>= fun v =>
          Prog.lift (.load oM (Rect.unit (s := S8192x128) off S256x128.size hrow).toLoadRect p') >>= fun _ =>
          Prog.lift (.store oM (Rect.unit (s := S8192x128) off S256x128.size hrow') (pay v) Finset.univ p1 p2) >>= fun _ => k) Q := by
  subst ho hp
  have hlast : (iprop(hole n (arr0 m c) (arr1 m c) ∗ arr1 m c ⟨n, h⟩) : PropF F) ⊢ prog (n + 1) (arr0 m c) (arr1 m c) := by
    rw [← prog_put n h]; iintro ⟨H1, H2⟩; isplitl [H2] <;> iassumption
  show _ ⊢ wp _ _ _ (Prog.op (.load rM (slotR ⟨n, h⟩).toLoadRect p) fun v => Prog.op (.load oM (rowsR ⟨n, h⟩).toLoadRect p') fun _ =>
    Prog.op (.store oM (rowsR ⟨n, h⟩) (k0_pay90 v) Finset.univ p1 p2) fun _ => k) Q
  unfold ArrS outPts
  iintro ⟨#Hrec, ⟨Ho, Ha, Hh, ⟨%f, %hf, Hout⟩⟩, HR⟩
  unfold arr1 rPts
  icases Ha with ⟨Hr, Hz⟩
  iapply (wp_load_rect 𝒱₀ (c : Thread nD τ) none Set.univ (m := rM) (r := slotR ⟨n, h⟩) (S := (slotR ⟨n, h⟩).set) (by rw [View.set_slice_whole])) $$ Hr
  iintro Hr
  iapply (wp_load 𝒱₀ (c : Thread nD τ) none Set.univ (m := oM) (Finset.subset_univ _)) $$ Hout
  iintro Hout
  iapply (wp_store 𝒱₀ (c : Thread nD τ) none Set.univ (m := oM) (r := rowsR ⟨n, h⟩) (S := Finset.univ) (f := f) (Finset.subset_univ _)) $$ Hout
  iintro Hout
  iapply hk
  isplitr; · iexact Hrec
  isplitr [HR]
  · unfold Arr outPts
    isplitl [Ho]; · iexact Ho
    isplitr [Hout]
    · iapply hlast
      isplitl [Hh]; · unfold arr1 rPts; iexact Hh
      unfold arr1 rPts
      isplitl [Hr]; · iexact Hr
      iexact Hz
    iexists _
    isplitr
    · ipureintro
      intro i hi
      have e : (rM.access (slotR ⟨n, h⟩)).read (Elt F) (rBuf m c) = rVal m c ⟨n, h⟩ := by
        funext x
        show rBuf m c ((slotR ⟨n, h⟩).emb x) = _
        rw [emb_slotR]; rfl
      exact (congrArg (fun v => (oM.access (rowsR ⟨n, h⟩)).write (Elt F) f (k0_pay90 v) Finset.univ i) e).trans (rows_written m c ⟨n, h⟩ f hf i hi)
    iexact Hout
  iexact HR

end Steps

end Cert.KernelIdeal.Pf

end
-- ==== Proof.KernelIdeal.Steps4.lean ====
/-
  Bringing the component a statement needs to the front, and putting it back.
-/
module

public import proofs.«01_k».proof.Proof.KernelIdeal.Steps3

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
variable (m : (ℓ : Loc nD τ sig) → Buf (Elt F) ℓ) (K : Dev nD × Fin 67 → ℕ)

section Steps
variable {c : Dev nD}
variable {R S A B T X : PropF F}
variable {α : Type} {k : PR F α}
variable {Q : α → PropF F}

variable {C D : PropF F}

/-! ## The third, fourth and fifth component first -/

theorem at3 (h : iprop(records m K ∗ B ∗ (S ∗ A ∗ R)) ⊢ X) : iprop(records m K ∗ S ∗ A ∗ B ∗ R) ⊢ X := by
  refine BIBase.Entails.trans ?_ h
  iintro ⟨HK, HS, HA, HB, HR⟩
  isplitl [HK]; · iexact HK
  isplitl [HB]; · iexact HB
  isplitl [HS]; · iexact HS
  isplitl [HA] <;> iassumption
theorem at3' (h : iprop(records m K ∗ S ∗ A ∗ B ∗ R) ⊢ X) : iprop(records m K ∗ B ∗ (S ∗ A ∗ R)) ⊢ X := by
  refine BIBase.Entails.trans ?_ h
  iintro ⟨HK, HB, HS, HA, HR⟩
  isplitl [HK]; · iexact HK
  isplitl [HS]; · iexact HS
  isplitl [HA]; · iexact HA
  isplitl [HB] <;> iassumption
theorem at4 (h : iprop(records m K ∗ C ∗ (S ∗ A ∗ B ∗ R)) ⊢ X) : iprop(records m K ∗ S ∗ A ∗ B ∗ C ∗ R) ⊢ X := by
  refine BIBase.Entails.trans ?_ h
  iintro ⟨HK, HS, HA, HB, HC, HR⟩
  isplitl [HK]; · iexact HK
  isplitl [HC]; · iexact HC
  isplitl [HS]; · iexact HS
  isplitl [HA]; · iexact HA
  isplitl [HB] <;> iassumption
theorem at4' (h : iprop(records m K ∗ S ∗ A ∗ B ∗ C ∗ R) ⊢ X) : iprop(records m K ∗ C ∗ (S ∗ A ∗ B ∗ R)) ⊢ X := by
  refine BIBase.Entails.trans ?_ h
  iintro ⟨HK, HC, HS, HA, HB, HR⟩
  isplitl [HK]; · iexact HK
  isplitl [HS]; · iexact HS
  isplitl [HA]; · iexact HA
  isplitl [HB]; · iexact HB
  isplitl [HC] <;> iassumption
theorem at5 (h : iprop(records m K ∗ D ∗ (S ∗ A ∗ B ∗ C ∗ R)) ⊢ X) : iprop(records m K ∗ S ∗ A ∗ B ∗ C ∗ D ∗ R) ⊢ X := by
  refine BIBase.Entails.trans ?_ h
  iintro ⟨HK, HS, HA, HB, HC, HD, HR⟩
  isplitl [HK]; · iexact HK
  isplitl [HD]; · iexact HD
  isplitl [HS]; · iexact HS
  isplitl [HA]; · iexact HA
  isplitl [HB]; · iexact HB
  isplitl [HC] <;> iassumption
theorem at5' (h : iprop(records m K ∗ S ∗ A ∗ B ∗ C ∗ D ∗ R) ⊢ X) : iprop(records m K ∗ D ∗ (S ∗ A ∗ B ∗ C ∗ R)) ⊢ X := by
  refine BIBase.Entails.trans ?_ h
  iintro ⟨HK, HD, HS, HA, HB, HC, HR⟩
  isplitl [HK]; · iexact HK
  isplitl [HS]; · iexact HS
  isplitl [HA]; · iexact HA
  isplitl [HB]; · iexact HB
  isplitl [HC]; · iexact HC
  isplitl [HD] <;> iassumption

theorem at3t (h : iprop(records m K ∗ A ∗ B ∗ S ∗ R) ⊢ X) : iprop(records m K ∗ S ∗ A ∗ B ∗ R) ⊢ X := by
  refine BIBase.Entails.trans ?_ h
  iintro ⟨HK, HS, HA, HB, HR⟩
  isplitl [HK]; · iexact HK
  isplitl [HA]; · iexact HA
  isplitl [HB]; · iexact HB
  isplitl [HS] <;> iassumption

/-- A filled half may be filled anew. -/
theorem reuse (b : Fin 2) (r : ℕ) (h : iprop(records m K ∗ Idle m c b (r + 1) ∗ R) ⊢ X) : iprop(records m K ∗ Full m c b r ∗ R) ⊢ X :=
  .trans (sep_mono_right (sep_mono_left (full_idle m b r))) h

/-- The wait for a copy while pieces are being sent. -/
theorem st_cwait' (b : Fin 2) (r : ℕ) {n : ℕ} {src : Memref sig .tc .hbm S8192x512 .f32} {hin2} {hin3} {p1 p2}
    (hk : iprop(records m K ∗ Full m c b r ∗ Snd m c n ∗ R) ⊢ run c k Q) (hr : r < 4) :
    iprop(records m K ∗ Pend m c b r ∗ Snd m c n ∗ R)
      ⊢ run c (Prog.lift (.waitDma2 ((cc0_scratch4.slice (Rect.unit (s := S2) ![b.val] S1.size hin3)).squeeze S_ squeezes_S1_S_).sem src
          ((bM.slice (Rect.unit (s := S2x8192x512) ![b.val, 0, 0] S1x8192x512.size hin2) (fun _ => rfl)).squeeze S8192x512 squeezes_S1x8192x512_S8192x512) p1 p2) >>= fun _ => k) Q := by
  unfold Snd
  refine BIBase.Entails.trans ?_ (st_cwait m K b r (R := iprop(prog n (snd0 c) (snd1 m c) ∗ R)) (n := n) (BIBase.Entails.trans ?_ hk) hr)
  · iintro ⟨HK, HA, ⟨Ho, Hp⟩, HR⟩
    isplitl [HK]; · iexact HK
    isplitl [HA]; · iexact HA
    isplitl [Ho]; · iexact Ho
    isplitl [Hp] <;> iassumption
  · unfold Snd
    iintro ⟨HK, HA, Ho, Hp, HR⟩
    isplitl [HK]; · iexact HK
    isplitl [HA]; · iexact HA
    isplitr [HR]
    · isplitl [Ho] <;> iassumption
    iexact HR

theorem off1_eq : ∀ (p : Fin 8) (c : Dev nD), k0_off1 c (BitVec.ofNat 32 p.val) = ![0, (grp c p.val).val * 512] := by decide +kernel

/-- The device's own number, as a word. -/
def w2 (c : Dev nD) : BitVec 32 := Scalar.remsi (Scalar.divsi (Dev.word c) 1#32) 32#32
/-- Whether the piece of device `n` comes from elsewhere, as a word. -/
abbrev rcvW (n : ℕ) (d : Dev nD) : BitVec 32 := Scalar.extui (Scalar.cmpi .ne (w2 d) (BitVec.ofNat 32 n))
/-- … and as the condition of the wait. -/
abbrev rcvC (n : ℕ) (d : Dev nD) : BitVec 1 := Scalar.cmpi .ne (rcvW n d) 0#32
theorem rcv_ne' : ∀ (n : Fin 32) (d : Dev nD), rcvC n.val d = 1#1 ↔ d.val ≠ n.val := by decide +kernel
theorem rcv_ne (n : ℕ) (h : n < 32) (d : Dev nD) : rcvC n d = 1#1 ↔ d.val ≠ n := rcv_ne' ⟨n, h⟩ d

/-- Columns `128 * d …` of an activated product, as a piece. -/
def cut (d : ℕ) (hd : d < 4) (v : FVec F S256x512 .f32) : FVec F S1x256x128 .bf16 :=
  shapeCast S1x256x128 (truncf .bf16 (extractStridedSlice S256x128 ![0, 128 * d] v (slices_piece d hd)) bitsLt_bf16_f32) shapeCasts_S256x128_S1x256x128

theorem piece_cut {n p : ℕ} {h : n < 32} {v : FVec F S256x512 .f32} (hv : v = gel m c (grp c p)) {w : FVec F S1x256x128 .bf16} (d : ℕ) (hd : d < 4)
    (hw : w = cut d hd v) (hn : n = 4 * p + d) : w = piece m c ⟨n, h⟩ := by
  subst hv hw
  obtain rfl : d = n % 4 := by omega
  obtain rfl : p = n / 4 := by omega
  rfl

end Steps

end Cert.KernelIdeal.Pf

end
-- ==== Proof.KernelIdeal.PartsA.lean ====
/-
  The signals to the other devices and the barrier wait: the first four parts of the body.
-/
module

public import proofs.«01_k».proof.Proof.KernelIdeal.Steps4

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

attribute [local irreducible] k0_cond1 k0_dev1 k0_cond2 k0_dev2 k0_cond3 k0_dev3 k0_cond4 k0_dev4 k0_cond5 k0_dev5 k0_cond6 k0_dev6 k0_cond7 k0_dev7 k0_cond8 k0_dev8 k0_cond9 k0_dev9 k0_cond10 k0_dev10 k0_cond11 k0_dev11 k0_cond12 k0_dev12 k0_cond13 k0_dev13 k0_cond14 k0_dev14 k0_cond15 k0_dev15 k0_cond16 k0_dev16 k0_cond17 k0_dev17 k0_cond18 k0_dev18 k0_cond19 k0_dev19 k0_cond20 k0_dev20 k0_cond21 k0_dev21 k0_cond22 k0_dev22 k0_cond23 k0_dev23 k0_cond24 k0_dev24 k0_cond25 k0_dev25 k0_cond26 k0_dev26 k0_cond27 k0_dev27 k0_cond28 k0_dev28 k0_cond29 k0_dev29 k0_cond30 k0_dev30 k0_cond31 k0_dev31 k0_cond32 k0_dev32

section Parts
variable {c : Dev nD} {R : PropF F}
variable {h0 : xM.IsWhole} {h1 : wM.IsWhole} {h2 : oM.IsWhole} {h3 : bM.IsWhole} {h4 : tM.IsWhole} {h5 : sM.IsWhole} {h6 : rM.IsWhole}

theorem part1 {Q : _ → PropF F} (hQ : ∀ v19, iprop(records m K ∗ Sig (F := F) c 4 ∗ R) ⊢ Q ⟨c, w2 c, v19, SemArray.scalar (sig.barrier 0 rfl)⟩) :
    iprop(records m K ∗ Sig (F := F) c 0 ∗ R) ⊢ run c (k0_part1 (F := F) xM h0 wM h1 oM h2 bM h3 tM h4 sM h5 rM h6 cc0_scratch4 cc0_scratch5 cc0_scratch6) Q := by
  rw [k0_part1_eq_skeleton]
  unfold k0_part1_skel
  refine st_dev ?_
  refine st_sig m K k0_cond1 ?_ (by decide +kernel) (by decide +kernel) (by decide)
  refine st_sig m K k0_cond2 ?_ (by decide +kernel) (by decide +kernel) (by decide)
  refine st_sig m K k0_cond3 ?_ (by decide +kernel) (by decide +kernel) (by decide)
  refine st_sig m K k0_cond4 ?_ (by decide +kernel) (by decide +kernel) (by decide)
  exact st_end (hQ _)

theorem part2 {Q : _ → PropF F} {v2 v20} (hQ : iprop(records m K ∗ Sig (F := F) c 14 ∗ R) ⊢ Q ⟨⟩) (hv : v20 = SemArray.scalar (sig.barrier 0 rfl)) :
    iprop(records m K ∗ Sig (F := F) c 4 ∗ R) ⊢ run c (k0_part2 (F := F) xM h0 wM h1 oM h2 bM h3 tM h4 sM h5 rM h6 cc0_scratch4 cc0_scratch5 cc0_scratch6 c v2 v20) Q := by
  rw [k0_part2_eq_skeleton]
  unfold k0_part2_skel
  subst hv
  refine st_sig m K k0_cond5 ?_ (by decide +kernel) (by decide +kernel) (by decide)
  refine st_sig m K k0_cond6 ?_ (by decide +kernel) (by decide +kernel) (by decide)
  refine st_sig m K k0_cond7 ?_ (by decide +kernel) (by decide +kernel) (by decide)
  refine st_sig m K k0_cond8 ?_ (by decide +kernel) (by decide +kernel) (by decide)
  refine st_sig m K k0_cond9 ?_ (by decide +kernel) (by decide +kernel) (by decide)
  refine st_sig m K k0_cond10 ?_ (by decide +kernel) (by decide +kernel) (by decide)
  refine st_sig m K k0_cond11 ?_ (by decide +kernel) (by decide +kernel) (by decide)
  refine st_sig m K k0_cond12 ?_ (by decide +kernel) (by decide +kernel) (by decide)
  refine st_sig m K k0_cond13 ?_ (by decide +kernel) (by decide +kernel) (by decide)
  refine st_sig m K k0_cond14 ?_ (by decide +kernel) (by decide +kernel) (by decide)
  exact st_end hQ

theorem part3 {Q : _ → PropF F} {v2 v20} (hQ : iprop(records m K ∗ Sig (F := F) c 24 ∗ R) ⊢ Q ⟨⟩) (hv : v20 = SemArray.scalar (sig.barrier 0 rfl)) :
    iprop(records m K ∗ Sig (F := F) c 14 ∗ R) ⊢ run c (k0_part3 (F := F) xM h0 wM h1 oM h2 bM h3 tM h4 sM h5 rM h6 cc0_scratch4 cc0_scratch5 cc0_scratch6 c v2 v20) Q := by
  rw [k0_part3_eq_skeleton]
  unfold k0_part3_skel
  subst hv
  refine st_sig m K k0_cond15 ?_ (by decide +kernel) (by decide +kernel) (by decide)
  refine st_sig m K k0_cond16 ?_ (by decide +kernel) (by decide +kernel) (by decide)
  refine st_sig m K k0_cond17 ?_ (by decide +kernel) (by decide +kernel) (by decide)
  refine st_sig m K k0_cond18 ?_ (by decide +kernel) (by decide +kernel) (by decide)
  refine st_sig m K k0_cond19 ?_ (by decide +kernel) (by decide +kernel) (by decide)
  refine st_sig m K k0_cond20 ?_ (by decide +kernel) (by decide +kernel) (by decide)
  refine st_sig m K k0_cond21 ?_ (by decide +kernel) (by decide +kernel) (by decide)
  refine st_sig m K k0_cond22 ?_ (by decide +kernel) (by decide +kernel) (by decide)
  refine st_sig m K k0_cond23 ?_ (by decide +kernel) (by decide +kernel) (by decide)
  refine st_sig m K k0_cond24 ?_ (by decide +kernel) (by decide +kernel) (by decide)
  exact st_end hQ

theorem part4 {Q : _ → PropF F} {v2 v19 v20} (hQ : ∀ v v1 v2 v3 v4, iprop(records m K ∗ Snd m c 0 ∗ semVal (barCell c) 0 ∗ R) ⊢ Q ⟨v, v1, v2, v3, v4⟩)
    (hv : v20 = SemArray.scalar (sig.barrier 0 rfl)) :
    iprop(records m K ∗ Sig (F := F) c 24 ∗ Bar (F := F) c ∗ R) ⊢ run c (k0_part4 (F := F) xM h0 wM h1 oM h2 bM h3 tM h4 sM h5 rM h6 cc0_scratch4 cc0_scratch5 cc0_scratch6 c v2 v19 v20) Q := by
  rw [k0_part4_eq_skeleton]
  unfold k0_part4_skel
  subst hv
  refine st_sig m K k0_cond25 ?_ (by decide +kernel) (by decide +kernel) (by decide)
  refine st_sig m K k0_cond26 ?_ (by decide +kernel) (by decide +kernel) (by decide)
  refine st_sig m K k0_cond27 ?_ (by decide +kernel) (by decide +kernel) (by decide)
  refine st_sig m K k0_cond28 ?_ (by decide +kernel) (by decide +kernel) (by decide)
  refine st_sig m K k0_cond29 ?_ (by decide +kernel) (by decide +kernel) (by decide)
  refine st_sig m K k0_cond30 ?_ (by decide +kernel) (by decide +kernel) (by decide)
  refine st_sig m K k0_cond31 ?_ (by decide +kernel) (by decide +kernel) (by decide)
  refine st_sig m K k0_cond32 ?_ (by decide +kernel) (by decide +kernel) (by decide)
  refine st_bar m K ?_
  exact st_end (hQ _ _ _ _ _)

end Parts

end Cert.KernelIdeal.Pf

end
-- ==== Proof.KernelIdeal.PartsB.lean ====
/-
  The first four column groups: product, pieces, transfers.
-/
module

public import proofs.«01_k».proof.Proof.KernelIdeal.Steps4

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

attribute [local irreducible] k0_off1 k0_cond33 k0_cond34 k0_dev33 k0_off2 k0_off3 k0_off4 k0_cond35 k0_cond36 k0_dev34 k0_off5 k0_off6 k0_off7 k0_cond37 k0_cond38 k0_dev35 k0_off8 k0_off9 k0_off10 k0_cond39 k0_cond40 k0_dev36 k0_off11 k0_off12 k0_off13 k0_cond41 k0_cond42 k0_dev37 k0_off14 k0_off15 k0_off16 k0_cond43 k0_cond44 k0_dev38 k0_off17 k0_off18 k0_off19 k0_cond45 k0_cond46 k0_dev39 k0_off20 k0_off21 k0_off22 k0_cond47 k0_cond48 k0_dev40 k0_off23 k0_off24 k0_off25 k0_cond49 k0_cond50 k0_dev41 k0_off26 k0_off27 k0_off28 k0_cond51 k0_cond52 k0_dev42 k0_off29 k0_off30 k0_off31 k0_cond53 k0_cond54 k0_dev43 k0_off32 k0_off33 k0_off34 k0_cond55 k0_cond56 k0_dev44 k0_off35 k0_off36 k0_off37 k0_cond57 k0_cond58 k0_dev45 k0_off38 k0_off39 k0_off40 k0_cond59 k0_cond60 k0_dev46 k0_off41 k0_off42 k0_off43 k0_cond61 k0_cond62 k0_dev47 k0_off44 k0_off45 k0_off46 k0_cond63 k0_cond64 k0_dev48 k0_off47 k0_off48 k0_off49

section Parts
variable {c : Dev nD} {A B R : PropF F}
variable {h0 : xM.IsWhole} {h1 : wM.IsWhole} {h2 : oM.IsWhole} {h3 : bM.IsWhole} {h4 : tM.IsWhole} {h5 : sM.IsWhole} {h6 : rM.IsWhole}

theorem part5 {Q : _ → PropF F} {v19 v119 v120 v121 v122 v123} (hQ : iprop(records m K ∗ Snd m c 0 ∗ Pend m c 0 0 ∗ Pend m c 1 0 ∗ tPts m c ∗ xPts m c ∗ R) ⊢ Q 0#32) :
    iprop(records m K ∗ Snd m c 0 ∗ Idle m c 0 0 ∗ Idle m c 1 0 ∗ tAny (F := F) c ∗ xPts m c ∗ R)
      ⊢ run c (k0_part5 (F := F) xM h0 wM h1 oM h2 bM h3 tM h4 sM h5 rM h6 cc0_scratch4 cc0_scratch5 cc0_scratch6 c v19 v119 v120 v121 v122 v123) Q := by
  rw [k0_part5_eq_skeleton]
  unfold k0_part5_skel
  refine at2 m K (st_copy m K 0 0 (at2 m K ?_) (by decide) (off1_eq 0 c))
  refine at5 m K (st_xload m K (at5' m K ?_))
  refine at4 m K (st_tload0 m K ?_)
  refine st_tstore m K (at4' m K ?_)
  refine at3 m K (st_copy m K 1 0 (at3' m K ?_) (by decide) (off1_eq 1 c))
  exact st_end hQ

theorem part6 {Q : _ → PropF F} {v19 w} (hQ : ∀ v, iprop(records m K ∗ Snd m c 0 ∗ Full m c 0 0 ∗ B ∗ tPts m c ∗ R) ⊢ Q ⟨v, k0_pay4 (xbv m c) (wVal m c (grp c 0)), k0_pay5 (xbv m c) (wVal m c (grp c 0))⟩) :
    iprop(records m K ∗ Snd m c 0 ∗ Pend m c 0 0 ∗ B ∗ tPts m c ∗ R)
      ⊢ run c (k0_part6 (F := F) xM h0 wM h1 oM h2 bM h3 tM h4 sM h5 rM h6 cc0_scratch4 cc0_scratch5 cc0_scratch6 c v19 w) Q := by
  rw [k0_part6_eq_skeleton]
  unfold k0_part6_skel
  refine at2 m K (st_cwait' m K 0 0 (at2 m K ?_) (by decide))
  refine at4 m K (st_tload m K (at4' m K ?_))
  refine at2 m K (st_wload m K 0 0 (at2 m K ?_))
  exact st_end (hQ _)

theorem part7 {Q : _ → PropF F} {v2 w v189 v190} (hQ : ∀ v, iprop(records m K ∗ SndS m c 1 (by decide) ∗ R) ⊢ Q ⟨k0_pay6 v189 v190, v⟩) (hv : k0_pay6 v189 v190 = gel m c (grp c 0)) :
    iprop(records m K ∗ Snd m c 0 ∗ R)
      ⊢ run c (k0_part7 (F := F) xM h0 wM h1 oM h2 bM h3 tM h4 sM h5 rM h6 cc0_scratch4 cc0_scratch5 cc0_scratch6 c v2 w v189 v190) Q := by
  rw [k0_part7_eq_skeleton]
  unfold k0_part7_skel
  refine st_put m K 0 (by decide) ?_ (piece_cut m hv 0 (by decide) rfl rfl)
  refine st_send m K k0_cond33 k0_dev33 0 (by decide) ?_ (by decide +kernel) (by decide +kernel) (k0_off2_eq c) (k0_off3_eq c)
  refine st_local m K k0_cond34 0 (by decide) ?_ (by decide +kernel) (k0_off4_eq c) rfl
  refine st_put m K 1 (by decide) ?_ (piece_cut m hv 1 (by decide) rfl rfl)
  exact st_end (hQ _)

theorem part8 {Q : _ → PropF F} {v2 v19 w1 v202 w2} (hQ : ∀ v, iprop(records m K ∗ Snd m c 4 ∗ R) ⊢ Q ⟨v, 8#32, 0#32⟩) (hv : v202 = gel m c (grp c 0)) :
    iprop(records m K ∗ SndS m c 1 (by decide) ∗ R)
      ⊢ run c (k0_part8 (F := F) xM h0 wM h1 oM h2 bM h3 tM h4 sM h5 rM h6 cc0_scratch4 cc0_scratch5 cc0_scratch6 c v2 v19 w1 v202 w2) Q := by
  rw [k0_part8_eq_skeleton]
  unfold k0_part8_skel
  refine st_send m K k0_cond35 k0_dev34 1 (by decide) ?_ (by decide +kernel) (by decide +kernel) (k0_off5_eq c) (k0_off6_eq c)
  refine st_local m K k0_cond36 1 (by decide) ?_ (by decide +kernel) (k0_off7_eq c) rfl
  refine st_put m K 2 (by decide) ?_ (piece_cut m hv 2 (by decide) rfl rfl)
  refine st_send m K k0_cond37 k0_dev35 2 (by decide) ?_ (by decide +kernel) (by decide +kernel) (k0_off8_eq c) (k0_off9_eq c)
  refine st_local m K k0_cond38 2 (by decide) ?_ (by decide +kernel) (k0_off10_eq c) rfl
  refine st_put m K 3 (by decide) ?_ (piece_cut m hv 3 (by decide) rfl rfl)
  refine st_send m K k0_cond39 k0_dev36 3 (by decide) ?_ (by decide +kernel) (by decide +kernel) (k0_off11_eq c) (k0_off12_eq c)
  refine st_local m K k0_cond40 3 (by decide) ?_ (by decide +kernel) (k0_off13_eq c) rfl
  exact st_end (hQ _)

theorem part9 {Q : _ → PropF F} {v19 w1 w2 w3} (hQ : ∀ v, iprop(records m K ∗ Snd m c 4 ∗ Pend m c 0 1 ∗ Full m c 1 0 ∗ R) ⊢ Q v) :
    iprop(records m K ∗ Snd m c 4 ∗ Full m c 0 0 ∗ Pend m c 1 0 ∗ R)
      ⊢ run c (k0_part9 (F := F) xM h0 wM h1 oM h2 bM h3 tM h4 sM h5 rM h6 cc0_scratch4 cc0_scratch5 cc0_scratch6 c v19 w1 w2 w3) Q := by
  rw [k0_part9_eq_skeleton]
  unfold k0_part9_skel
  refine at2 m K (reuse m K 0 0 (st_copy m K 0 1 (at2 m K ?_) (by decide) (off1_eq 2 c)))
  refine at3 m K (st_cwait' m K 1 0 (at3t m K ?_) (by decide))
  exact st_end (hQ _)

theorem part10 {Q : _ → PropF F} {v2 w} (hQ : ∀ v v' v'', iprop(records m K ∗ SndS m c 4 (by decide) ∗ A ∗ Full m c 1 0 ∗ tPts m c ∗ R) ⊢ Q ⟨v, k0_pay15 (xbv m c) (wVal m c (grp c 1)), v', v''⟩) :
    iprop(records m K ∗ Snd m c 4 ∗ A ∗ Full m c 1 0 ∗ tPts m c ∗ R)
      ⊢ run c (k0_part10 (F := F) xM h0 wM h1 oM h2 bM h3 tM h4 sM h5 rM h6 cc0_scratch4 cc0_scratch5 cc0_scratch6 v2 w) Q := by
  rw [k0_part10_eq_skeleton]
  unfold k0_part10_skel
  refine at4 m K (st_tload m K (at4' m K ?_))
  refine at3 m K (st_wload m K 1 0 (at3' m K ?_))
  refine st_put m K 4 (by decide) ?_ (piece_cut m (v := k0_pay15 (xbv m c) (wVal m c (grp c 1))) rfl 0 (by decide) rfl rfl)
  exact st_end (hQ _ _ _)

theorem part11 {Q : _ → PropF F} {v2 w1 v317 w2 w3} (hQ : iprop(records m K ∗ Snd m c 7 ∗ R) ⊢ Q 4#32) (hv : v317 = gel m c (grp c 1)) :
    iprop(records m K ∗ SndS m c 4 (by decide) ∗ R)
      ⊢ run c (k0_part11 (F := F) xM h0 wM h1 oM h2 bM h3 tM h4 sM h5 rM h6 cc0_scratch4 cc0_scratch5 cc0_scratch6 c v2 w1 v317 w2 w3) Q := by
  rw [k0_part11_eq_skeleton]
  unfold k0_part11_skel
  refine st_send m K k0_cond41 k0_dev37 4 (by decide) ?_ (by decide +kernel) (by decide +kernel) (k0_off14_eq c) (k0_off15_eq c)
  refine st_local m K k0_cond42 4 (by decide) ?_ (by decide +kernel) (k0_off16_eq c) rfl
  refine st_put m K 5 (by decide) ?_ (piece_cut m hv 1 (by decide) rfl rfl)
  refine st_send m K k0_cond43 k0_dev38 5 (by decide) ?_ (by decide +kernel) (by decide +kernel) (k0_off17_eq c) (k0_off18_eq c)
  refine st_local m K k0_cond44 5 (by decide) ?_ (by decide +kernel) (k0_off19_eq c) rfl
  refine st_put m K 6 (by decide) ?_ (piece_cut m hv 2 (by decide) rfl rfl)
  refine st_send m K k0_cond45 k0_dev39 6 (by decide) ?_ (by decide +kernel) (by decide +kernel) (k0_off20_eq c) (k0_off21_eq c)
  refine st_local m K k0_cond46 6 (by decide) ?_ (by decide +kernel) (k0_off22_eq c) rfl
  exact st_end hQ

theorem part12 {Q : _ → PropF F} {v2 v19 w1 v317 w2} (hQ : ∀ v v', iprop(records m K ∗ Snd m c 8 ∗ A ∗ Pend m c 1 1 ∗ R) ⊢ Q ⟨v, 8#32, v'⟩) (hv : v317 = gel m c (grp c 1)) :
    iprop(records m K ∗ Snd m c 7 ∗ A ∗ Full m c 1 0 ∗ R)
      ⊢ run c (k0_part12 (F := F) xM h0 wM h1 oM h2 bM h3 tM h4 sM h5 rM h6 cc0_scratch4 cc0_scratch5 cc0_scratch6 c v2 v19 w1 v317 w2) Q := by
  rw [k0_part12_eq_skeleton]
  unfold k0_part12_skel
  refine st_put m K 7 (by decide) ?_ (piece_cut m hv 3 (by decide) rfl rfl)
  refine st_send m K k0_cond47 k0_dev40 7 (by decide) ?_ (by decide +kernel) (by decide +kernel) (k0_off23_eq c) (k0_off24_eq c)
  refine st_local m K k0_cond48 7 (by decide) ?_ (by decide +kernel) (k0_off25_eq c) rfl
  refine at3 m K (reuse m K 1 0 (st_copy m K 1 1 (at3' m K ?_) (by decide) (off1_eq 3 c)))
  exact st_end (hQ _ _)

theorem part13 {Q : _ → PropF F} {v19 w1 w2 w3} (hQ : ∀ v, iprop(records m K ∗ Snd m c 8 ∗ Full m c 0 1 ∗ B ∗ tPts m c ∗ R) ⊢ Q ⟨v, k0_pay24 (xbv m c) (wVal m c (grp c 2)), k0_pay25 (xbv m c) (wVal m c (grp c 2))⟩) :
    iprop(records m K ∗ Snd m c 8 ∗ Pend m c 0 1 ∗ B ∗ tPts m c ∗ R)
      ⊢ run c (k0_part13 (F := F) xM h0 wM h1 oM h2 bM h3 tM h4 sM h5 rM h6 cc0_scratch4 cc0_scratch5 cc0_scratch6 c v19 w1 w2 w3) Q := by
  rw [k0_part13_eq_skeleton]
  unfold k0_part13_skel
  refine at2 m K (st_cwait' m K 0 1 (at2 m K ?_) (by decide))
  refine at4 m K (st_tload m K (at4' m K ?_))
  refine at2 m K (st_wload m K 0 1 (at2 m K ?_))
  exact st_end (hQ _)

theorem part14 {Q : _ → PropF F} {v2 w v419 v423} (hQ : ∀ v, iprop(records m K ∗ SndR m c 9 (by decide) ∗ R) ⊢ Q ⟨k0_pay26 v419 v423, v, 0#32⟩) (hv : k0_pay26 v419 v423 = gel m c (grp c 2)) :
    iprop(records m K ∗ Snd m c 8 ∗ R)
      ⊢ run c (k0_part14 (F := F) xM h0 wM h1 oM h2 bM h3 tM h4 sM h5 rM h6 cc0_scratch4 cc0_scratch5 cc0_scratch6 c v2 w v419 v423) Q := by
  rw [k0_part14_eq_skeleton]
  unfold k0_part14_skel
  refine st_put m K 8 (by decide) ?_ (piece_cut m hv 0 (by decide) rfl rfl)
  refine st_send m K k0_cond49 k0_dev41 8 (by decide) ?_ (by decide +kernel) (by decide +kernel) (k0_off26_eq c) (k0_off27_eq c)
  refine st_local m K k0_cond50 8 (by decide) ?_ (by decide +kernel) (k0_off28_eq c) rfl
  refine st_put m K 9 (by decide) ?_ (piece_cut m hv 1 (by decide) rfl rfl)
  refine st_send m K k0_cond51 k0_dev42 9 (by decide) ?_ (by decide +kernel) (by decide +kernel) (k0_off29_eq c) (k0_off30_eq c)
  exact st_end (hQ _)

theorem part15 {Q : _ → PropF F} {v2 v19 w1 v432 w2 w3} (hQ : ∀ v v', iprop(records m K ∗ Snd m c 12 ∗ R) ⊢ Q ⟨v, v'⟩) (hv : v432 = gel m c (grp c 2)) :
    iprop(records m K ∗ SndR m c 9 (by decide) ∗ R)
      ⊢ run c (k0_part15 (F := F) xM h0 wM h1 oM h2 bM h3 tM h4 sM h5 rM h6 cc0_scratch4 cc0_scratch5 cc0_scratch6 c v2 v19 w1 v432 w2 w3) Q := by
  rw [k0_part15_eq_skeleton]
  unfold k0_part15_skel
  refine st_local m K k0_cond52 9 (by decide) ?_ (by decide +kernel) (k0_off31_eq c) rfl
  refine st_put m K 10 (by decide) ?_ (piece_cut m hv 2 (by decide) rfl rfl)
  refine st_send m K k0_cond53 k0_dev43 10 (by decide) ?_ (by decide +kernel) (by decide +kernel) (k0_off32_eq c) (k0_off33_eq c)
  refine st_local m K k0_cond54 10 (by decide) ?_ (by decide +kernel) (k0_off34_eq c) rfl
  refine st_put m K 11 (by decide) ?_ (piece_cut m hv 3 (by decide) rfl rfl)
  refine st_send m K k0_cond55 k0_dev44 11 (by decide) ?_ (by decide +kernel) (by decide +kernel) (k0_off35_eq c) (k0_off36_eq c)
  refine st_local m K k0_cond56 11 (by decide) ?_ (by decide +kernel) (k0_off37_eq c) rfl
  exact st_end (hQ _ _)

theorem part16 {Q : _ → PropF F} {v19 w1 w2} (hQ : ∀ v v', iprop(records m K ∗ Snd m c 12 ∗ Pend m c 0 2 ∗ Full m c 1 1 ∗ R) ⊢ Q ⟨v, 8#32, v', 1#32⟩) :
    iprop(records m K ∗ Snd m c 12 ∗ Full m c 0 1 ∗ Pend m c 1 1 ∗ R)
      ⊢ run c (k0_part16 (F := F) xM h0 wM h1 oM h2 bM h3 tM h4 sM h5 rM h6 cc0_scratch4 cc0_scratch5 cc0_scratch6 c v19 w1 w2) Q := by
  rw [k0_part16_eq_skeleton]
  unfold k0_part16_skel
  refine at2 m K (reuse m K 0 1 (st_copy m K 0 2 (at2 m K ?_) (by decide) (off1_eq 4 c)))
  refine at3 m K (st_cwait' m K 1 1 (at3t m K ?_) (by decide))
  exact st_end (hQ _ _)

end Parts

end Cert.KernelIdeal.Pf

end
-- ==== Proof.KernelIdeal.PartsC.lean ====
/-
  The last four column groups, but for the last pieces.
-/
module

public import proofs.«01_k».proof.Proof.KernelIdeal.Steps4

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

attribute [local irreducible] k0_off1 k0_cond57 k0_cond58 k0_dev45 k0_off38 k0_off39 k0_off40 k0_cond59 k0_cond60 k0_dev46 k0_off41 k0_off42 k0_off43 k0_cond61 k0_cond62 k0_dev47 k0_off44 k0_off45 k0_off46 k0_cond63 k0_cond64 k0_dev48 k0_off47 k0_off48 k0_off49 k0_cond65 k0_cond66 k0_dev49 k0_off50 k0_off51 k0_off52 k0_cond67 k0_cond68 k0_dev50 k0_off53 k0_off54 k0_off55 k0_cond69 k0_cond70 k0_dev51 k0_off56 k0_off57 k0_off58 k0_cond71 k0_cond72 k0_dev52 k0_off59 k0_off60 k0_off61 k0_cond73 k0_cond74 k0_dev53 k0_off62 k0_off63 k0_off64 k0_cond75 k0_cond76 k0_dev54 k0_off65 k0_off66 k0_off67 k0_cond77 k0_cond78 k0_dev55 k0_off68 k0_off69 k0_off70 k0_cond79 k0_cond80 k0_dev56 k0_off71 k0_off72 k0_off73 k0_cond81 k0_cond82 k0_dev57 k0_off74 k0_off75 k0_off76 k0_cond83 k0_cond84 k0_dev58 k0_off77 k0_off78 k0_off79 k0_cond85 k0_cond86 k0_dev59 k0_off80 k0_off81 k0_off82 k0_cond87 k0_cond88 k0_dev60 k0_off83 k0_off84 k0_off85 k0_cond89 k0_cond90 k0_dev61 k0_off86 k0_off87 k0_off88 k0_cond91 k0_cond92 k0_dev62 k0_off89 k0_off90 k0_off91 k0_cond93 k0_cond94 k0_dev63 k0_off92 k0_off93 k0_off94 k0_cond95 k0_cond96 k0_dev64 k0_off95 k0_off96 k0_off97

section Parts
variable {c : Dev nD} {A B R : PropF F}
variable {h0 : xM.IsWhole} {h1 : wM.IsWhole} {h2 : oM.IsWhole} {h3 : bM.IsWhole} {h4 : tM.IsWhole} {h5 : sM.IsWhole} {h6 : rM.IsWhole}

theorem part17 {Q : _ → PropF F} {v2 w1 w2 w3 w4} (hQ : ∀ v v', iprop(records m K ∗ SndR m c 12 (by decide) ∗ A ∗ Full m c 1 1 ∗ tPts m c ∗ R) ⊢ Q ⟨v, k0_pay35 (xbv m c) (wVal m c (grp c 3)), v'⟩) :
    iprop(records m K ∗ Snd m c 12 ∗ A ∗ Full m c 1 1 ∗ tPts m c ∗ R)
      ⊢ run c (k0_part17 (F := F) xM h0 wM h1 oM h2 bM h3 tM h4 sM h5 rM h6 cc0_scratch4 cc0_scratch5 cc0_scratch6 c v2 w1 w2 w3 w4) Q := by
  rw [k0_part17_eq_skeleton]
  unfold k0_part17_skel
  refine at4 m K (st_tload m K (at4' m K ?_))
  refine at3 m K (st_wload m K 1 1 (at3' m K ?_))
  refine st_put m K 12 (by decide) ?_ (piece_cut m (v := k0_pay35 (xbv m c) (wVal m c (grp c 3))) rfl 0 (by decide) rfl rfl)
  refine st_send m K k0_cond57 k0_dev45 12 (by decide) ?_ (by decide +kernel) (by decide +kernel) (k0_off38_eq c) (k0_off39_eq c)
  exact st_end (hQ _ _)

theorem part18 {Q : _ → PropF F} {v2 w1 v547 w2} (hQ : ∀ v, iprop(records m K ∗ Snd m c 15 ∗ R) ⊢ Q ⟨v, k0_pay42 v547⟩) (hv : v547 = gel m c (grp c 3)) :
    iprop(records m K ∗ SndR m c 12 (by decide) ∗ R)
      ⊢ run c (k0_part18 (F := F) xM h0 wM h1 oM h2 bM h3 tM h4 sM h5 rM h6 cc0_scratch4 cc0_scratch5 cc0_scratch6 c v2 w1 v547 w2) Q := by
  rw [k0_part18_eq_skeleton]
  unfold k0_part18_skel
  refine st_local m K k0_cond58 12 (by decide) ?_ (by decide +kernel) (k0_off40_eq c) rfl
  refine st_put m K 13 (by decide) ?_ (piece_cut m hv 1 (by decide) rfl rfl)
  refine st_send m K k0_cond59 k0_dev46 13 (by decide) ?_ (by decide +kernel) (by decide +kernel) (k0_off41_eq c) (k0_off42_eq c)
  refine st_local m K k0_cond60 13 (by decide) ?_ (by decide +kernel) (k0_off43_eq c) rfl
  refine st_put m K 14 (by decide) ?_ (piece_cut m hv 2 (by decide) rfl rfl)
  refine st_send m K k0_cond61 k0_dev47 14 (by decide) ?_ (by decide +kernel) (by decide +kernel) (k0_off44_eq c) (k0_off45_eq c)
  refine st_local m K k0_cond62 14 (by decide) ?_ (by decide +kernel) (k0_off46_eq c) rfl
  exact st_end (hQ _)

theorem part19 {Q : _ → PropF F} {v2 v19 w v547} (hQ : ∀ v v', iprop(records m K ∗ Snd m c 16 ∗ A ∗ Pend m c 1 2 ∗ R) ⊢ Q ⟨v, v', 0#32⟩) (hv : v547 = gel m c (grp c 3)) :
    iprop(records m K ∗ Snd m c 15 ∗ A ∗ Full m c 1 1 ∗ R)
      ⊢ run c (k0_part19 (F := F) xM h0 wM h1 oM h2 bM h3 tM h4 sM h5 rM h6 cc0_scratch4 cc0_scratch5 cc0_scratch6 c v2 v19 w (k0_pay42 v547)) Q := by
  rw [k0_part19_eq_skeleton]
  unfold k0_part19_skel
  refine st_put m K 15 (by decide) ?_ (piece_cut m hv 3 (by decide) rfl rfl)
  refine st_send m K k0_cond63 k0_dev48 15 (by decide) ?_ (by decide +kernel) (by decide +kernel) (k0_off47_eq c) (k0_off48_eq c)
  refine st_local m K k0_cond64 15 (by decide) ?_ (by decide +kernel) (k0_off49_eq c) rfl
  refine at3 m K (reuse m K 1 1 (st_copy m K 1 2 (at3' m K ?_) (by decide) (off1_eq 5 c)))
  exact st_end (hQ _ _)

theorem part20 {Q : _ → PropF F} {v19 w1 w2 w3} (hQ : ∀ v, iprop(records m K ∗ Snd m c 16 ∗ Full m c 0 2 ∗ B ∗ tPts m c ∗ R) ⊢ Q ⟨v, k0_pay45 (xbv m c) (wVal m c (grp c 4)), k0_pay46 (xbv m c) (wVal m c (grp c 4))⟩) :
    iprop(records m K ∗ Snd m c 16 ∗ Pend m c 0 2 ∗ B ∗ tPts m c ∗ R)
      ⊢ run c (k0_part20 (F := F) xM h0 wM h1 oM h2 bM h3 tM h4 sM h5 rM h6 cc0_scratch4 cc0_scratch5 cc0_scratch6 c v19 w1 w2 w3) Q := by
  rw [k0_part20_eq_skeleton]
  unfold k0_part20_skel
  refine at2 m K (st_cwait' m K 0 2 (at2 m K ?_) (by decide))
  refine at4 m K (st_tload m K (at4' m K ?_))
  refine at2 m K (st_wload m K 0 2 (at2 m K ?_))
  exact st_end (hQ _)

theorem part21 {Q : _ → PropF F} {v2 w v649 v656} (hQ : ∀ v, iprop(records m K ∗ Snd m c 18 ∗ R) ⊢ Q ⟨k0_pay47 v649 v656, v⟩) (hv : k0_pay47 v649 v656 = gel m c (grp c 4)) :
    iprop(records m K ∗ Snd m c 16 ∗ R)
      ⊢ run c (k0_part21 (F := F) xM h0 wM h1 oM h2 bM h3 tM h4 sM h5 rM h6 cc0_scratch4 cc0_scratch5 cc0_scratch6 c v2 w v649 v656) Q := by
  rw [k0_part21_eq_skeleton]
  unfold k0_part21_skel
  refine st_put m K 16 (by decide) ?_ (piece_cut m hv 0 (by decide) rfl rfl)
  refine st_send m K k0_cond65 k0_dev49 16 (by decide) ?_ (by decide +kernel) (by decide +kernel) (k0_off50_eq c) (k0_off51_eq c)
  refine st_local m K k0_cond66 16 (by decide) ?_ (by decide +kernel) (k0_off52_eq c) rfl
  refine st_put m K 17 (by decide) ?_ (piece_cut m hv 1 (by decide) rfl rfl)
  refine st_send m K k0_cond67 k0_dev50 17 (by decide) ?_ (by decide +kernel) (by decide +kernel) (k0_off53_eq c) (k0_off54_eq c)
  refine st_local m K k0_cond68 17 (by decide) ?_ (by decide +kernel) (k0_off55_eq c) rfl
  exact st_end (hQ _)

theorem part22 {Q : _ → PropF F} {v2 v19 w1 v662 w2} (hQ : ∀ v v' v'' v''', iprop(records m K ∗ Snd m c 20 ∗ R) ⊢ Q ⟨v, v', v'', v'''⟩) (hv : v662 = gel m c (grp c 4)) :
    iprop(records m K ∗ Snd m c 18 ∗ R)
      ⊢ run c (k0_part22 (F := F) xM h0 wM h1 oM h2 bM h3 tM h4 sM h5 rM h6 cc0_scratch4 cc0_scratch5 cc0_scratch6 c v2 v19 w1 v662 w2) Q := by
  rw [k0_part22_eq_skeleton]
  unfold k0_part22_skel
  refine st_put m K 18 (by decide) ?_ (piece_cut m hv 2 (by decide) rfl rfl)
  refine st_send m K k0_cond69 k0_dev51 18 (by decide) ?_ (by decide +kernel) (by decide +kernel) (k0_off56_eq c) (k0_off57_eq c)
  refine st_local m K k0_cond70 18 (by decide) ?_ (by decide +kernel) (k0_off58_eq c) rfl
  refine st_put m K 19 (by decide) ?_ (piece_cut m hv 3 (by decide) rfl rfl)
  refine st_send m K k0_cond71 k0_dev52 19 (by decide) ?_ (by decide +kernel) (by decide +kernel) (k0_off59_eq c) (k0_off60_eq c)
  refine st_local m K k0_cond72 19 (by decide) ?_ (by decide +kernel) (k0_off61_eq c) rfl
  exact st_end (hQ _ _ _ _)

theorem part23 {Q : _ → PropF F} {v19 w1 w2 w3 w4} (hQ : ∀ v v' v'', iprop(records m K ∗ Snd m c 20 ∗ Pend m c 0 3 ∗ Full m c 1 2 ∗ R) ⊢ Q ⟨v, v', v''⟩) :
    iprop(records m K ∗ Snd m c 20 ∗ Full m c 0 2 ∗ Pend m c 1 2 ∗ R)
      ⊢ run c (k0_part23 (F := F) xM h0 wM h1 oM h2 bM h3 tM h4 sM h5 rM h6 cc0_scratch4 cc0_scratch5 cc0_scratch6 c v19 w1 w2 w3 w4) Q := by
  rw [k0_part23_eq_skeleton]
  unfold k0_part23_skel
  refine at2 m K (reuse m K 0 2 (st_copy m K 0 3 (at2 m K ?_) (by decide) (off1_eq 6 c)))
  refine at3 m K (st_cwait' m K 1 2 (at3t m K ?_) (by decide))
  exact st_end (hQ _ _ _)

theorem part24 {Q : _ → PropF F} {v2 w1 w2 w3} (hQ : ∀ v, iprop(records m K ∗ SndR m c 20 (by decide) ∗ A ∗ Full m c 1 2 ∗ tPts m c ∗ R) ⊢ Q ⟨v, k0_pay56 (xbv m c) (wVal m c (grp c 5))⟩) :
    iprop(records m K ∗ Snd m c 20 ∗ A ∗ Full m c 1 2 ∗ tPts m c ∗ R)
      ⊢ run c (k0_part24 (F := F) xM h0 wM h1 oM h2 bM h3 tM h4 sM h5 rM h6 cc0_scratch4 cc0_scratch5 cc0_scratch6 c v2 w1 w2 w3) Q := by
  rw [k0_part24_eq_skeleton]
  unfold k0_part24_skel
  refine at4 m K (st_tload m K (at4' m K ?_))
  refine at3 m K (st_wload m K 1 2 (at3' m K ?_))
  refine st_put m K 20 (by decide) ?_ (piece_cut m (v := k0_pay56 (xbv m c) (wVal m c (grp c 5))) rfl 0 (by decide) rfl rfl)
  refine st_send m K k0_cond73 k0_dev53 20 (by decide) ?_ (by decide +kernel) (by decide +kernel) (k0_off62_eq c) (k0_off63_eq c)
  exact st_end (hQ _)

theorem part25 {Q : _ → PropF F} {v2 w1 v777} (hQ : ∀ v, iprop(records m K ∗ Snd m c 23 ∗ R) ⊢ Q ⟨v, k0_pay63 v777⟩) (hv : v777 = gel m c (grp c 5)) :
    iprop(records m K ∗ SndR m c 20 (by decide) ∗ R)
      ⊢ run c (k0_part25 (F := F) xM h0 wM h1 oM h2 bM h3 tM h4 sM h5 rM h6 cc0_scratch4 cc0_scratch5 cc0_scratch6 c v2 w1 v777) Q := by
  rw [k0_part25_eq_skeleton]
  unfold k0_part25_skel
  refine st_local m K k0_cond74 20 (by decide) ?_ (by decide +kernel) (k0_off64_eq c) rfl
  refine st_put m K 21 (by decide) ?_ (piece_cut m hv 1 (by decide) rfl rfl)
  refine st_send m K k0_cond75 k0_dev54 21 (by decide) ?_ (by decide +kernel) (by decide +kernel) (k0_off65_eq c) (k0_off66_eq c)
  refine st_local m K k0_cond76 21 (by decide) ?_ (by decide +kernel) (k0_off67_eq c) rfl
  refine st_put m K 22 (by decide) ?_ (piece_cut m hv 2 (by decide) rfl rfl)
  refine st_send m K k0_cond77 k0_dev55 22 (by decide) ?_ (by decide +kernel) (by decide +kernel) (k0_off68_eq c) (k0_off69_eq c)
  refine st_local m K k0_cond78 22 (by decide) ?_ (by decide +kernel) (k0_off70_eq c) rfl
  exact st_end (hQ _)

theorem part26 {Q : _ → PropF F} {v2 v19 w v777} (hQ : ∀ v v' v'' v''', iprop(records m K ∗ Snd m c 24 ∗ A ∗ Pend m c 1 3 ∗ R) ⊢ Q ⟨v, v', v'', v''', 0#32⟩) (hv : v777 = gel m c (grp c 5)) :
    iprop(records m K ∗ Snd m c 23 ∗ A ∗ Full m c 1 2 ∗ R)
      ⊢ run c (k0_part26 (F := F) xM h0 wM h1 oM h2 bM h3 tM h4 sM h5 rM h6 cc0_scratch4 cc0_scratch5 cc0_scratch6 c v2 v19 w (k0_pay63 v777)) Q := by
  rw [k0_part26_eq_skeleton]
  unfold k0_part26_skel
  refine st_put m K 23 (by decide) ?_ (piece_cut m hv 3 (by decide) rfl rfl)
  refine st_send m K k0_cond79 k0_dev56 23 (by decide) ?_ (by decide +kernel) (by decide +kernel) (k0_off71_eq c) (k0_off72_eq c)
  refine st_local m K k0_cond80 23 (by decide) ?_ (by decide +kernel) (k0_off73_eq c) rfl
  refine at3 m K (reuse m K 1 2 (st_copy m K 1 3 (at3' m K ?_) (by decide) (off1_eq 7 c)))
  exact st_end (hQ _ _ _ _)

theorem part27 {Q : _ → PropF F} {v19 w1 w2 w3 w4 w5} (hQ : ∀ v, iprop(records m K ∗ Snd m c 24 ∗ Full m c 0 3 ∗ B ∗ tPts m c ∗ R) ⊢ Q ⟨v, k0_pay66 (xbv m c) (wVal m c (grp c 6)), k0_pay67 (xbv m c) (wVal m c (grp c 6))⟩) :
    iprop(records m K ∗ Snd m c 24 ∗ Pend m c 0 3 ∗ B ∗ tPts m c ∗ R)
      ⊢ run c (k0_part27 (F := F) xM h0 wM h1 oM h2 bM h3 tM h4 sM h5 rM h6 cc0_scratch4 cc0_scratch5 cc0_scratch6 c v19 w1 w2 w3 w4 w5) Q := by
  rw [k0_part27_eq_skeleton]
  unfold k0_part27_skel
  refine at2 m K (st_cwait' m K 0 3 (at2 m K ?_) (by decide))
  refine at4 m K (st_tload m K (at4' m K ?_))
  refine at2 m K (st_wload m K 0 3 (at2 m K ?_))
  exact st_end (hQ _)

theorem part28 {Q : _ → PropF F} {v2 w v879 v889} (hQ : ∀ v, iprop(records m K ∗ Snd m c 26 ∗ R) ⊢ Q ⟨k0_pay68 v879 v889, v, k0_pay73 v879 v889⟩) (hv : k0_pay68 v879 v889 = gel m c (grp c 6)) :
    iprop(records m K ∗ Snd m c 24 ∗ R)
      ⊢ run c (k0_part28 (F := F) xM h0 wM h1 oM h2 bM h3 tM h4 sM h5 rM h6 cc0_scratch4 cc0_scratch5 cc0_scratch6 c v2 w v879 v889) Q := by
  rw [k0_part28_eq_skeleton]
  unfold k0_part28_skel
  refine st_put m K 24 (by decide) ?_ (piece_cut m hv 0 (by decide) rfl rfl)
  refine st_send m K k0_cond81 k0_dev57 24 (by decide) ?_ (by decide +kernel) (by decide +kernel) (k0_off74_eq c) (k0_off75_eq c)
  refine st_local m K k0_cond82 24 (by decide) ?_ (by decide +kernel) (k0_off76_eq c) rfl
  refine st_put m K 25 (by decide) ?_ (piece_cut m hv 1 (by decide) rfl rfl)
  refine st_send m K k0_cond83 k0_dev58 25 (by decide) ?_ (by decide +kernel) (by decide +kernel) (k0_off77_eq c) (k0_off78_eq c)
  refine st_local m K k0_cond84 25 (by decide) ?_ (by decide +kernel) (k0_off79_eq c) rfl
  exact st_end (hQ _)

theorem part29 {Q : _ → PropF F} {v2 v19 w1 w2 v879 v889} (hQ : ∀ v v' v'', iprop(records m K ∗ Snd m c 28 ∗ R) ⊢ Q ⟨v, v', v''⟩) (hv : k0_pay68 v879 v889 = gel m c (grp c 6)) :
    iprop(records m K ∗ Snd m c 26 ∗ R)
      ⊢ run c (k0_part29 (F := F) xM h0 wM h1 oM h2 bM h3 tM h4 sM h5 rM h6 cc0_scratch4 cc0_scratch5 cc0_scratch6 c v2 v19 w1 (k0_pay68 v879 v889) w2 (k0_pay73 v879 v889)) Q := by
  rw [k0_part29_eq_skeleton]
  unfold k0_part29_skel
  refine st_put m K 26 (by decide) ?_ (piece_cut m hv 2 (by decide) rfl rfl)
  refine st_send m K k0_cond85 k0_dev59 26 (by decide) ?_ (by decide +kernel) (by decide +kernel) (k0_off80_eq c) (k0_off81_eq c)
  refine st_local m K k0_cond86 26 (by decide) ?_ (by decide +kernel) (k0_off82_eq c) rfl
  refine st_put m K 27 (by decide) ?_ (piece_cut m hv 3 (by decide) rfl rfl)
  refine st_send m K k0_cond87 k0_dev60 27 (by decide) ?_ (by decide +kernel) (by decide +kernel) (k0_off83_eq c) (k0_off84_eq c)
  refine st_local m K k0_cond88 27 (by decide) ?_ (by decide +kernel) (k0_off85_eq c) rfl
  exact st_end (hQ _ _ _)

theorem part30 {Q : _ → PropF F} {v19 w1 w2 w3} (hQ : ∀ v, iprop(records m K ∗ Snd m c 28 ∗ A ∗ Full m c 1 3 ∗ tPts m c ∗ R) ⊢ Q ⟨v, k0_pay78 (xbv m c) (wVal m c (grp c 7)), k0_pay79 (xbv m c) (wVal m c (grp c 7))⟩) :
    iprop(records m K ∗ Snd m c 28 ∗ A ∗ Pend m c 1 3 ∗ tPts m c ∗ R)
      ⊢ run c (k0_part30 (F := F) xM h0 wM h1 oM h2 bM h3 tM h4 sM h5 rM h6 cc0_scratch4 cc0_scratch5 cc0_scratch6 c v19 w1 w2 w3) Q := by
  rw [k0_part30_eq_skeleton]
  unfold k0_part30_skel
  refine at3 m K (st_cwait' m K 1 3 (at3t m K ?_) (by decide))
  refine at4 m K (st_tload m K (at4' m K ?_))
  refine at3 m K (st_wload m K 1 3 (at3' m K ?_))
  exact st_end (hQ _)

theorem part31 {Q : _ → PropF F} {v2 w v977 v989} (hQ : ∀ v, iprop(records m K ∗ Snd m c 30 ∗ R) ⊢ Q ⟨k0_pay80 v977 v989, v, k0_pay85 v977 v989⟩) (hv : k0_pay80 v977 v989 = gel m c (grp c 7)) :
    iprop(records m K ∗ Snd m c 28 ∗ R)
      ⊢ run c (k0_part31 (F := F) xM h0 wM h1 oM h2 bM h3 tM h4 sM h5 rM h6 cc0_scratch4 cc0_scratch5 cc0_scratch6 c v2 w v977 v989) Q := by
  rw [k0_part31_eq_skeleton]
  unfold k0_part31_skel
  refine st_put m K 28 (by decide) ?_ (piece_cut m hv 0 (by decide) rfl rfl)
  refine st_send m K k0_cond89 k0_dev61 28 (by decide) ?_ (by decide +kernel) (by decide +kernel) (k0_off86_eq c) (k0_off87_eq c)
  refine st_local m K k0_cond90 28 (by decide) ?_ (by decide +kernel) (k0_off88_eq c) rfl
  refine st_put m K 29 (by decide) ?_ (piece_cut m hv 1 (by decide) rfl rfl)
  refine st_send m K k0_cond91 k0_dev62 29 (by decide) ?_ (by decide +kernel) (by decide +kernel) (k0_off89_eq c) (k0_off90_eq c)
  refine st_local m K k0_cond92 29 (by decide) ?_ (by decide +kernel) (k0_off91_eq c) rfl
  exact st_end (hQ _)

theorem part32 {Q : _ → PropF F} {v2 v19 w1 w2 v977 v989} (hQ : ∀ v, iprop(records m K ∗ Snd m c 32 ∗ R) ⊢ Q ⟨v, 4#32⟩) (hv : k0_pay80 v977 v989 = gel m c (grp c 7)) :
    iprop(records m K ∗ Snd m c 30 ∗ R)
      ⊢ run c (k0_part32 (F := F) xM h0 wM h1 oM h2 bM h3 tM h4 sM h5 rM h6 cc0_scratch4 cc0_scratch5 cc0_scratch6 c v2 v19 w1 (k0_pay80 v977 v989) w2 (k0_pay85 v977 v989)) Q := by
  rw [k0_part32_eq_skeleton]
  unfold k0_part32_skel
  refine st_put m K 30 (by decide) ?_ (piece_cut m hv 2 (by decide) rfl rfl)
  refine st_send m K k0_cond93 k0_dev63 30 (by decide) ?_ (by decide +kernel) (by decide +kernel) (k0_off92_eq c) (k0_off93_eq c)
  refine st_local m K k0_cond94 30 (by decide) ?_ (by decide +kernel) (k0_off94_eq c) rfl
  refine st_put m K 31 (by decide) ?_ (piece_cut m hv 3 (by decide) rfl rfl)
  refine st_send m K k0_cond95 k0_dev64 31 (by decide) ?_ (by decide +kernel) (by decide +kernel) (k0_off95_eq c) (k0_off96_eq c)
  refine st_local m K k0_cond96 31 (by decide) ?_ (by decide +kernel) (k0_off97_eq c) rfl
  exact st_end (hQ _)

end Parts

end Cert.KernelIdeal.Pf

end
-- ==== Proof.KernelIdeal.PartsD.lean ====
/-
  Waiting for the departures.
-/
module

public import proofs.«01_k».proof.Proof.KernelIdeal.Steps4

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

attribute [local irreducible] k0_cond97 k0_cond98 k0_cond99 k0_cond100 k0_cond101 k0_cond102 k0_cond103 k0_cond104 k0_cond105 k0_cond106 k0_cond107 k0_cond108 k0_cond109 k0_cond110 k0_cond111 k0_cond112 k0_cond113 k0_cond114 k0_cond115 k0_cond116 k0_cond117 k0_cond118 k0_cond119 k0_cond120 k0_cond121 k0_cond122 k0_cond123 k0_cond124 k0_cond125 k0_cond126 k0_cond127 k0_cond128 k0_off98 k0_off99 k0_off100 k0_off101 k0_off102 k0_off103 k0_off104 k0_off105 k0_off106 k0_off107 k0_off108 k0_off109 k0_off110 k0_off111 k0_off112 k0_off113 k0_off114 k0_off115 k0_off116 k0_off117 k0_off118 k0_off119 k0_off120 k0_off121 k0_off122 k0_off123 k0_off124 k0_off125 k0_off126 k0_off127 k0_off128 k0_off129

section Parts
variable {c : Dev nD} {A B R : PropF F}
variable {h0 : xM.IsWhole} {h1 : wM.IsWhole} {h2 : oM.IsWhole} {h3 : bM.IsWhole} {h4 : tM.IsWhole} {h5 : sM.IsWhole} {h6 : rM.IsWhole}

theorem part33 {Q : _ → PropF F} {v2 v19 w1 w2} (hQ : ∀ v v' v'', iprop(records m K ∗ Dep m c 4 ∗ R) ⊢ Q ⟨v, v', v''⟩) :
    iprop(records m K ∗ Dep m c 0 ∗ R)
      ⊢ run c (k0_part33 (F := F) xM h0 wM h1 oM h2 bM h3 tM h4 sM h5 rM h6 cc0_scratch4 cc0_scratch5 cc0_scratch6 c v2 v19 w1 w2) Q := by
  rw [k0_part33_eq_skeleton]
  unfold k0_part33_skel
  refine st_wsend m K k0_cond97 0 (by decide) ?_ (by decide +kernel)
  refine st_wsend m K k0_cond98 1 (by decide) ?_ (by decide +kernel)
  refine st_wsend m K k0_cond99 2 (by decide) ?_ (by decide +kernel)
  refine st_wsend m K k0_cond100 3 (by decide) ?_ (by decide +kernel)
  exact st_end (hQ _ _ _)

theorem part34 {Q : _ → PropF F} {v2 v19 w1 w2 w3} (hQ : ∀ v v' v'' v''', iprop(records m K ∗ Dep m c 8 ∗ R) ⊢ Q ⟨v, v', v'', v'''⟩) :
    iprop(records m K ∗ Dep m c 4 ∗ R)
      ⊢ run c (k0_part34 (F := F) xM h0 wM h1 oM h2 bM h3 tM h4 sM h5 rM h6 cc0_scratch4 cc0_scratch5 cc0_scratch6 c v2 v19 w1 w2 w3) Q := by
  rw [k0_part34_eq_skeleton]
  unfold k0_part34_skel
  refine st_wsend m K k0_cond101 4 (by decide) ?_ (by decide +kernel)
  refine st_wsend m K k0_cond102 5 (by decide) ?_ (by decide +kernel)
  refine st_wsend m K k0_cond103 6 (by decide) ?_ (by decide +kernel)
  refine st_wsend m K k0_cond104 7 (by decide) ?_ (by decide +kernel)
  exact st_end (hQ _ _ _ _)

theorem part35 {Q : _ → PropF F} {v2 v19 w1 w2 w3 w4} (hQ : ∀ v v' v'' v''', iprop(records m K ∗ Dep m c 12 ∗ R) ⊢ Q ⟨v, v', v'', v''', 0#32⟩) :
    iprop(records m K ∗ Dep m c 8 ∗ R)
      ⊢ run c (k0_part35 (F := F) xM h0 wM h1 oM h2 bM h3 tM h4 sM h5 rM h6 cc0_scratch4 cc0_scratch5 cc0_scratch6 c v2 v19 w1 w2 w3 w4) Q := by
  rw [k0_part35_eq_skeleton]
  unfold k0_part35_skel
  refine st_wsend m K k0_cond105 8 (by decide) ?_ (by decide +kernel)
  refine st_wsend m K k0_cond106 9 (by decide) ?_ (by decide +kernel)
  refine st_wsend m K k0_cond107 10 (by decide) ?_ (by decide +kernel)
  refine st_wsend m K k0_cond108 11 (by decide) ?_ (by decide +kernel)
  exact st_end (hQ _ _ _ _)

theorem part36 {Q : _ → PropF F} {v2 v19 w1 w2 w3 w4 w5} (hQ : ∀ v v' v'', iprop(records m K ∗ Dep m c 16 ∗ R) ⊢ Q ⟨v, v', v'', 0#32⟩) :
    iprop(records m K ∗ Dep m c 12 ∗ R)
      ⊢ run c (k0_part36 (F := F) xM h0 wM h1 oM h2 bM h3 tM h4 sM h5 rM h6 cc0_scratch4 cc0_scratch5 cc0_scratch6 c v2 v19 w1 w2 w3 w4 w5) Q := by
  rw [k0_part36_eq_skeleton]
  unfold k0_part36_skel
  refine st_wsend m K k0_cond109 12 (by decide) ?_ (by decide +kernel)
  refine st_wsend m K k0_cond110 13 (by decide) ?_ (by decide +kernel)
  refine st_wsend m K k0_cond111 14 (by decide) ?_ (by decide +kernel)
  refine st_wsend m K k0_cond112 15 (by decide) ?_ (by decide +kernel)
  exact st_end (hQ _ _ _)

theorem part37 {Q : _ → PropF F} {v2 v19 w1 w2 w3 w4} (hQ : ∀ v v', iprop(records m K ∗ Dep m c 20 ∗ R) ⊢ Q ⟨v, v', 0#32⟩) :
    iprop(records m K ∗ Dep m c 16 ∗ R)
      ⊢ run c (k0_part37 (F := F) xM h0 wM h1 oM h2 bM h3 tM h4 sM h5 rM h6 cc0_scratch4 cc0_scratch5 cc0_scratch6 c v2 v19 w1 w2 w3 w4) Q := by
  rw [k0_part37_eq_skeleton]
  unfold k0_part37_skel
  refine st_wsend m K k0_cond113 16 (by decide) ?_ (by decide +kernel)
  refine st_wsend m K k0_cond114 17 (by decide) ?_ (by decide +kernel)
  refine st_wsend m K k0_cond115 18 (by decide) ?_ (by decide +kernel)
  refine st_wsend m K k0_cond116 19 (by decide) ?_ (by decide +kernel)
  exact st_end (hQ _ _)

theorem part38 {Q : _ → PropF F} {v2 v19 w1 w2 w3} (hQ : ∀ v v', iprop(records m K ∗ Dep m c 24 ∗ R) ⊢ Q ⟨v, v'⟩) :
    iprop(records m K ∗ Dep m c 20 ∗ R)
      ⊢ run c (k0_part38 (F := F) xM h0 wM h1 oM h2 bM h3 tM h4 sM h5 rM h6 cc0_scratch4 cc0_scratch5 cc0_scratch6 c v2 v19 w1 w2 w3) Q := by
  rw [k0_part38_eq_skeleton]
  unfold k0_part38_skel
  refine st_wsend m K k0_cond117 20 (by decide) ?_ (by decide +kernel)
  refine st_wsend m K k0_cond118 21 (by decide) ?_ (by decide +kernel)
  refine st_wsend m K k0_cond119 22 (by decide) ?_ (by decide +kernel)
  refine st_wsend m K k0_cond120 23 (by decide) ?_ (by decide +kernel)
  exact st_end (hQ _ _)

theorem part39 {Q : _ → PropF F} {v2 v19 w1 w2} (hQ : ∀ v v', iprop(records m K ∗ Dep m c 28 ∗ R) ⊢ Q ⟨v, 8#32, v'⟩) :
    iprop(records m K ∗ Dep m c 24 ∗ R)
      ⊢ run c (k0_part39 (F := F) xM h0 wM h1 oM h2 bM h3 tM h4 sM h5 rM h6 cc0_scratch4 cc0_scratch5 cc0_scratch6 c v2 v19 w1 w2) Q := by
  rw [k0_part39_eq_skeleton]
  unfold k0_part39_skel
  refine st_wsend m K k0_cond121 24 (by decide) ?_ (by decide +kernel)
  refine st_wsend m K k0_cond122 25 (by decide) ?_ (by decide +kernel)
  refine st_wsend m K k0_cond123 26 (by decide) ?_ (by decide +kernel)
  refine st_wsend m K k0_cond124 27 (by decide) ?_ (by decide +kernel)
  exact st_end (hQ _ _)

theorem part40 {Q : _ → PropF F} {w1 w2' w3} (hQ : iprop(records m K ∗ Dep m c 32 ∗ R) ⊢ Q (rcvW 0 c)) :
    iprop(records m K ∗ Dep m c 28 ∗ R)
      ⊢ run c (k0_part40 (F := F) xM h0 wM h1 oM h2 bM h3 tM h4 sM h5 rM h6 cc0_scratch4 cc0_scratch5 cc0_scratch6 c (w2 c) w1 w2' w3) Q := by
  rw [k0_part40_eq_skeleton]
  unfold k0_part40_skel
  refine st_wsend m K k0_cond125 28 (by decide) ?_ (by decide +kernel)
  refine st_wsend m K k0_cond126 29 (by decide) ?_ (by decide +kernel)
  refine st_wsend m K k0_cond127 30 (by decide) ?_ (by decide +kernel)
  refine st_wsend m K k0_cond128 31 (by decide) ?_ (by decide +kernel)
  exact st_end hQ

end Parts

end Cert.KernelIdeal.Pf

end
-- ==== Proof.KernelIdeal.PartsE.lean ====
/-
  The arrivals, and the rows of the output.
-/
module

public import proofs.«01_k».proof.Proof.KernelIdeal.Steps4

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

attribute [local irreducible] w2

section Parts
variable {c : Dev nD} {A B R : PropF F}
variable {h0 : xM.IsWhole} {h1 : wM.IsWhole} {h2 : oM.IsWhole} {h3 : bM.IsWhole} {h4 : tM.IsWhole} {h5 : sM.IsWhole} {h6 : rM.IsWhole}

theorem part41 {Q : _ → PropF F} (hQ : iprop(records m K ∗ Arr m c 3 ∗ R) ⊢ Q (rcvW 3 c)) :
    iprop(records m K ∗ Arr m c 0 ∗ R)
      ⊢ run c (k0_part41 (F := F) xM h0 wM h1 oM h2 bM h3 tM h4 sM h5 rM h6 cc0_scratch4 cc0_scratch5 cc0_scratch6 (w2 c) (rcvW 0 c)) Q := by
  rw [k0_part41_eq_skeleton]
  unfold k0_part41_skel
  refine st_wrecv m K (rcvC 0) 0 (by decide) ?_ (rcv_ne 0 (by decide))
  refine st_row m K 0 (by decide) ?_ rfl rfl
  refine st_wrecv m K (rcvC 1) 1 (by decide) ?_ (rcv_ne 1 (by decide))
  refine st_row m K 1 (by decide) ?_ rfl rfl
  refine st_wrecv m K (rcvC 2) 2 (by decide) ?_ (rcv_ne 2 (by decide))
  refine st_row m K 2 (by decide) ?_ rfl rfl
  exact st_end hQ

theorem part42 {Q : _ → PropF F} (hQ : iprop(records m K ∗ Arr m c 6 ∗ R) ⊢ Q (rcvW 6 c)) :
    iprop(records m K ∗ Arr m c 3 ∗ R)
      ⊢ run c (k0_part42 (F := F) xM h0 wM h1 oM h2 bM h3 tM h4 sM h5 rM h6 cc0_scratch4 cc0_scratch5 cc0_scratch6 (w2 c) (rcvW 3 c)) Q := by
  rw [k0_part42_eq_skeleton]
  unfold k0_part42_skel
  refine st_wrecv m K (rcvC 3) 3 (by decide) ?_ (rcv_ne 3 (by decide))
  refine st_row m K 3 (by decide) ?_ rfl rfl
  refine st_wrecv m K (rcvC 4) 4 (by decide) ?_ (rcv_ne 4 (by decide))
  refine st_row m K 4 (by decide) ?_ rfl rfl
  refine st_wrecv m K (rcvC 5) 5 (by decide) ?_ (rcv_ne 5 (by decide))
  refine st_row m K 5 (by decide) ?_ rfl rfl
  exact st_end hQ

theorem part43 {Q : _ → PropF F} (hQ : iprop(records m K ∗ Arr m c 9 ∗ R) ⊢ Q (rcvW 9 c)) :
    iprop(records m K ∗ Arr m c 6 ∗ R)
      ⊢ run c (k0_part43 (F := F) xM h0 wM h1 oM h2 bM h3 tM h4 sM h5 rM h6 cc0_scratch4 cc0_scratch5 cc0_scratch6 (w2 c) (rcvW 6 c)) Q := by
  rw [k0_part43_eq_skeleton]
  unfold k0_part43_skel
  refine st_wrecv m K (rcvC 6) 6 (by decide) ?_ (rcv_ne 6 (by decide))
  refine st_row m K 6 (by decide) ?_ rfl rfl
  refine st_wrecv m K (rcvC 7) 7 (by decide) ?_ (rcv_ne 7 (by decide))
  refine st_row m K 7 (by decide) ?_ rfl rfl
  refine st_wrecv m K (rcvC 8) 8 (by decide) ?_ (rcv_ne 8 (by decide))
  refine st_row m K 8 (by decide) ?_ rfl rfl
  exact st_end hQ

theorem part44 {Q : _ → PropF F} (hQ : iprop(records m K ∗ Arr m c 12 ∗ R) ⊢ Q (rcvW 12 c)) :
    iprop(records m K ∗ Arr m c 9 ∗ R)
      ⊢ run c (k0_part44 (F := F) xM h0 wM h1 oM h2 bM h3 tM h4 sM h5 rM h6 cc0_scratch4 cc0_scratch5 cc0_scratch6 (w2 c) (rcvW 9 c)) Q := by
  rw [k0_part44_eq_skeleton]
  unfold k0_part44_skel
  refine st_wrecv m K (rcvC 9) 9 (by decide) ?_ (rcv_ne 9 (by decide))
  refine st_row m K 9 (by decide) ?_ rfl rfl
  refine st_wrecv m K (rcvC 10) 10 (by decide) ?_ (rcv_ne 10 (by decide))
  refine st_row m K 10 (by decide) ?_ rfl rfl
  refine st_wrecv m K (rcvC 11) 11 (by decide) ?_ (rcv_ne 11 (by decide))
  refine st_row m K 11 (by decide) ?_ rfl rfl
  exact st_end hQ

theorem part45 {Q : _ → PropF F} (hQ : iprop(records m K ∗ Arr m c 15 ∗ R) ⊢ Q (rcvW 15 c)) :
    iprop(records m K ∗ Arr m c 12 ∗ R)
      ⊢ run c (k0_part45 (F := F) xM h0 wM h1 oM h2 bM h3 tM h4 sM h5 rM h6 cc0_scratch4 cc0_scratch5 cc0_scratch6 (w2 c) (rcvW 12 c)) Q := by
  rw [k0_part45_eq_skeleton]
  unfold k0_part45_skel
  refine st_wrecv m K (rcvC 12) 12 (by decide) ?_ (rcv_ne 12 (by decide))
  refine st_row m K 12 (by decide) ?_ rfl rfl
  refine st_wrecv m K (rcvC 13) 13 (by decide) ?_ (rcv_ne 13 (by decide))
  refine st_row m K 13 (by decide) ?_ rfl rfl
  refine st_wrecv m K (rcvC 14) 14 (by decide) ?_ (rcv_ne 14 (by decide))
  refine st_row m K 14 (by decide) ?_ rfl rfl
  exact st_end hQ

theorem part46 {Q : _ → PropF F} (hQ : iprop(records m K ∗ Arr m c 18 ∗ R) ⊢ Q (rcvW 18 c)) :
    iprop(records m K ∗ Arr m c 15 ∗ R)
      ⊢ run c (k0_part46 (F := F) xM h0 wM h1 oM h2 bM h3 tM h4 sM h5 rM h6 cc0_scratch4 cc0_scratch5 cc0_scratch6 (w2 c) (rcvW 15 c)) Q := by
  rw [k0_part46_eq_skeleton]
  unfold k0_part46_skel
  refine st_wrecv m K (rcvC 15) 15 (by decide) ?_ (rcv_ne 15 (by decide))
  refine st_row m K 15 (by decide) ?_ rfl rfl
  refine st_wrecv m K (rcvC 16) 16 (by decide) ?_ (rcv_ne 16 (by decide))
  refine st_row m K 16 (by decide) ?_ rfl rfl
  refine st_wrecv m K (rcvC 17) 17 (by decide) ?_ (rcv_ne 17 (by decide))
  refine st_row m K 17 (by decide) ?_ rfl rfl
  exact st_end hQ

theorem part47 {Q : _ → PropF F} (hQ : iprop(records m K ∗ Arr m c 21 ∗ R) ⊢ Q (rcvW 21 c)) :
    iprop(records m K ∗ Arr m c 18 ∗ R)
      ⊢ run c (k0_part47 (F := F) xM h0 wM h1 oM h2 bM h3 tM h4 sM h5 rM h6 cc0_scratch4 cc0_scratch5 cc0_scratch6 (w2 c) (rcvW 18 c)) Q := by
  rw [k0_part47_eq_skeleton]
  unfold k0_part47_skel
  refine st_wrecv m K (rcvC 18) 18 (by decide) ?_ (rcv_ne 18 (by decide))
  refine st_row m K 18 (by decide) ?_ rfl rfl
  refine st_wrecv m K (rcvC 19) 19 (by decide) ?_ (rcv_ne 19 (by decide))
  refine st_row m K 19 (by decide) ?_ rfl rfl
  refine st_wrecv m K (rcvC 20) 20 (by decide) ?_ (rcv_ne 20 (by decide))
  refine st_row m K 20 (by decide) ?_ rfl rfl
  exact st_end hQ

theorem part48 {Q : _ → PropF F} (hQ : iprop(records m K ∗ Arr m c 24 ∗ R) ⊢ Q (rcvW 24 c)) :
    iprop(records m K ∗ Arr m c 21 ∗ R)
      ⊢ run c (k0_part48 (F := F) xM h0 wM h1 oM h2 bM h3 tM h4 sM h5 rM h6 cc0_scratch4 cc0_scratch5 cc0_scratch6 (w2 c) (rcvW 21 c)) Q := by
  rw [k0_part48_eq_skeleton]
  unfold k0_part48_skel
  refine st_wrecv m K (rcvC 21) 21 (by decide) ?_ (rcv_ne 21 (by decide))
  refine st_row m K 21 (by decide) ?_ rfl rfl
  refine st_wrecv m K (rcvC 22) 22 (by decide) ?_ (rcv_ne 22 (by decide))
  refine st_row m K 22 (by decide) ?_ rfl rfl
  refine st_wrecv m K (rcvC 23) 23 (by decide) ?_ (rcv_ne 23 (by decide))
  refine st_row m K 23 (by decide) ?_ rfl rfl
  exact st_end hQ

theorem part49 {Q : _ → PropF F} (hQ : iprop(records m K ∗ Arr m c 27 ∗ R) ⊢ Q (rcvW 27 c)) :
    iprop(records m K ∗ Arr m c 24 ∗ R)
      ⊢ run c (k0_part49 (F := F) xM h0 wM h1 oM h2 bM h3 tM h4 sM h5 rM h6 cc0_scratch4 cc0_scratch5 cc0_scratch6 (w2 c) (rcvW 24 c)) Q := by
  rw [k0_part49_eq_skeleton]
  unfold k0_part49_skel
  refine st_wrecv m K (rcvC 24) 24 (by decide) ?_ (rcv_ne 24 (by decide))
  refine st_row m K 24 (by decide) ?_ rfl rfl
  refine st_wrecv m K (rcvC 25) 25 (by decide) ?_ (rcv_ne 25 (by decide))
  refine st_row m K 25 (by decide) ?_ rfl rfl
  refine st_wrecv m K (rcvC 26) 26 (by decide) ?_ (rcv_ne 26 (by decide))
  refine st_row m K 26 (by decide) ?_ rfl rfl
  exact st_end hQ

theorem part50 {Q : _ → PropF F} (hQ : iprop(records m K ∗ Arr m c 30 ∗ R) ⊢ Q (rcvW 30 c)) :
    iprop(records m K ∗ Arr m c 27 ∗ R)
      ⊢ run c (k0_part50 (F := F) xM h0 wM h1 oM h2 bM h3 tM h4 sM h5 rM h6 cc0_scratch4 cc0_scratch5 cc0_scratch6 (w2 c) (rcvW 27 c)) Q := by
  rw [k0_part50_eq_skeleton]
  unfold k0_part50_skel
  refine st_wrecv m K (rcvC 27) 27 (by decide) ?_ (rcv_ne 27 (by decide))
  refine st_row m K 27 (by decide) ?_ rfl rfl
  refine st_wrecv m K (rcvC 28) 28 (by decide) ?_ (rcv_ne 28 (by decide))
  refine st_row m K 28 (by decide) ?_ rfl rfl
  refine st_wrecv m K (rcvC 29) 29 (by decide) ?_ (rcv_ne 29 (by decide))
  refine st_row m K 29 (by decide) ?_ rfl rfl
  exact st_end hQ

end Parts

end Cert.KernelIdeal.Pf

end
-- ==== Proof.KernelIdeal.Body.lean ====
/-
  The body of the kernel on one device, from the first signal to the last row of the output.
-/
module

public import proofs.«01_k».proof.Proof.KernelIdeal.PartsA
public import proofs.«01_k».proof.Proof.KernelIdeal.PartsB
public import proofs.«01_k».proof.Proof.KernelIdeal.PartsC
public import proofs.«01_k».proof.Proof.KernelIdeal.PartsD
public import proofs.«01_k».proof.Proof.KernelIdeal.PartsE

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 67 → ℕ)

/-! ## What the body starts with and what it leaves -/

/-- The receive cells' positions, and the credit of each piece that comes from elsewhere. -/
def Rcv (c : Dev nD) : PropF F :=
  bigSep Finset.univ fun s : Fin 32 => iprop(atPos ER (recvCell c s) 0 ∅ 0 ∗ if s = c then iprop(emp) else cred (tallyAt (recvCell c s) () NS))
/-- The send cells' positions. -/
def SndAt (c : Dev nD) : PropF F := bigSep Finset.univ fun n : Fin 32 => atPos ER (sendCell c n) 0 ∅ 0
/-- The body's start. -/
def Pre (c : Dev nD) : PropF F :=
  iprop(Sig c 0 ∗ Bar c ∗ Idle m c 0 0 ∗ Idle m c 1 0 ∗ tAny c ∗ xPts m c ∗ SndAt c ∗ Rcv c ∗ outPts m c 0)
/-- The send buffer's slots and the send cells, done with. -/
def Sent (c : Dev nD) : PropF F :=
  iprop((bigSep Finset.univ fun n : Fin 32 => iprop(∃ f, sPts c n f)) ∗ bigSep Finset.univ fun n : Fin 32 => semVal (sendCell c n) 0)
/-- A half of the weight buffer, the share of `w`, and the copy cell, done with. -/
def Copied (c : Dev nD) (b : Fin 2) : PropF F := iprop((∃ f, bPts c b f) ∗ wPts m c b Finset.univ ∗ semVal (copyCell c b) 0)
/-- What the body leaves: every cell at zero, every buffer whole, the output written. -/
def Post (c : Dev nD) : PropF F :=
  iprop(owesSome c 0 ∗ (bigSep Finset.univ fun s : Fin 32 => arr1 m c s) ∗ (((c : Thread nD τ).loc cc0_stg1_0) ↦{fullShare} oBuf m c)
    ∗ Sent c ∗ Copied m c 0 ∗ Copied m c 1 ∗ tPts m c ∗ xPts m c ∗ semVal (barCell c) 0)

section Glue
variable {c : Dev nD} {R X A B C D : PropF F}

/-- All pieces sent: the departures can be waited for. -/
theorem dep_start : (iprop(Snd m c 32 ∗ SndAt c) : PropF F) ⊢ Dep m c 0 := by
  unfold Snd SndAt Dep
  rw [above_end, prog_end, prog_start]
  iintro ⟨⟨Ho, Hs⟩, Ha⟩
  isplitl [Ho]; · iexact Ho
  unfold dep0
  rw [bigSep_sep']
  isplitl [Hs] <;> iassumption

/-- All departures waited for: the own piece is in place, and the arrivals can be waited for. -/
theorem arr_start : (iprop(Dep m c 32 ∗ Rcv c ∗ outPts m c 0) : PropF F) ⊢ iprop(Arr m c 0 ∗ Sent c) := by
  unfold Dep Rcv Arr Sent
  rw [prog_end, prog_start]
  unfold dep1
  rw [bigSep_sep', bigSep_sep', big_split (pieceOf c c) (fun n : Fin 32 => if dest c n = c then rPts c c (rBuf m c) else iprop(emp)), dest_pieceOf, if_pos rfl]
  rw [big_split c (arr0 m c), big_split c (fun s : Fin 32 => iprop(atPos ER (recvCell c s) 0 ∅ 0 ∗ if s = c then iprop(emp) else cred (tallyAt (recvCell c s) () NS)))]
  unfold arr0
  rw [if_pos rfl, if_pos rfl]
  iintro ⟨⟨Ho, Hs, Hz, Hr, -⟩, ⟨⟨Ha, -⟩, Hc⟩, Hout⟩
  isplitr [Hs Hz]
  · isplitl [Ho]; · iexact Ho
    isplitr [Hout]
    · isplitl [Ha Hr]
      · isplitl [Ha] <;> iassumption
      have e : (bigSep (Finset.univ.erase c) fun s : Fin 32 => (iprop(atPos ER (recvCell c s) 0 ∅ 0 ∗ if s = c then iprop(emp) else cred (tallyAt (recvCell c s) () NS)) : PropF F))
          = bigSep (Finset.univ.erase c) fun s : Fin 32 => iprop(atPos ER (recvCell c s) 0 ∅ 0 ∗ if s = c then rPts c c (rBuf m c) else cred (tallyAt (recvCell c s) () NS)) :=
        bigSep_congr fun s hs => by rw [if_neg (Finset.ne_of_mem_erase hs), if_neg (Finset.ne_of_mem_erase hs)]
      ihave Hc := (Entails.of_eq e) $$ Hc
      iexact Hc
    iexact Hout
  isplitl [Hs] <;> iassumption

/-- The last column group of a half copied: the copy cell is done with. -/
theorem copy_done (b : Fin 2) : (iprop(records m K ∗ Full m c b 3) : PropF F) ⊢ |={Set.univ}=> Copied m c b := by
  unfold Full Copied
  iintro ⟨#Hrec, Hb, Hw, Hat, -, -⟩
  imod (cell_close ER (Rd m) (κ := K (c, kCopy b)) (Set.mem_univ _) (fun h => h) (R := 3 + 1) (fun r hr => duties_copy_later m c b r hr)) $$ [Hat] with Hz
  · isplitr; · iapply (inv_copy m K c b); iexact Hrec
    iexact Hat
  imodintro
  isplitl [Hb]; · iexists _; iexact Hb
  isplitl [Hw] <;> iassumption

/-- The end of the body. -/
theorem body_end : (iprop(records m K ∗ Arr m c 32 ∗ (Sent c ∗ Full m c 0 3 ∗ Full m c 1 3 ∗ tPts m c ∗ xPts m c ∗ semVal (barCell c) 0)) : PropF F)
    ⊢ |={Set.univ}=> Post m c := by
  unfold Arr Post outPts
  rw [prog_end]
  iintro ⟨#Hrec, ⟨Ho, Ha, %f, %hf, Hout⟩, Hs, H0, H1, Ht, Hx, Hb⟩
  imod (copy_done m K 0) $$ [H0] with H0
  · isplitr; · iexact Hrec
    iexact H0
  imod (copy_done m K 1) $$ [H1] with H1
  · isplitr; · iexact Hrec
    iexact H1
  have e : f = oBuf m c := funext fun i => hf i (i 0).isLt
  subst e
  imodintro
  isplitl [Ho]; · iexact Ho
  isplitl [Ha]; · iexact Ha
  isplitl [Hout]; · iexact Hout
  isplitl [Hs]; · iexact Hs
  isplitl [H0]; · iexact H0
  isplitl [H1]; · iexact H1
  isplitl [Ht]; · iexact Ht
  isplitl [Hx] <;> iassumption

end Glue

section Order
variable {c : Dev nD}

/-- Past the barrier: everything in the order the parts take it. -/
theorem start_pieces : (iprop(records m K ∗ Snd m c 0 ∗ semVal (barCell c) 0 ∗ (Idle m c 0 0 ∗ Idle m c 1 0 ∗ tAny c ∗ xPts m c ∗ SndAt c ∗ Rcv c ∗ outPts m c 0)) : PropF F)
    ⊢ iprop(records m K ∗ Snd m c 0 ∗ Idle m c 0 0 ∗ Idle m c 1 0 ∗ tAny c ∗ xPts m c ∗ (SndAt c ∗ Rcv c ∗ outPts m c 0 ∗ semVal (barCell c) 0)) := by
  iintro ⟨H1, H2, H3, H4, H5, H6, H7, H8, H9, H10⟩
  isplitl [H1]; · iexact H1
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10] <;> iassumption

/-- All pieces sent. -/
theorem start_departures {A B C D : PropF F} : (iprop(records m K ∗ Snd m c 32 ∗ A ∗ B ∗ C ∗ D ∗ (SndAt c ∗ Rcv c ∗ outPts m c 0 ∗ semVal (barCell c) 0)) : PropF F)
    ⊢ iprop(records m K ∗ Dep m c 0 ∗ ((Rcv c ∗ outPts m c 0) ∗ A ∗ B ∗ C ∗ D ∗ semVal (barCell c) 0)) := by
  iintro ⟨H1, H2, H3, H4, H5, H6, H7, H8, H9, H10⟩
  isplitl [H1]; · iexact H1
  isplitl [H2 H7]
  · iapply (dep_start m)
    isplitl [H2] <;> iassumption
  isplitl [H8 H9]
  · isplitl [H8] <;> iassumption
  isplitl [H3]; · iexact H3
  isplitl [H4]; · iexact H4
  isplitl [H5]; · iexact H5
  isplitl [H6] <;> iassumption

/-- All pieces gone. -/
theorem start_arrivals {E : PropF F} : (iprop(records m K ∗ Dep m c 32 ∗ ((Rcv c ∗ outPts m c 0) ∗ E)) : PropF F)
    ⊢ iprop(records m K ∗ Arr m c 0 ∗ (Sent c ∗ E)) := by
  iintro ⟨H1, H2, ⟨H3, H4⟩, H5⟩
  isplitl [H1]; · iexact H1
  ihave H := (arr_start m) $$ [H2 H3 H4]
  · isplitl [H2]; · iexact H2
    isplitl [H3] <;> iassumption
  icases H with ⟨Ha, Hs⟩
  isplitl [Ha]; · iexact Ha
  isplitl [Hs] <;> iassumption

end Order

/-! Every group's value is one function of the block of `x` and the column group of `w`. -/
section Same
variable (x : Vec F S256x8192 .bf16) (w : Vec F S1x8192x512 .f32)
theorem gel_eq0 : k0_pay6 (k0_pay4 x w) (k0_pay5 x w) = k0_pay15 x w := rfl
theorem gel_eq1 : k0_pay15 x w = k0_pay15 x w := rfl
theorem gel_eq2 : k0_pay26 (k0_pay24 x w) (k0_pay25 x w) = k0_pay15 x w := rfl
theorem gel_eq3 : k0_pay35 x w = k0_pay15 x w := rfl
theorem gel_eq4 : k0_pay47 (k0_pay45 x w) (k0_pay46 x w) = k0_pay15 x w := rfl
theorem gel_eq5 : k0_pay56 x w = k0_pay15 x w := rfl
theorem gel_eq6 : k0_pay68 (k0_pay66 x w) (k0_pay67 x w) = k0_pay15 x w := rfl
theorem gel_eq7 : k0_pay80 (k0_pay78 x w) (k0_pay79 x w) = k0_pay15 x w := rfl
end Same

attribute [local irreducible] w2 k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51

section Parts
variable {c : Dev nD}
variable {h0 : xM.IsWhole} {h1 : wM.IsWhole} {h2 : oM.IsWhole} {h3 : bM.IsWhole} {h4 : tM.IsWhole} {h5 : sM.IsWhole} {h6 : rM.IsWhole}

/-- The body from its start to the wait for the last piece but one. -/
theorem part51 {Q : _ → PropF F}
    (hQ : iprop(records m K ∗ ArrS m c 30 (by decide) ∗ (Sent c ∗ Full m c 0 3 ∗ Full m c 1 3 ∗ tPts m c ∗ xPts m c ∗ semVal (barCell c) 0)) ⊢ Q (w2 c)) :
    iprop(records m K ∗ Pre m c) ⊢ run c (k0_part51 (F := F) xM h0 wM h1 oM h2 bM h3 tM h4 sM h5 rM h6 cc0_scratch4 cc0_scratch5 cc0_scratch6) Q := by
  unfold Pre
  rw [k0_part51_eq_skeleton]
  unfold k0_part51_skel
  refine st_bind (part1 m K (fun _ => ?_))
  refine st_bind (part2 m K ?_ rfl)
  refine st_bind (part3 m K ?_ rfl)
  refine st_bind (part4 m K (fun _ _ _ _ _ => ?_) rfl)
  refine .trans (start_pieces m K) ?_
  refine st_bind (part5 m K ?_)
  refine st_bind (part6 m K (fun _ => ?_))
  refine st_bind (part7 m K (fun _ => ?_) (by exact gel_eq0 _ _))
  refine st_bind (part8 m K (fun _ => ?_) (by exact gel_eq0 _ _))
  refine st_bind (part9 m K (fun _ => ?_))
  refine st_bind (part10 m K (fun _ _ _ => ?_))
  refine st_bind (part11 m K ?_ (by exact gel_eq1 _ _))
  refine st_bind (part12 m K (fun _ _ => ?_) (by exact gel_eq1 _ _))
  refine st_bind (part13 m K (fun _ => ?_))
  refine st_bind (part14 m K (fun _ => ?_) (by exact gel_eq2 _ _))
  refine st_bind (part15 m K (fun _ _ => ?_) (by exact gel_eq2 _ _))
  refine st_bind (part16 m K (fun _ _ => ?_))
  refine st_bind (part17 m K (fun _ _ => ?_))
  refine st_bind (part18 m K (fun _ => ?_) (by exact gel_eq3 _ _))
  refine st_bind (part19 m K (fun _ _ => ?_) (by exact gel_eq3 _ _))
  refine st_bind (part20 m K (fun _ => ?_))
  refine st_bind (part21 m K (fun _ => ?_) (by exact gel_eq4 _ _))
  refine st_bind (part22 m K (fun _ _ _ _ => ?_) (by exact gel_eq4 _ _))
  refine st_bind (part23 m K (fun _ _ _ => ?_))
  refine st_bind (part24 m K (fun _ => ?_))
  refine st_bind (part25 m K (fun _ => ?_) (by exact gel_eq5 _ _))
  refine st_bind (part26 m K (fun _ _ _ _ => ?_) (by exact gel_eq5 _ _))
  refine st_bind (part27 m K (fun _ => ?_))
  refine st_bind (part28 m K (fun _ => ?_) (by exact gel_eq6 _ _))
  refine st_bind (part29 m K (fun _ _ _ => ?_) (by exact gel_eq6 _ _))
  refine st_bind (part30 m K (fun _ => ?_))
  refine st_bind (part31 m K (fun _ => ?_) (by exact gel_eq7 _ _))
  refine st_bind (part32 m K (fun _ => ?_) (by exact gel_eq7 _ _))
  refine .trans (start_departures m K) ?_
  refine st_bind (part33 m K (fun _ _ _ => ?_))
  refine st_bind (part34 m K (fun _ _ _ _ => ?_))
  refine st_bind (part35 m K (fun _ _ _ _ => ?_))
  refine st_bind (part36 m K (fun _ _ _ => ?_))
  refine st_bind (part37 m K (fun _ _ => ?_))
  refine st_bind (part38 m K (fun _ _ => ?_))
  refine st_bind (part39 m K (fun _ _ => ?_))
  refine st_bind (part40 m K ?_)
  refine .trans (start_arrivals m K) ?_
  refine st_bind (part41 m K ?_)
  refine st_bind (part42 m K ?_)
  refine st_bind (part43 m K ?_)
  refine st_bind (part44 m K ?_)
  refine st_bind (part45 m K ?_)
  refine st_bind (part46 m K ?_)
  refine st_bind (part47 m K ?_)
  refine st_bind (part48 m K ?_)
  refine st_bind (part49 m K ?_)
  refine st_bind (part50 m K ?_)
  refine st_wrecv m K (rcvC 30) 30 (by decide) ?_ (rcv_ne 30 (by decide))
  exact st_end hQ

/-- The body takes its start to its end. -/
theorem body_run : iprop(records m K ∗ Pre m c)
    ⊢ run c (cc0_body (F := F) xM h0 wM h1 oM h2 bM h3 tM h4 sM h5 rM h6 cc0_scratch4 cc0_scratch5 cc0_scratch6) fun _ => Post m c := by
  rw [cc0_body_eq_skeleton]
  unfold cc0_body_skel
  refine st_bind (part51 m K ?_)
  refine st_row m K 30 (by decide) ?_ rfl rfl
  refine st_wrecv m K (rcvC 31) 31 (by decide) ?_ (rcv_ne 31 (by decide))
  refine st_row m K 31 (by decide) ?_ rfl rfl
  show _ ⊢ wp _ _ _ (Prog.ret _) _
  rw [wp_ret]
  exact body_end m K

end Parts

end Cert.KernelIdeal.Pf

end
-- ==== Proof.KernelIdeal.Ghost.lean ====
/-
  The ghost state at launch: every cell's invariant, and every device's tokens and credits.
-/
module

public import proofs.«01_k».proof.Proof.KernelIdeal.Body
public import Idealize.ShloMosaic.Lib.Pipeline.Regions

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## The cells, kind by kind -/

/-- The kernel's own semaphores: all of the protocol's but the barrier. -/
def osem (k : Fin 66) : SemLoc sig := csem k.succ

/-- A cell's number from its kind. -/
def cellNo : Unit ⊕ Fin 2 ⊕ Fin 32 ⊕ Fin 32 → Fin 67
  | .inl _ => kBar | .inr (.inl b) => kCopy b | .inr (.inr (.inl n)) => kSend n | .inr (.inr (.inr n)) => kRecv n
theorem cellNo_bij : Function.Bijective cellNo := by
  refine ⟨?_, ?_⟩ <;> decide +kernel

/-- A conjunction over the cells of one device, kind by kind. -/
theorem big_kinds (Φ : Fin 67 → PropF F) :
    bigSep Finset.univ Φ = iprop(Φ kBar ∗ (bigSep Finset.univ fun b => Φ (kCopy b)) ∗ (bigSep Finset.univ fun n => Φ (kSend n)) ∗ bigSep Finset.univ fun n => Φ (kRecv n)) := by
  rw [bigSep_univ_equiv (Equiv.ofBijective cellNo cellNo_bij), bigSep_univ_sum, bigSep_univ_sum, bigSep_univ_sum]
  rw [bigSep_univ_split () (Φ := fun a : Unit => Φ ((Equiv.ofBijective cellNo cellNo_bij) (Sum.inl a))), show (Finset.univ.erase ()) = ∅ from rfl, bigSep_empty,
    show BI.sep (Φ ((Equiv.ofBijective cellNo cellNo_bij) (Sum.inl ()))) BI.emp = Φ ((Equiv.ofBijective cellNo cellNo_bij) (Sum.inl ())) from equiv_iff.mp BI.sep_emp]
  rfl

theorem big_succ (Φ : Fin 67 → PropF F) : bigSep Finset.univ Φ = iprop(Φ kBar ∗ bigSep Finset.univ fun k : Fin 66 => Φ k.succ) := by
  rw [Fin.univ_succ, Finset.cons_eq_insert, BI.bigSep_insert (by simp), BI.bigSep_map]; rfl

theorem cell_copy (c : Dev nD) (b : Fin 2) : kcell (c, kCopy b) = copyCell c b := congrArg (Prod.mk _) (csem_copy b)
theorem cell_send (c : Dev nD) (n : Fin 32) : kcell (c, kSend n) = sendCell c n := congrArg (Prod.mk _) (csem_send n)
theorem cell_recv (c : Dev nD) (n : Fin 32) : kcell (c, kRecv n) = recvCell c n := congrArg (Prod.mk _) (csem_recv n)

/-- A family over a device's cells, kind by kind, at the cells' names. -/
theorem big_cells (c : Dev nD) (Φ : GSem nD τ sig → PropF F) :
    (bigSep Finset.univ fun k => Φ (kcell (c, k))) = iprop(Φ (barCell c) ∗ (bigSep Finset.univ fun b => Φ (copyCell c b)) ∗ (bigSep Finset.univ fun n => Φ (sendCell c n)) ∗ bigSep Finset.univ fun n => Φ (recvCell c n)) := by
  rw [big_kinds]
  simp only [cell_copy, cell_send, cell_recv]
  rfl

theorem csem_inj : Function.Injective csem := by decide +kernel
theorem kcell_inj : Function.Injective (kcell : Dev nD × Fin 67 → GSem nD τ sig) := by
  rintro ⟨c, k⟩ ⟨c', k'⟩ h
  have h1 : c = c' := by have := congrArg (fun g : GSem nD τ sig => g.1.1) h; exact this
  subst h1
  have h2 : k = k' := csem_inj (congrArg Prod.snd h)
  subst h2; rfl
def cells : Finset (GSem nD τ sig) := Finset.univ.map ⟨kcell, kcell_inj⟩

/-- The duty tokens minted for a cell: for the barrier one per device in round 0, for the others one per round. -/
def tokOf (x : (Dev nD × Fin 67) × Fin 32) : GSem nD τ sig × ℕ × Fin 32 :=
  if x.1.2 = kBar then (kcell x.1, 0, x.2) else (kcell x.1, x.2.val, 0)
theorem tokOf_inj : Function.Injective tokOf := by
  rintro ⟨ck, j⟩ ⟨ck', j'⟩ h
  have h1 : ck = ck' := by
    have e := congrArg Prod.fst h
    unfold tokOf at e
    refine kcell_inj ?_
    split at e <;> split at e <;> exact e
  subst h1
  unfold tokOf at h
  by_cases hk : ck.2 = kBar
  · rw [if_pos hk, if_pos hk] at h
    rw [show j = j' from congrArg (fun x : GSem nD τ sig × ℕ × Fin 32 => x.2.2) h]
  · rw [if_neg hk, if_neg hk] at h
    rw [show j = j' from Fin.ext (congrArg (fun x : GSem nD τ sig × ℕ × Fin 32 => x.2.1) h)]
def tokens : Finset (GSem nD τ sig × ℕ × Fin 32) := Finset.univ.map ⟨tokOf, tokOf_inj⟩

/-- The tokens of one cell. -/
def cellToks (ck : Dev nD × Fin 67) : PropF F :=
  bigSep Finset.univ fun j : Fin 32 => dutyTok ER (tokOf (ck, j)).1 (tokOf (ck, j)).2.1 (tokOf (ck, j)).2.2

def u₀ : UU :=
  (initOf (Pipeline.cells cfgs cellOf_inj) (Pipeline.launchToks cfgs cellOf_inj), initOf cells tokens)

/-- What the launch deals device `c`. -/
def G (c : Dev nD) : PropF F :=
  iprop((bigSep Finset.univ fun k : Fin 67 => roundState ER (Rd m) (kcell (c, k)) 0)
    ∗ (bigSep Finset.univ fun k : Fin 67 => atPos ER (kcell (c, k)) 0 ∅ 0) ∗ (bigSep Finset.univ fun k : Fin 67 => reached ER (kcell (c, k)) 0)
    ∗ bigSep Finset.univ fun k : Fin 67 => cellToks (F := F) (c, k))

theorem big_all (Φ : GSem nD τ sig → PropF F) : bigSep cells Φ = bigSep Finset.univ fun c : Dev nD => bigSep Finset.univ fun k : Fin 67 => Φ (kcell (c, k)) := by
  unfold cells; rw [bigSep_map, bigSep_univ_prod]; rfl

theorem fund_all : BI.own (ER (initOf cells tokens)) ⊢ (|==> bigSep Finset.univ (G m) : PropF F) := by
  have hT : bigSep tokens (fun x => (dutyTok ER x.1 x.2.1 x.2.2 : PropF F)) = bigSep Finset.univ fun c : Dev nD => bigSep Finset.univ fun k : Fin 67 => cellToks (F := F) (c, k) := by
    unfold tokens cellToks; rw [bigSep_map, bigSep_univ_prod, bigSep_univ_prod]; rfl
  iintro HX
  imod (Rounds.fund ER (Rd m) cells tokens) $$ HX with ⟨Hst, Hr, Hat, Htok⟩
  imodintro
  ihave Hst := (Entails.of_eq (big_all fun g => roundState ER (Rd m) g 0)) $$ Hst
  ihave Hat := (Entails.of_eq (big_all (F := F) fun g => atPos ER g 0 ∅ 0)) $$ Hat
  ihave Hr := (Entails.of_eq (big_all (F := F) fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## The semaphores at launch -/

theorem unscoped_eq (c : Dev nD) : (unscopedSems0 c : PropF F) = semVal (barCell c) 0 := by
  unfold unscopedSems0; rw [bigSep_eq_bigSepL_of_eq [SemLoc.reg barS] (by decide) (by decide)]; rfl

/-- The kernel's own counters and the barrier's, cell by cell. -/
theorem sems_eq (c : Dev nD) :
    iprop((unscopedSems0 c : PropF F) ∗ Pipeline.ownSems0 (Ix := Unit) (Name := ℕ) (U := UU) (Lvl := ℕ) (Val := Elt F) (τ := τ) osem c)
      = bigSep Finset.univ fun k : Fin 67 => semVal (kcell (c, k)) 0 := by
  rw [unscoped_eq, big_succ]; rfl

/-! ## The tokens, dealt to the devices that pay -/

/-- The tokens device `c` pays with. -/
def payToks (c : Dev nD) : PropF F :=
  iprop((bigSep Finset.univ fun i : Fin 32 => dutyTok ER (barCell i) 0 c)
    ∗ (bigSep Finset.univ fun b : Fin 2 => bigSep Finset.univ fun j : Fin 32 => dutyTok ER (copyCell c b) j.val 0)
    ∗ (bigSep Finset.univ fun n : Fin 32 => dutyTok ER (sendCell c n) 0 0)
    ∗ bigSep Finset.univ fun n : Fin 32 => dutyTok ER (recvCell (dest c n) c) 0 0)

theorem toks_bar (c : Dev nD) : (cellToks (c, kBar) : PropF F) = bigSep Finset.univ fun j : Fin 32 => dutyTok ER (barCell c) 0 j := by
  unfold cellToks tokOf; rfl
theorem toks_other (c : Dev nD) (k : Fin 67) (h : k ≠ kBar) : (cellToks (c, k) : PropF F) = bigSep Finset.univ fun j : Fin 32 => dutyTok ER (kcell (c, k)) j.val 0 := by
  unfold cellToks tokOf; refine bigSep_congr fun j _ => ?_; simp only [if_neg h]
theorem toks_first (c : Dev nD) (k : Fin 67) (h : k ≠ kBar) : (cellToks (c, k) : PropF F) ⊢ dutyTok ER (kcell (c, k)) 0 0 := by
  rw [toks_other c k h]
  exact bigSep_elim (Φ := fun j : Fin 32 => (dutyTok ER (kcell (c, k)) j.val 0 : PropF F)) (Finset.mem_univ (0 : Fin 32))

/-- A device's minted tokens, kind by kind. -/
theorem toks_kinds (c : Dev nD) : (bigSep Finset.univ fun k : Fin 67 => (cellToks (c, k) : PropF F))
    ⊢ iprop((bigSep Finset.univ fun j : Fin 32 => dutyTok ER (barCell c) 0 j)
      ∗ (bigSep Finset.univ fun b : Fin 2 => bigSep Finset.univ fun j : Fin 32 => dutyTok ER (copyCell c b) j.val 0)
      ∗ (bigSep Finset.univ fun n : Fin 32 => dutyTok ER (sendCell c n) 0 0)
      ∗ bigSep Finset.univ fun n : Fin 32 => dutyTok ER (recvCell c n) 0 0) := by
  rw [big_kinds, toks_bar]
  have hc : (bigSep Finset.univ fun b : Fin 2 => (cellToks (c, kCopy b) : PropF F)) ⊢ bigSep Finset.univ fun b : Fin 2 => bigSep Finset.univ fun j : Fin 32 => dutyTok ER (copyCell c b) j.val 0 :=
    bigSep_mono fun b _ => by rw [toks_other c (kCopy b) (by revert b; decide +kernel), cell_copy]; exact Idealize.SL.BI.Entails.refl _
  have hs : (bigSep Finset.univ fun n : Fin 32 => (cellToks (c, kSend n) : PropF F)) ⊢ bigSep Finset.univ fun n : Fin 32 => dutyTok ER (sendCell c n) 0 0 :=
    bigSep_mono fun n _ => by rw [← cell_send]; exact toks_first c (kSend n) (by revert n; decide +kernel)
  have hr : (bigSep Finset.univ fun n : Fin 32 => (cellToks (c, kRecv n) : PropF F)) ⊢ bigSep Finset.univ fun n : Fin 32 => dutyTok ER (recvCell c n) 0 0 :=
    bigSep_mono fun n _ => by rw [← cell_recv]; exact toks_first c (kRecv n) (by revert n; decide +kernel)
  iintro ⟨Hb, Hc, Hs, Hr⟩
  isplitl [Hb]; · iexact Hb
  isplitl [Hc]; · iapply hc; iexact Hc
  isplitl [Hs]; · iapply hs; iexact Hs
  iapply hr; iexact Hr

theorem toks_deal : (bigSep Finset.univ fun c : Dev nD => bigSep Finset.univ fun k : Fin 67 => (cellToks (c, k) : PropF F))
    ⊢ bigSep Finset.univ fun c : Dev nD => payToks (F := F) c := by
  refine BIBase.Entails.trans (bigSep_mono fun c _ => toks_kinds c) ?_
  unfold payToks
  rw [bigSep_sep', bigSep_sep', bigSep_sep', bigSep_sep', bigSep_sep', bigSep_sep',
    bigSep_univ_comm (fun (c : Dev nD) (j : Fin 32) => (dutyTok ER (barCell c) 0 j : PropF F)),
    bigSep_univ_comm (fun (c : Dev nD) (n : Fin 32) => (dutyTok ER (recvCell c n) 0 0 : PropF F)),
    bigSep_congr (s := Finset.univ) fun (s : Dev nD) _ => bigSep_univ_equiv (destEquiv s) (fun c : Dev nD => (dutyTok ER (recvCell c s) 0 0 : PropF F))]
  exact Idealize.SL.BI.Entails.refl _

/-! ## What each device starts with -/

/-- The positions at a device's own cells, and the tokens it pays with. -/
def linear (c : Dev nD) : PropF F :=
  iprop((atPos ER (barCell c) 0 ∅ 0 ∗ (bigSep Finset.univ fun b => atPos ER (copyCell c b) 0 ∅ 0) ∗ (bigSep Finset.univ fun n => atPos ER (sendCell c n) 0 ∅ 0)
    ∗ bigSep Finset.univ fun n => atPos ER (recvCell c n) 0 ∅ 0) ∗ payToks c)

/-- The invariants and the marks that every cell has reached round 0. -/
def marks (K : Dev nD × Fin 67 → ℕ) : PropF F :=
  iprop((bigSep Finset.univ fun ck : Dev nD × Fin 67 => cellInv ER (Rd m) (K ck) (kcell ck))
    ∗ bigSep Finset.univ fun ck : Dev nD × Fin 67 => reached ER (kcell ck) 0)
instance marks_persistent (K : Dev nD × Fin 67 → ℕ) : BI.Persistent (marks m K) := by unfold marks; infer_instance

/-- What the global step makes of it. -/
def G' (c : Dev nD) : PropF F := iprop(∃ K, marks m K ∗ linear c)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 67 => atPos ER (kcell (c, k)) 0 ∅ 0) ∗ (bigSep Finset.univ fun k : Fin 67 => reached ER (kcell (c, k)) 0)
          ∗ bigSep Finset.univ fun k : Fin 67 => cellToks (F := F) (c, k)) := by
  unfold G
  iintro ⟨Hos, Hus, Hst, Hat, Hr, Htok⟩
  ihave Hv := (Entails.of_eq (sems_eq (F := F) c)) $$ [Hos Hus]
  · isplitl [Hus] <;> iassumption
  imod (show iprop((bigSep Finset.univ fun k : Fin 67 => semVal (kcell (c, k)) 0) ∗ bigSep Finset.univ fun k : Fin 67 => roundState ER (Rd m) (kcell (c, k)) 0)
      ⊢ (|={Set.univ}=> bigSep Finset.univ fun k => iprop(∃ κ : ℕ, cellInv ER (Rd m) κ (kcell (c, k))) : PropF F) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

/-- A persistent fact goes to every summand. -/
theorem big_with {I : Type} [DecidableEq I] {S : Finset I} {R : PropF F} [BI.Persistent R] {Φ Ψ : I → PropF F}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 67 => atPos ER (kcell (c, k)) 0 ∅ 0) ∗ (bigSep Finset.univ fun k : Fin 67 => reached ER (kcell (c, k)) 0)
          ∗ bigSep Finset.univ fun k : Fin 67 => cellToks (F := F) (c, k)) : PropF F)
      ⊢ bigSep Finset.univ (G' m) := by
  rw [bigSep_sep', bigSep_sep', bigSep_sep', ← bigSep_univ_prod (fun ck : Dev nD × Fin 67 => iprop(∃ κ : ℕ, cellInv ER (Rd m) κ (kcell ck))),
    ← bigSep_univ_prod (fun ck : Dev nD × Fin 67 => (reached ER (kcell ck) 0 : PropF F))]
  iintro ⟨HI, Hat, #HR, Htok⟩
  ihave HK := (BI.bigSep_exists_pi Finset.univ (fun (ck : Dev nD × Fin 67) (κ : ℕ) => (cellInv ER (Rd m) κ (kcell ck) : PropF F))) $$ HI
  icases HK with ⟨%K, #HI⟩
  ihave Htk := (toks_deal (F := F)) $$ Htok
  have hg : ∀ c ∈ (Finset.univ : Finset (Dev nD)), iprop(marks m K ∗ linear (F := F) c) ⊢ G' m c := fun c _ => by
    unfold G'; iintro H; iexists K; iexact H
  iapply (big_with hg)
  isplitr
  · unfold marks; isplitl; · iexact HI
    iexact HR
  · have hl : iprop((bigSep Finset.univ fun c : Dev nD => bigSep Finset.univ fun k : Fin 67 => (atPos ER (kcell (c, k)) 0 ∅ 0 : PropF F)) ∗ bigSep Finset.univ fun c : Dev nD => payToks c)
        ⊢ bigSep Finset.univ fun c : Dev nD => linear (F := F) c := by
      rw [← bigSep_sep']
      exact bigSep_mono fun c _ => by unfold linear; rw [big_cells c fun g => atPos ER g 0 ∅ 0]; exact Idealize.SL.BI.Entails.refl _
    iapply hl
    isplitl [Hat]; · iexact Hat
    iexact Htk

/-- The global step: every device's cells set up at once. -/
theorem glob : (bigSep Finset.univ fun c => iprop(Pipeline.ownSems0 (Ix := Unit) (Name := ℕ) (U := UU) (Lvl := ℕ) (Val := Elt F) (τ := τ) osem c ∗ unscopedSems0 c ∗ G m c) : PropF F)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : barCell a = barCell b ↔ a = b :=
  ⟨fun h => Fin.ext (congrArg (fun g : GSem nD τ sig => g.1.1.val) h), fun h => h ▸ rfl⟩
theorem recv_eq_iff {a b : Dev nD} {s t : Fin 32} : recvCell a s = recvCell b t ↔ a = b ∧ s = t := by
  refine ⟨fun h => ⟨Fin.ext (congrArg (fun g : GSem nD τ sig => g.1.1.val) h), ?_⟩, fun h => by rw [h.1, h.2]⟩
  have e := congrArg (fun g : GSem nD τ sig => kindOf g.2) h
  simp only [kind_recv] at e
  exact Kind.recv.inj e
theorem recv_ne_bar {a b : Dev nD} {s : Fin 32} : recvCell a s ≠ barCell b := fun h => by
  have e := congrArg (fun g : GSem nD τ sig => kindOf g.2) h
  simp only [kind_recv, kind_bar] at e
  exact absurd e (by decide +revert)

theorem above_zero (g : Fin 32 → CellTallies nD τ sig Unit) : above 0 g = ∑ i : Fin 32, g i :=
  Finset.sum_congr rfl fun i _ => if_pos (Nat.zero_le _)

theorem O₀_apply (d : Dev nD) (x : GSem nD τ sig) : O₀ d x () = (∑ i : Fin 32, oSnd d i x ()) + ∑ i : Fin 32, oBar d i x () := by
  unfold O₀
  rw [Pi.add_apply, Finsupp.add_apply, above_zero, above_zero, Finset.sum_apply, Finset.sum_apply, Finsupp.finset_sum_apply, Finsupp.finset_sum_apply]

/-- What device `d` owes device `c`'s barrier cell. -/
theorem owed_bar (d c : Dev nD) : O₀ d (barCell c) () = if c = d then 0 else 1 := by
  rw [O₀_apply]
  have h1 : ∀ i : Fin 32, oSnd d i (barCell c) () = 0 := fun i => by
    unfold oSnd; split
    · rfl
    · rw [tallyAt_apply, if_neg (fun h => recv_ne_bar h.1.symm)]
  rw [Finset.sum_congr rfl fun i _ => h1 i, Finset.sum_const_zero, zero_add]
  rw [Finset.sum_eq_single c]
  · unfold oBar
    by_cases h : c = d
    · rw [if_pos h, if_pos h]; rfl
    · rw [if_neg h, if_neg h, tallyAt_apply, if_pos ⟨rfl, rfl⟩]
  · intro i _ hi
    unfold oBar; split
    · rfl
    · rw [tallyAt_apply, if_neg (fun h => hi (bar_eq_iff.mp h.1).symm)]
  · exact fun h => absurd (Finset.mem_univ _) h

/-- What device `d` owes receive cell `s` of device `c`. -/
theorem owed_recv (d c : Dev nD) (s : Fin 32) : O₀ d (recvCell c s) () = if d = s then (if s = c then 0 else NS) else 0 := by
  rw [O₀_apply]
  have h1 : ∀ i : Fin 32, oBar d i (recvCell c s) () = 0 := fun i => by
    unfold oBar; split
    · rfl
    · rw [tallyAt_apply, if_neg (fun h => recv_ne_bar h.1)]
  rw [Finset.sum_congr rfl fun i _ => h1 i, Finset.sum_const_zero, add_zero]
  rw [Finset.sum_eq_single (pieceOf d c)]
  · unfold oSnd
    rw [dest_pieceOf]
    by_cases h : d = s
    · subst h
      rw [if_pos rfl]
      by_cases h' : c = d
      · rw [if_pos h', if_pos h'.symm]; rfl
      · rw [if_neg h', if_neg (fun e => h' e.symm), tallyAt_apply, if_pos ⟨rfl, rfl⟩]
    · rw [if_neg h]
      split
      · rfl
      · rw [tallyAt_apply, if_neg (fun e => h (recv_eq_iff.mp e.1).2.symm)]
  · intro i _ hi
    unfold oSnd; split
    · rfl
    · rw [tallyAt_apply, if_neg (fun e => hi (by rw [(recv_eq_iff.mp e.1).1, pieceOf_dest]))]
  · exact fun h => absurd (Finset.mem_univ _) h

theorem count_others : ∀ c : Fin 32, (∑ d : Fin 32, if c = d then 0 else 1) = 31 := by decide +kernel

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact count_others c

theorem launch_recv (c : Dev nD) (s : Fin 32) (h : s ≠ c) :
    tallyOn (recvCell c s) (launchCredit (Pipeline.owing O₀) 0 (recvCell c s)) = (tallyAt (recvCell c s) () NS : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ s, if_pos (Finset.mem_univ _), if_neg h]

/-- The credit of the barrier's 31 units and of each arriving piece. -/
def creds (c : Dev nD) : PropF F :=
  iprop(cred (tallyAt (barCell c) () 31) ∗ bigSep Finset.univ fun s : Fin 32 => if s = c then iprop(emp) else cred (tallyAt (recvCell c s) () NS))

theorem creds_intro (c : Dev nD) : (Pipeline.launchCred O₀ c : PropF F) ⊢ creds c := by
  unfold Pipeline.launchCred creds
  let Φ : GSem nD τ sig → PropF F := fun g => cred (tallyOn g (launchCredit (Pipeline.owing O₀) 0 g))
  have h1 : (bigSep Finset.univ fun sm : SemLoc sig => Φ ((c : Thread nD τ), sm)) ⊢ bigSep Finset.univ fun k : Fin 67 => Φ (kcell (c, k)) := by
    refine BIBase.Entails.trans (BI.bigSep_subset (Finset.subset_univ (Finset.univ.map ⟨csem, csem_inj⟩))) ?_
    rw [bigSep_map]; exact Idealize.SL.BI.Entails.refl _
  refine BIBase.Entails.trans h1 ?_
  rw [big_cells c Φ]
  have h2 : (bigSep Finset.univ fun s : Fin 32 => Φ (recvCell c s)) ⊢ bigSep Finset.univ fun s : Fin 32 => if s = c then iprop(emp) else cred (tallyAt (recvCell c s) () NS) :=
    bigSep_mono fun s _ => by
      by_cases h : s = c
      · rw [if_pos h]; show Φ (recvCell c s) ⊢ iprop(emp); iintro -; iempintro
      · rw [if_neg h, ← launch_recv c s h]; exact Idealize.SL.BI.Entails.refl _
  iintro ⟨Hb, -, -, Hr⟩
  isplitl [Hb]
  · rw [← launch_bar]; iexact Hb
  · iapply h2; iexact Hr

end Cert.KernelIdeal.Pf

end
-- ==== Proof.KernelIdeal.Run.lean ====
/-
  The launch: every device runs the kernel, the result arrays hold `oBuf`, the arguments are unchanged and every
  semaphore is back at zero.
-/
module

public import proofs.«01_k».proof.Proof.KernelIdeal.Ghost
public import proofs.«01_k».proof.Proof.Gen.KernelIdeal.Launch
public import proofs.«01_k».proof.Proof.Gen.KernelIdeal.Points
public import Idealize.ShloMosaic.Lib.Pipeline.ValueKit
public import Idealize.ShloMosaic.Lib.Pipeline.CollectiveSegs
public import Idealize.ShloMosaic.Lib.Ring

@[expose] public section

noncomputable section

namespace Cert.KernelIdeal.Pf

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The buffers, slot by slot -/

theorem slots_disj (b b' : Fin 32) (h : b ≠ b') : Disjoint (slotR b).set (slotR b').set :=
  Ring.lead_disjoint (s := S32x256x128) (0 : Fin 3) 1 (fun n : Fin 32 => ![n.val, 0, 0]) S1x256x128.size (fun n => inbSlot n.val n.isLt)
    (fun b => (Nat.one_mul _).symm) rfl b b' h
theorem slots_cover : Finset.univ.biUnion (fun b : Fin 32 => (slotR b).set) = Finset.univ :=
  Ring.lead_cover (s := S32x256x128) (0 : Fin 3) 1 (fun n : Fin 32 => ![n.val, 0, 0]) S1x256x128.size (fun n => inbSlot n.val n.isLt)
    (fun b => (Nat.one_mul _).symm) (fun b a h => by fin_cases a; exacts [absurd rfl h, rfl, rfl]) rfl
    (fun a h => by fin_cases a; exacts [absurd rfl h, rfl, rfl]) rfl
theorem halves_disj (b b' : Fin 2) (h : b ≠ b') : Disjoint (halfR b).set (halfR b').set :=
  Ring.lead_disjoint (s := S2x8192x512) (0 : Fin 3) 1 (fun n : Fin 2 => ![n.val, 0, 0]) S1x8192x512.size (fun n => inbHalf n.val n.isLt)
    (fun b => (Nat.one_mul _).symm) rfl b b' h
theorem halves_cover : Finset.univ.biUnion (fun b : Fin 2 => (halfR b).set) = Finset.univ :=
  Ring.lead_cover (s := S2x8192x512) (0 : Fin 3) 1 (fun n : Fin 2 => ![n.val, 0, 0]) S1x8192x512.size (fun n => inbHalf n.val n.isLt)
    (fun b => (Nat.one_mul _).symm) (fun b a h => by fin_cases a; exacts [absurd rfl h, rfl, rfl]) rfl
    (fun a h => by fin_cases a; exacts [absurd rfl h, rfl, rfl]) rfl

section Buffers
variable (c : Dev nD)

theorem send_split (f : S32x256x128.Idx → Elt F .bf16) : ((((c : Thread nD τ).loc cc0_scratch2) ↦{fullShare} f : PropF F)) ⊢ bigSep Finset.univ fun n : Fin 32 => iprop(∃ f, sPts c n f) := by
  rw [Ring.pointsTo_blocks (ℓ := (c : Thread nD τ).loc cc0_scratch2) (fun b : Fin 32 => (slotR b).set) slots_disj slots_cover f]
  refine bigSep_mono fun n _ => ?_
  show (((c : Thread nD τ).loc cc0_scratch2) ↦[(slotR n).set]{fullShare} f : PropF F) ⊢ iprop(∃ f, sPts c n f)
  unfold sPts; iintro H; iexists f; iexact H
theorem recv_split (f : S32x256x128.Idx → Elt F .bf16) : ((((c : Thread nD τ).loc cc0_scratch3) ↦{fullShare} f : PropF F)) ⊢ bigSep Finset.univ fun n : Fin 32 => iprop(∃ f, rPts c n f) := by
  rw [Ring.pointsTo_blocks (ℓ := (c : Thread nD τ).loc cc0_scratch3) (fun b : Fin 32 => (slotR b).set) slots_disj slots_cover f]
  refine bigSep_mono fun n _ => ?_
  show (((c : Thread nD τ).loc cc0_scratch3) ↦[(slotR n).set]{fullShare} f : PropF F) ⊢ iprop(∃ f, rPts c n f)
  unfold rPts; iintro H; iexists f; iexact H
theorem send_join (f₀ : S32x256x128.Idx → Elt F .bf16) : (bigSep Finset.univ fun n : Fin 32 => (iprop(∃ f, sPts c n f) : PropF F)) ⊢ iprop(∃ g, ((c : Thread nD τ).loc cc0_scratch2) ↦{fullShare} g) := by
  unfold sPts
  exact Ring.pointsTo_blocks_join_exists (ℓ := (c : Thread nD τ).loc cc0_scratch2) (fun b : Fin 32 => (slotR b).set) slots_disj slots_cover f₀
theorem recv_join (f : S32x256x128.Idx → Elt F .bf16) : (bigSep Finset.univ fun n : Fin 32 => (rPts c n f : PropF F)) ⊢ iprop(∃ g, ((c : Thread nD τ).loc cc0_scratch3) ↦{fullShare} g) := by
  unfold rPts
  rw [← Ring.pointsTo_blocks (ℓ := (c : Thread nD τ).loc cc0_scratch3) (fun b : Fin 32 => (slotR b).set) slots_disj slots_cover f]
  iintro H; iexists f; iexact H

theorem big_two (Φ : Fin 2 → PropF F) : bigSep Finset.univ Φ = iprop(Φ 0 ∗ Φ 1) := bigSep_univ_eq_bigSepL [0, 1] (by decide) (by decide) Φ

theorem half_split (f : S2x8192x512.Idx → Elt F .f32) : ((((c : Thread nD τ).loc cc0_scratch0) ↦{fullShare} f : PropF F)) ⊢ iprop((∃ f, bPts c 0 f) ∗ ∃ f, bPts c 1 f) := by
  rw [Ring.pointsTo_blocks (ℓ := (c : Thread nD τ).loc cc0_scratch0) (fun b : Fin 2 => (halfR b).set) halves_disj halves_cover f, big_two]
  unfold bPts; iintro ⟨H0, H1⟩
  isplitl [H0]; · iexists f; iexact H0
  iexists f; iexact H1
theorem half_join (f₀ : S2x8192x512.Idx → Elt F .f32) : (iprop((∃ f, bPts c 0 f) ∗ ∃ f, bPts c 1 f) : PropF F) ⊢ iprop(∃ g, ((c : Thread nD τ).loc cc0_scratch0) ↦{fullShare} g) := by
  have h := Ring.pointsTo_blocks_join_exists (Ix := Unit) (Name := ℕ) (U := UU) (Lvl := ℕ) (q := fullShare) (ℓ := (c : Thread nD τ).loc cc0_scratch0) (fun b : Fin 2 => (halfR b).set) halves_disj halves_cover f₀
  rw [big_two] at h
  unfold bPts; exact h

/-- The weights in two shares. -/
theorem w_shares : (((c : Thread nD τ).loc main_arg1) ↦{fullShare} ws m c : PropF F) ⊣⊢ iprop(wPts m c 0 Finset.univ ∗ wPts m c 1 Finset.univ) := by
  unfold wPts shr
  rw [if_pos rfl, if_neg (by decide)]
  exact pointsTo_share (PosShare.mem_left_op_right _)

end Buffers

/-! ## The proof data -/

/-- What a device's body starts from. -/
def Φ₀ (c : Dev nD) : PropF F :=
  iprop(∃ K, records m K ∗ (bigSep Finset.univ (sig0 c)) ∗ Bar c ∗ Idle m c 0 0 ∗ Idle m c 1 0 ∗ tAny c ∗ SndAt c ∗ Rcv c)
/-- What it leaves. -/
def Φ₁ (c : Dev nD) : PropF F :=
  iprop((bigSep Finset.univ fun s : Fin 32 => arr1 m c s) ∗ Sent c ∗ Copied m c 0 ∗ Copied m c 1 ∗ tPts m c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => oBuf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : PropF F)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
def stg (c : Dev nD) (b : Ref sig .tc) (X : b.ty.Contents (Elt F)) : PropF F :=
  iprop(∃ f : Buf (Elt F) (((c : Dev nD) : Thread nD τ).loc b), ⌜f = X⌝ ∗ (((c : Thread nD τ).loc b) ↦{fullShare} f))

def bodyPre (c : Dev nD) : PropF F :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : PropF F :=
  iprop(Φ₁ m c ∗ (dats m ρ 0 c).owesAt () t0_0.succ ∗ stg c cc0_stg0_0 (xstg m c) ∗ stg c cc0_stg1_0 (oBuf m c))

theorem before_x (c : Dev nD) (d) : (dats m ρ 0 c).before (0 : Fin 2) t0_0 d = xstg m c := by
  unfold Dat.before; rw [if_pos (fetch0_0 t0_0)]; rfl

theorem pre_intro (c : Dev nD) : bodyPre m ρ c ⊢ iprop(∃ K, records m K ∗ Pre m c) := by
  unfold bodyPre Φ₀ Dat.owesAt Pipeline.owesWithin stg
  rw [show (dats m ρ 0 c).owed t0_0.castSucc = O₀ c from rfl]
  iintro ⟨⟨%K, #HR, Hs, Hb, H0, H1, Ht, Hsa, Hr⟩, ⟨%W, %hW, HO⟩, ⟨%d0, ⟨%f0, %hf0, Hx⟩⟩, ⟨%d1, ⟨%f1, %hf1, Hout⟩⟩⟩
  iexists K
  isplitr; · iexact HR
  unfold Pre Sig owesSome
  rw [prog_start]
  isplitl [Hs HO]
  · isplitl [HO]
    · iexists W; iexact HO
    · iexact Hs
  isplitl [Hb]; · iexact Hb
  isplitl [H0]; · iexact H0
  isplitl [H1]; · iexact H1
  isplitl [Ht]; · iexact Ht
  isplitl [Hx]
  · unfold xPts
    rw [← (hf0.trans (before_x m ρ c d0))]
    iexact Hx
  isplitl [Hsa]; · iexact Hsa
  isplitl [Hr]; · iexact Hr
  unfold outPts
  iexists f1
  isplitr
  · ipureintro; intro i hi; exact absurd hi (by omega)
  · iexact Hout

theorem post_elim (c : Dev nD) : Post m c ⊢ bodyPost m ρ c := by
  unfold bodyPost Post Φ₁ Dat.owesAt Pipeline.owesWithin owesSome stg xPts
  rw [show (dats m ρ 0 c).owed t0_0.succ = 0 from rfl]
  iintro ⟨⟨%W, HO⟩, Ha, Hout, Hs, H0, H1, Ht, Hx, Hb⟩
  isplitl [Ha Hs H0 H1 Ht Hb]
  · isplitl [Ha]; · iexact Ha
    isplitl [Hs]; · iexact Hs
    isplitl [H0]; · iexact H0
    isplitl [H1]; · iexact H1
    isplitl [Ht]; · iexact Ht
    iexact Hb
  isplitl [HO]
  · iexists W; isplitr
    · ipureintro; exact fun _ _ => Or.inl trivial
    · iexact HO
  isplitl [Hx]
  · iexists xstg m c; isplitr
    · ipureintro; rfl
    · iexact Hx
  iexists oBuf m c; isplitr
  · ipureintro; rfl
  · iexact Hout

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ run c (cc0_body (F := F) xM (hstage0_0 0) wM (Memref.isWhole_whole _) oM (hstage0_1 0) bM (Memref.isWhole_whole _) tM (Memref.isWhole_whole _)
    sM (Memref.isWhole_whole _) rM (Memref.isWhole_whole _) cc0_scratch4 cc0_scratch5 cc0_scratch6) (fun _ => bodyPost m ρ c)
  refine (pre_intro m ρ c).trans ?_
  iintro ⟨%K, H⟩
  ihave H := (body_run (c := c) m K) $$ H
  iapply (wp_mono frame (wpE (defs₀ (F := F)) 𝒱₀ (c : Thread nD τ) none) Set.univ fun _ => post_elim m ρ c)
  iexact H

/-! ## The launch's side conditions -/

theorem ownSemFacts : Pipeline.OwnSemFacts cfg0.spec osem := by decide +kernel
theorem share_eq (c : Dev nD) (w : Fin cfg0.W) : (dats m ρ 0 c).share w = fullShare := by unfold Dat.share; split <;> rfl

/-- What a device takes into its region. -/
def start (c : Dev nD) : PropF F :=
  iprop((((c : Thread nD τ).loc main_arg1) ↦{fullShare} ws m c) ∗ creds c ∗ levAts L lv ∗ G' m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds_intro (F := F) c) $$ Hcr
  imodintro
  unfold start
  isplitl
  · isplitl [Hw]; · iexact Hw
    isplitl [Hc]; · iexact Hc
    isplitl [Hlev]; · iexact Hlev
    iexact HG
  · iempintro

/-- The barrier tokens and the receive buffer's slots, dealt to the signals; the own slot left over. -/
theorem signals_intro (c : Dev nD) : (iprop((bigSep Finset.univ fun i : Fin 32 => dutyTok ER (barCell i) 0 c) ∗ bigSep Finset.univ fun n : Fin 32 => iprop(∃ f, rPts c n f)) : PropF F)
    ⊢ iprop((bigSep Finset.univ (sig0 c)) ∗ ∃ f, rPts c c f) := by
  rw [big_split c (fun i : Fin 32 => (dutyTok ER (barCell i) 0 c : PropF F)), big_split c (fun n : Fin 32 => (iprop(∃ f, rPts c n f) : PropF F)), big_split c (sig0 c)]
  have h : (iprop((bigSep (Finset.univ.erase c) fun i : Fin 32 => dutyTok ER (barCell i) 0 c) ∗ bigSep (Finset.univ.erase c) fun n : Fin 32 => iprop(∃ f, rPts c n f)) : PropF F)
      ⊢ bigSep (Finset.univ.erase c) (sig0 c) := by
    rw [← bigSep_sep']
    exact bigSep_mono fun i hi => by unfold sig0; rw [if_neg (Finset.ne_of_mem_erase hi)]; exact Idealize.SL.BI.Entails.refl _
  iintro ⟨⟨-, Ht⟩, Hc, Hr⟩
  isplitr [Hc]
  · isplitr
    · unfold sig0; rw [if_pos rfl]; iempintro
    · iapply h; isplitl [Ht] <;> iassumption
  · iexact Hc

/-- The send buffer's slots and the pieces' tokens. -/
theorem pieces_intro (c : Dev nD) : (iprop((bigSep Finset.univ fun n : Fin 32 => iprop(∃ f, sPts c n f)) ∗ (bigSep Finset.univ fun n : Fin 32 => dutyTok ER (sendCell c n) 0 0)
      ∗ bigSep Finset.univ fun n : Fin 32 => dutyTok ER (recvCell (dest c n) c) 0 0) : PropF F) ⊢ bigSep Finset.univ (sndTok c) := by
  rw [← bigSep_sep', ← bigSep_sep']
  refine bigSep_mono fun n _ => ?_
  show iprop((∃ f, sPts c n f) ∗ dutyTok ER (sendCell c n) 0 0 ∗ dutyTok ER (recvCell (dest c n) c) 0 0) ⊢ sndTok (F := F) c n
  unfold sndTok
  iintro ⟨Hs, H1, H2⟩
  isplitl [Hs]; · iexact Hs
  by_cases h : dest c n = c
  · rw [if_pos h]; iempintro
  · rw [if_neg h]; isplitl [H1] <;> iassumption

/-- A half of the weight buffer before its first copy. -/
theorem idle_intro (K : Dev nD × Fin 67 → ℕ) (c : Dev nD) (b : Fin 2) :
    (iprop(records m K ∗ (∃ f, bPts c b f) ∗ wPts m c b Finset.univ ∗ atPos ER (copyCell c b) 0 ∅ 0 ∗ bigSep Finset.univ fun j : Fin 32 => dutyTok ER (copyCell c b) j.val 0) : PropF F)
      ⊢ Idle m c b 0 := by
  have hT : (bigSep Finset.univ fun j : Fin 32 => (dutyTok ER (copyCell c b) j.val 0 : PropF F)) ⊢ bigSep (Finset.univ.filter fun i : Fin 4 => 0 ≤ i.val) fun i => dutyTok ER (copyCell c b) i.val 0 := by
    refine BIBase.Entails.trans (BI.bigSep_subset (Finset.subset_univ ((Finset.univ.filter fun i : Fin 4 => 0 ≤ i.val).map (Fin.castLEEmb (by decide : 4 ≤ 32))))) ?_
    rw [bigSep_map]; exact Idealize.SL.BI.Entails.refl _
  unfold Idle
  iintro ⟨#HR, Hb, Hw, Ha, Ht⟩
  isplitl [Hb]; · iexact Hb
  isplitl [Hw]; · iexact Hw
  isplitl [Ha]; · iexact Ha
  isplitr
  · iapply (reached_copy m K c b); iexact HR
  · iapply hT; iexact Ht

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold start Φ₀ creds G' linear payToks
  iintro ⟨⟨Hw, ⟨Hcb, Hcr⟩, #HL, ⟨%K, #HM, ⟨⟨Hab, Hac, Has, Har⟩, ⟨Htb, Htc, Hts, Htr⟩⟩⟩⟩, -, ⟨⟨%f0, Hf0⟩, ⟨%f1, Hf1⟩, ⟨%f2, Hf2⟩, ⟨%f3, Hf3⟩⟩⟩
  ihave #HR : records m K $$ [HM HL]
  · unfold records marks
    icases HM with ⟨HM1, HM2⟩
    isplitr; · iexact HM1
    isplitr; · iexact HM2
    iexact HL
  ihave Hw := (w_shares m c).1 $$ Hw
  icases Hw with ⟨Hw0, Hw1⟩
  ihave Hb := (half_split c f0) $$ Hf0
  icases Hb with ⟨Hb0, Hb1⟩
  ihave Hs := (send_split c f2) $$ Hf2
  ihave Hr := (recv_split c f3) $$ Hf3
  ihave Hsig := (signals_intro c) $$ [Htb Hr]
  · isplitl [Htb] <;> iassumption
  icases Hsig with ⟨Hsig, Hown⟩
  ihave Hp := (pieces_intro c) $$ [Hs Hts Htr]
  · isplitl [Hs]; · iexact Hs
    isplitl [Hts] <;> iassumption
  ihave Hac := (Entails.of_eq (big_two fun b => (atPos ER (copyCell c b) 0 ∅ 0 : PropF F))) $$ Hac
  icases Hac with ⟨Hac0, Hac1⟩
  ihave Htc := (Entails.of_eq (big_two fun b => (bigSep Finset.univ fun j : Fin 32 => dutyTok ER (copyCell c b) j.val 0 : PropF F))) $$ Htc
  icases Htc with ⟨Htc0, Htc1⟩
  iexists K
  isplitr; · iexact HR
  isplitl [Hsig]; · iexact Hsig
  isplitl [Hab Hcb Hown Hp]
  · unfold Bar
    isplitl [Hab]; · iexact Hab
    isplitl [Hcb]; · iexact Hcb
    isplitl [Hown] <;> iassumption
  isplitl [Hb0 Hw0 Hac0 Htc0]
  · iapply (idle_intro m K c 0)
    isplitr; · iexact HR
    isplitl [Hb0]; · iexact Hb0
    isplitl [Hw0]; · iexact Hw0
    isplitl [Hac0] <;> iassumption
  isplitl [Hb1 Hw1 Hac1 Htc1]
  · iapply (idle_intro m K c 1)
    isplitr; · iexact HR
    isplitl [Hb1]; · iexact Hb1
    isplitl [Hw1]; · iexact Hw1
    isplitl [Hac1] <;> iassumption
  isplitl [Hf1]
  · unfold tAny; iexists f1; iexact Hf1
  isplitl [Has]
  · unfold SndAt; iexact Has
  unfold Rcv
  rw [bigSep_sep']
  isplitl [Har] <;> iassumption

/-- What is kept after the region to be read off the final memory. -/
def kept (c : Dev nD) : PropF F := iprop(unscopedSems0 c ∗ (((c : Thread nD τ).loc main_arg1) ↦{fullShare} ws m c))

/-- An own cell's number from its kind. -/
def ownNo : Fin 2 ⊕ Fin 32 ⊕ Fin 32 → Fin 66
  | .inl b => ⟨b.val, by omega⟩ | .inr (.inl n) => ⟨2 + n.val, by omega⟩ | .inr (.inr n) => ⟨34 + n.val, by omega⟩
theorem ownNo_bij : Function.Bijective ownNo := by
  refine ⟨?_, ?_⟩ <;> decide +kernel
theorem own_copy (c : Dev nD) (b : Fin 2) : (((c : Thread nD τ), osem (ownNo (.inl b))) : GSem nD τ sig) = copyCell c b :=
  (congrArg (fun k => kcell (c, k)) (Fin.ext (by show b.val + 1 = 1 + b.val; omega))).trans (cell_copy c b)
theorem own_send (c : Dev nD) (n : Fin 32) : (((c : Thread nD τ), osem (ownNo (.inr (.inl n)))) : GSem nD τ sig) = sendCell c n :=
  (congrArg (fun k => kcell (c, k)) (Fin.ext (by show 2 + n.val + 1 = 3 + n.val; omega))).trans (cell_send c n)
theorem own_recv (c : Dev nD) (n : Fin 32) : (((c : Thread nD τ), osem (ownNo (.inr (.inr n)))) : GSem nD τ sig) = recvCell c n :=
  (congrArg (fun k => kcell (c, k)) (Fin.ext (by show 34 + n.val + 1 = 35 + n.val; omega))).trans (cell_recv c n)

theorem own_eq (c : Dev nD) : (Pipeline.ownSems0 (Ix := Unit) (Name := ℕ) (U := UU) (Lvl := ℕ) (Val := Elt F) (τ := τ) osem c : PropF F)
    = iprop((bigSep Finset.univ fun b => semVal (copyCell c b) 0) ∗ (bigSep Finset.univ fun n => semVal (sendCell c n) 0) ∗ bigSep Finset.univ fun n => semVal (recvCell c n) 0) := by
  unfold Pipeline.ownSems0
  rw [bigSep_univ_equiv (Equiv.ofBijective ownNo ownNo_bij), bigSep_univ_sum, bigSep_univ_sum]
  simp only [Equiv.ofBijective_apply, own_copy, own_send, own_recv]
  rfl

theorem phi1_exit (c : Dev nD) :
    (dats m ρ 0 c).Φ (Fin.last cfg0.N) ⊢ iprop(kept m c ∗ Pipeline.ownSems0 osem c ∗ Pipeline.scopedRest cfg0.spec c) := by
  rw [show (dats m ρ 0 c).Φ (Fin.last cfg0.N) = Φ₁ m c from rfl, scopedRest0_eq, own_eq, big_two]
  unfold Φ₁ kept arr1 Sent Copied tPts
  rw [unscoped_eq, bigSep_sep']
  iintro ⟨⟨Hr, Hzr⟩, ⟨Hs, Hzs⟩, ⟨⟨%g0, Hb0⟩, Hw0, Hz0⟩, ⟨⟨%g1, Hb1⟩, Hw1, Hz1⟩, Ht, Hzb⟩
  ihave Hw := (w_shares m c).2 $$ [Hw0 Hw1]
  · isplitl [Hw0] <;> iassumption
  ihave Hr := (recv_join c (rBuf m c)) $$ Hr
  ihave Hs := (send_join c (sBuf m c)) $$ Hs
  ihave Hb := (half_join c g0) $$ [Hb0 Hb1]
  · isplitl [Hb0]
    · iexists g0; iexact Hb0
    · iexists g1; iexact Hb1
  isplitl [Hzb Hw]
  · isplitl [Hzb] <;> iassumption
  isplitl [Hz0 Hz1 Hzs Hzr]
  · isplitl [Hz0 Hz1]
    · isplitl [Hz0] <;> iassumption
    isplitl [Hzs] <;> iassumption
  isplitl [Hb]; · iexact Hb
  isplitl [Ht]; · iexists (xbv m c); iexact Ht
  isplitl [Hs] <;> iassumption

theorem stage_level : ∀ (c : Dev nD) (w : Fin 2) (s : Fin ((spec0 w).nbuf)), lv ((c : Thread nD τ), .dma ((spec0 w).sem s)) () = 0 := by
  intro c w s
  fin_cases w <;> rfl

theorem waits (c : Dev nD) : (levAts L lv : PropF F) ⊢ Pipeline.cellsWaits cfgs (dats m ρ) () 0 c :=
  Pipeline.cellsWaits_intro cfgs (dats m ρ) () 0 c fun w s t =>
    mayWait_low c _ (stage_level c w s) _ (by
      intro x u h
      rcases t with ⟨_ | _, ht⟩
      · exact O₀_pos h
      · exact absurd h (Nat.lt_irrefl 0))

/-! ## The run -/

theorem final_x (c : Dev nD) : (dats m ρ 0 c).arrAt (0 : Fin 2) cfg0.N = m ((c : Thread nD τ).loc main_arg0) :=
  (dats (F := F) m ρ 0 c).arrAt_in (0 : Fin 2) rfl _
theorem final_o (c : Dev nD) : (dats m ρ 0 c).arrAt (1 : Fin 2) cfg0.N = oBuf m c :=
  (dats (F := F) m ρ 0 c).arrAt_eq_of_after_last (1 : Fin 2) t0_0 (by decide +kernel) (oBuf m c) (fun j => rfl)

set_option maxRecDepth 8000 in
/-- From any memory with zero counters every execution of the kernel on the 32 devices ends; at the end each device's
    result array holds `oBuf`, its arguments are unchanged and every semaphore is at zero. -/
theorem run_main : θ_run defs (onTc (τ := τ) (main (F := F))) (s₀ m ρ) (fun r =>
    (∀ c : Dev nD, r.2.mem ((c : Thread nD τ).loc main_v1) = oBuf m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m ρ) (hout := phi1_exit m ρ)
    (QY := fun c s => s.mem ((c : Thread nD τ).loc main_arg1) = m ((c : Thread nD τ).loc main_arg1) ∧ ∀ sm : SemLoc sig, sm.isScoped .tc = false → s.sem ((c.tc : Thread nD τ), sm) = 0)
    (hY := fun c s' => by
      unfold kept
      iintro ⟨⟨Hu, Hw⟩, -, HSI⟩
      ihave %hw := (SI_pointsTo_agree (st := s') (ℓ := (c : Thread nD τ).loc main_arg1) (I := Finset.univ) (q := fullShare) (f := ws m c)) $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro
        exact ⟨funext fun i => hw i (Finset.mem_univ _), hs⟩
      · iexact HSI)
    (hQ := fun _ h hs => ⟨fun c => ⟨((h c).1 1).trans (final_o m ρ c), ((h c).1 0).trans (final_x m ρ c), (h c).2.2.1⟩, sem_eq_zero hs fun c => (h c).2.2.2⟩)

end Cert.KernelIdeal.Pf

end
-- ==== Proof.KernelIdeal.Value.lean ====
/-
  The value over the reals: what device `c` ends with is column block `c` of the activated product of the whole arrays.
-/
module

public import proofs.«01_k».proof.Proof.KernelIdeal.Core
public import proofs.«01_k».proof.Proof.Gen.ReferenceIdeal
public import Idealize.ShloMosaic.Lib.ValueIdx
public import Idealize.ShloMosaic.Lib.ValueLayout
public import Idealize.ShloMosaic.Lib.MatmulPlain
public import Idealize.ShloMosaic.Lib.KernelVsHost
public import Idealize.ShloMosaic.Lib.StackMember
public import Idealize.ShloMosaic.Lib.Layout

@[expose] public section

noncomputable section

namespace Cert.KernelIdeal.Pf

open Cert.KernelIdeal Cert.KernelIdeal.Gen
open Idealize.ShloMosaic Idealize.ShloMosaic.TcCoe Idealize.ShloMosaic.ValueIdx

/-- The activation of one entry of the product, in the order the reference multiplies. -/
def act (y : EReal) : EReal :=
  (Ideal.ofBits .f32 0x3F000000#32 * y) * (Ideal.ofBits .f32 0x3F800000#32
    + Ideal.tanh (Ideal.ofBits .f32 0x3F4C422A#32 * (y + Ideal.ofBits .f32 0x3D372713#32 * ((y * y) * y))))

/-- The kernel's order of the products gives the same activation. -/
theorem act_eq (y : EReal) :
    y * (Ideal.ofBits .f32 0x3F000000#32 * (Ideal.ofBits .f32 0x3F800000#32
      + Ideal.tanh (Ideal.ofBits .f32 0x3F4C422A#32 * (y + Ideal.ofBits .f32 0x3D372713#32 * (y * (y * y)))))) = act y := by
  unfold act
  rw [← mul_assoc y y y, ← mul_assoc y (Ideal.ofBits .f32 0x3F000000#32), mul_comm y (Ideal.ofBits .f32 0x3F000000#32)]

variable (m : (ℓ : Loc nD τ sig) → Buf (Elt Ideal) ℓ)

/-! ## One device's product -/

theorem dot_plain : dot_S256x8192_S8192x512_S256x512_1_0_0_1_n_n = DotDims.plain 256 8192 512 := rfl

/-- The product a step computes, before the activation. -/
def prodv (X : FVec Ideal S256x8192 .bf16) (W : Vec Ideal S1x8192x512 .f32) : FVec Ideal S256x512 .f32 :=
  matmul (F := Ideal) dot_S256x8192_S8192x512_S256x512_1_0_0_1_n_n none X
    (truncf .bf16 (shapeCast S8192x512 W shapeCasts_S1x8192x512_S8192x512 : FVec Ideal S8192x512 .f32) bitsLt_bf16_f32) (constant S256x512 .f32 0x00000000#32)

/-- An entry of the product is the sum over the shared axis. -/
theorem prodv_apply (X : FVec Ideal S256x8192 .bf16) (W : Vec Ideal S1x8192x512 .f32) (r : Fin 256) (j : Fin 512) :
    prodv X W (ix2 r j) = ∑ k : Fin 8192, (X (ix2 r k) : EReal) * W (ix3 (0 : Fin 1) k j) := by
  unfold prodv
  rw [dot_plain]
  refine (Ideal.matmul_plain_apply none X _ _ r j).trans ?_
  rw [constant_apply, Ideal.ofBits_zero_f32, zero_add]
  refine Finset.sum_congr rfl fun k _ => ?_
  rw [truncf_apply]
  exact congrArg (X (ix2 r k) * ·) (shapeCast_1ab_ab_apply W shapeCasts_S1x8192x512_S8192x512 k j)

/-- An entry of the activated product. -/
theorem pay15_apply (X : FVec Ideal S256x8192 .bf16) (W : Vec Ideal S1x8192x512 .f32) (i : S256x512.Idx) :
    k0_pay15 X W i = act (prodv X W i) := by
  have h : k0_pay15 X W = mulf (prodv X W) (mulf (broadcast S256x512 (Scalar.ofBits .f32 0x3F000000#32))
      (addf (broadcast S256x512 (Scalar.ofBits .f32 0x3F800000#32)) (tanh (mulf (broadcast S256x512 (Scalar.ofBits .f32 0x3F4C422A#32))
        (addf (prodv X W) (mulf (broadcast S256x512 (Scalar.ofBits .f32 0x3D372713#32)) (mulf (prodv X W) (mulf (prodv X W) (prodv X W))))))))) := by
    unfold k0_pay15 prodv
    rfl
  rw [h]
  generalize prodv X W = Y
  exact act_eq (Y i)

/-- Device `c`'s rows of `x`, as numbers. -/
def xr (c : Dev nD) : S256x8192.Idx → EReal := m ((c : Thread nD τ).loc main_arg0)
/-- Device `c`'s copy of `w`, as numbers. -/
def wr (c : Dev nD) : S8192x4096.Idx → EReal := m ((c : Thread nD τ).loc main_arg1)

theorem xstg_eq (c : Dev nD) : xstg m c = xr m c := by
  funext i
  show xr m c ((win0_0.blk (0 : Fin 1)).view.emb i) = xr m c i
  refine congrArg (xr m c) (funext fun a => Fin.ext ?_)
  fin_cases a
  · show 0 * 256 + 1 * (i 0).val = (i 0).val; omega
  · show 0 * 8192 + 1 * (i 1).val = (i 1).val; omega

theorem xbv_eq (c : Dev nD) : xbv m c = xr m c := by
  unfold xbv k0_pay3
  funext i
  rw [shapeCast_self, shapeCast_self]
  refine (truncf_apply (φ := .f32) _ bitsLt_bf16_f32 i).trans ?_
  exact congrFun (xstg_eq m c) i

/-- An entry of what a step computes. -/
theorem gel_apply (c : Dev nD) (g : Fin 8) (r : Fin 256) (j : Fin 512) :
    gel m c g (ix2 r j) = act (∑ k : Fin 8192, xr m c (ix2 r k) * wr m c (ix2 k ⟨g.val * 512 + j.val, col_lt g j⟩)) := by
  unfold gel
  rw [pay15_apply, prodv_apply, xbv_eq]
  rfl

/-- An entry of the send buffer. -/
theorem sBuf_apply (c : Dev nD) (n : Fin 32) (r : Fin 256) (j : Fin 128) :
    sBuf m c (ix3 n r j) = gel m c (grp c (n.val / 4)) (ix2 r ⟨128 * (n.val % 4) + j.val, by omega⟩) := by
  unfold sBuf piece
  refine (shapeCast_ab_1ab_apply (a := 256) (b := 128) _ _ (0 : Fin 1) r j).trans ?_
  rw [truncf_apply]
  exact slice2_axis1_apply (128 * (n.val % 4)) _ _ r j _ rfl

/-- The columns of the piece that device `s` sends to device `c` are those of block `c`. -/
theorem piece_col : ∀ s c : Dev nD, (grp s ((pieceOf s c).val / 4)).val * 512 + 128 * ((pieceOf s c).val % 4) = c.val * 128 := by
  decide +kernel

theorem blk_lt (c : Dev nD) (j : Fin 128) : c.val * 128 + j.val < 4096 := by have : c.val < 32 := c.isLt; omega

/-- An entry of device `c`'s result. -/
theorem oBuf_apply (c s : Dev nD) (r : Fin 256) (j : Fin 128) (i : S8192x128.Idx) (h0 : (i 0).val = s.val * 256 + r.val) (h1 : (i 1).val = j.val) :
    oBuf m c i = act (∑ k : Fin 8192, xr m s (ix2 r k) * wr m s (ix2 k ⟨c.val * 128 + j.val, blk_lt c j⟩)) := by
  have e : (ix3 (n0 := 32) (n1 := 256) (n2 := 128) ⟨(i 0).val / 256, row_div i⟩ ⟨(i 0).val % 256, Nat.mod_lt _ (by decide)⟩ (i 1)) = ix3 s r j := by
    have hr := r.isLt
    have e0 : (⟨(i 0).val / 256, row_div i⟩ : Fin 32) = s := Fin.ext (by show (i 0).val / 256 = s.val; omega)
    have e1 : (⟨(i 0).val % 256, Nat.mod_lt _ (by decide)⟩ : Fin 256) = r := Fin.ext (by show (i 0).val % 256 = r.val; omega)
    have e2 : (i 1 : Fin 128) = j := Fin.ext h1
    rw [e0, e1, e2]
  unfold oBuf
  rw [e]
  show sBuf m s (ix3 (pieceOf s c) r j) = _
  rw [sBuf_apply, gel_apply]
  refine congrArg act (Finset.sum_congr rfl fun k _ => ?_)
  have hc := piece_col s c
  exact congrArg (fun q => xr m s (ix2 r k) * wr m s (ix2 k q)) (Fin.ext (by show _ * 512 + (128 * _ + j.val) = c.val * 128 + j.val; omega))

end Cert.KernelIdeal.Pf

end
-- ==== Proof.Equal.lean ====
/-
  The two programs' values agree over the reals: the reference's result array read entry by entry, and device `c`'s
  result as its column block `c`.
-/
module

public import proofs.«01_k».proof.Proof.KernelIdeal.Value
public import Idealize.ShloMosaic.Lib.IdealHost

@[expose] public section

noncomputable section

namespace Cert.Pf

open Cert.ReferenceIdeal Cert.ReferenceIdeal.Gen
open Idealize.ShloMosaic Idealize.ShloMosaic.TcCoe Idealize.ShloMosaic.ValueIdx

theorem ref_dot_plain : dot_S8192x8192_S8192x4096_S8192x4096_1_0_0_1_n_n = DotDims.plain 8192 8192 4096 := rfl

/-- The reference's product. -/
def refProd (x : FVec Ideal S8192x8192 .f32) (w : FVec Ideal S8192x4096 .f32) : FVec Ideal S8192x4096 .f32 :=
  Host.dotGeneral dot_S8192x8192_S8192x4096_S8192x4096_1_0_0_1_n_n none x w

/-- The reference's activation of a matrix. -/
def refAct (Y : FVec Ideal S8192x4096 .f32) : FVec Ideal S8192x4096 .f32 :=
  mulf (mulf (broadcastInDim S8192x4096 ![] bcast_S_S8192x4096 (constant S_ .f32 0x3F000000#32)) Y)
    (addf (broadcastInDim S8192x4096 ![] bcast_S_S8192x4096 (constant S_ .f32 0x3F800000#32))
      (Host.tanh (mulf (broadcastInDim S8192x4096 ![] bcast_S_S8192x4096 (constant S_ .f32 0x3F4C422A#32))
        (addf Y (mulf (broadcastInDim S8192x4096 ![] bcast_S_S8192x4096 (constant S_ .f32 0x3D372713#32)) (mulf (mulf Y Y) Y))))))

/-- An entry of the reference's product is the sum over the shared axis. -/
theorem refProd_apply (x : FVec Ideal S8192x8192 .f32) (w : FVec Ideal S8192x4096 .f32) (r : Fin 8192) (j : Fin 4096) :
    refProd x w (ix2 r j) = ∑ k : Fin 8192, (x (ix2 r k) : EReal) * w (ix2 k j) := by
  unfold refProd
  rw [ref_dot_plain]
  exact StackMember.dotGeneral_plain_apply none x w r j

/-- An entry of the reference's activated matrix is the activation of the entry. -/
theorem refAct_apply (Y : FVec Ideal S8192x4096 .f32) (i : S8192x4096.Idx) : refAct Y i = Cert.KernelIdeal.Pf.act (Y i) := rfl

open Cert.KernelIdeal.Pf in
/-- If the devices hold the row blocks of `x` and each a copy of `w`, device `c`'s result is column block `c` of the
    reference's result. -/
theorem oBuf_block (m : (ℓ : Loc Cert.KernelIdeal.nD Cert.KernelIdeal.τ Cert.KernelIdeal.sig) → Buf (Elt Ideal) ℓ)
    (x : FVec Ideal S8192x8192 .f32) (w : FVec Ideal S8192x4096 .f32)
    (hx : ∀ c : Dev Cert.KernelIdeal.nD, xr m c = Layout.block ⟨2, ![256, 8192]⟩ ⟨2, ![8192, 8192]⟩ 0 32 c x)
    (hw : ∀ c : Dev Cert.KernelIdeal.nD, wr m c = w) (c : Dev Cert.KernelIdeal.nD) :
    oBuf m c = Layout.block ⟨2, ![8192, 128]⟩ ⟨2, ![8192, 4096]⟩ 1 32 c (refAct (refProd x w)) := by
  funext i
  have hi : (i 0).val < 8192 := (i 0).isLt
  rw [oBuf_apply m c ⟨(i 0).val / 256, by show _ < 32; omega⟩ ⟨(i 0).val % 256, Nat.mod_lt _ (by decide)⟩ (i 1) i
    (by show (i 0).val = (i 0).val / 256 * 256 + (i 0).val % 256; omega) rfl]
  rw [Layout.block_apply, refAct_apply]
  generalize hp : Layout.Tiles.idx _ c i = p
  have p0 : (p 0).val = (i 0).val := by rw [← hp]; rfl
  have p1 : (p 1).val = c.val * 128 + (i 1).val := by rw [← hp]; rfl
  clear hp
  obtain ⟨a, b, rfl⟩ : ∃ (a : Fin 8192) (b : Fin 4096), p = ix2 a b := ⟨p 0, p 1, eq_ix2 p⟩
  refine congrArg act (Eq.trans (Finset.sum_congr rfl fun k _ => ?_) (refProd_apply x w a b).symm)
  rw [hx, hw, Layout.block_apply]
  congr 1
  · refine congrArg x ((eq_ix2 _).trans (congrArg (fun q : Fin 8192 => ix2 q k) (Fin.ext ?_)))
    change a.val = (i 0).val at p0
    show (i 0).val / 256 * 256 + (i 0).val % 256 = a.val; omega
  · exact congrArg (fun q => w (ix2 k q)) (Fin.ext p1.symm)

end Cert.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel over the machine's floats runs, keeps its arguments and leaves every semaphore at zero. -/
theorem frame_kernel : Cert.quiescent_Kernel (hKernel := Cert.Kernel.Gen.facts) := fun m g _ =>
  (θ_run _ _ _).mono (fun _ h => ⟨fun c => (h.1 c).2, h.2⟩) (Cert.Kernel.Pf.run_main m g)

/-- The kernel over the reals runs, keeps its arguments and leaves every semaphore at zero. -/
theorem frame_ideal : Cert.quiescent_KernelIdeal (hKernelIdeal := Cert.KernelIdeal.Gen.facts) := fun m g _ =>
  (θ_run _ _ _).mono (fun _ h => ⟨fun c => (h.1 c).2, h.2⟩) (Cert.KernelIdeal.Pf.run_main m g)

/-- The reference has no semaphores. -/
theorem no_sem (s : SemLoc Cert.ReferenceIdeal.sig) : False := by
  cases s with
  | reg i => exact i.elim0
  | dma i => exact i.elim0

/-- The reference runs, keeps its arguments and leaves every semaphore, of which there are none, at zero. -/
theorem frame_ref : Cert.quiescent_ReferenceIdeal (hReferenceIdeal := Cert.ReferenceIdeal.Gen.facts) := fun m g _ =>
  (θ_run _ _ _).mono (fun _ h => ⟨fun c => (h c).2, funext fun s => (no_sem s.2).elim⟩) (Cert.ReferenceIdeal.Value.run m g)

/-- Device `c`'s result is column block `c` of the reference's. -/
theorem value : Cert.algebraic_KernelIdeal_ReferenceIdeal (hKernelIdeal := Cert.KernelIdeal.Gen.facts)
    (hReferenceIdeal := Cert.ReferenceIdeal.Gen.facts) := fun m g m' g' _ hin =>
  ⟨Cert.Pf.refAct (Cert.Pf.refProd (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))),
    (θ_run _ _ _).mono (fun _ h c => ⟨(h.1 c).1.trans (Cert.Pf.oBuf_block m _ _ (fun d => (hin d).1) (fun d => (hin d).2) c), (h.1 c).2⟩)
      (Cert.KernelIdeal.Pf.run_main m g),
    (θ_run _ _ _).mono (fun _ h => h 0) (Cert.ReferenceIdeal.Value.run m' g')⟩

/-- Everything the certificate claims. -/
theorem claim : Cert.Claim := ⟨Cert.Kernel.Gen.facts, Cert.KernelIdeal.Gen.facts, Cert.ReferenceIdeal.Gen.facts,
  frame_kernel, frame_ideal, frame_ref, trivial, value⟩

end Cert.Proof

end
